-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_v52) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v13) = v0 c
          ∧ r.2.mem ((c.tc : Thread Cert.Reference18Ideal.nD Cert.Reference18Ideal.τ).loc Cert.Reference18Ideal.main_v9) = v1 c
          ∧ r.2.mem ((c.tc : Thread Cert.Reference18Ideal.nD Cert.Reference18Ideal.τ).loc Cert.Reference18Ideal.main_v14) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4096x2048 : Shape := ⟨2, ![4096, 2048]⟩
abbrev S16x64x64x64 : Shape := ⟨4, ![16, 64, 64, 64]⟩
abbrev S64x16 : Shape := ⟨2, ![64, 16]⟩
abbrev S16x64x128x128 : Shape := ⟨4, ![16, 64, 128, 128]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S16x64x64x64 : S_.BroadcastsInDim S16x64x64x64 (![] : Fin 0 → Fin S16x64x64x64.rank)
  bcast_S_S64x16 : S_.BroadcastsInDim S64x16 (![] : Fin 0 → Fin S64x16.rank)
  bcast_S_S16x64x128x128 : S_.BroadcastsInDim S16x64x128x128 (![] : Fin 0 → Fin S16x64x128x128.rank)

variable [Facts]

def fn_part1 {F : FTy → Type} [FloatOps F] (main_arg7 : FVec F S4096x2048 .f32) (main_v3 : IVec S4096x2048 1) (main_v7 : IVec S4096x2048 1) (main_v11 : IVec S4096x2048 1) (main_v14 : IVec S16x64x64x64 1) (main_v17 : IVec S64x16 1) (main_v18 : FVec F S16x64x128x128 .f32) : IVec S4096x2048 1 × IVec S4096x2048 1 × IVec S4096x2048 1 × IVec S16x64x64x64 1 × IVec S64x16 1 × IVec S16x64x128x128 1 × IVec S4096x2048 1 :=
  let main_v19 : FVec F S16x64x128x128 .f32 := Host.absf main_v18
  let main_cst_4 : FVec F S_ .f32 := constant S_ .f32 0x7F800000#32
  let main_v20 : FVec F S16x64x128x128 .f32 := broadcastInDim S16x64x128x128 ![] bcast_S_S16x64x128x128 main_cst_4
  let main_v21 : IVec S16x64x128x128 1 := cmpf .olt main_v19 main_v20
  let main_v22 : FVec F S4096x2048 .f32 := Host.absf main_arg7
  let main_cst_5 : FVec F S_ .f32 := constant S_ .f32 0x7F800000#32
  let main_v23 : FVec F S4096x2048 .f32 := broadcastInDim S4096x2048 ![] bcast_S_S4096x2048 main_cst_5
  let main_v24 : IVec S4096x2048 1 := cmpf .olt main_v22 main_v23
  (main_v3, main_v7, main_v11, main_v14, main_v17, main_v21, main_v24)

def fn {F : FTy → Type} [FloatOps F] (main_arg0 : FVec F S4096x2048 .f32) (main_arg1 : FVec F S4096x2048 .bf16) (main_arg2 : FVec F S4096x2048 .bf16) (main_arg3 : FVec F S4096x2048 .bf16) (main_arg4 : FVec F S16x64x64x64 .f32) (main_arg5 : FVec F S64x16 .f32) (main_arg6 : FVec F S16x64x128x128 .bf16) (main_arg7 : FVec F S4096x2048 .f32) : IVec S4096x2048 1 × IVec S4096x2048 1 × IVec S4096x2048 1 × IVec S16x64x64x64 1 × IVec S64x16 1 × IVec S16x64x128x128 1 × IVec S4096x2048 1 :=
  let main_v0 : FVec F S4096x2048 .f32 := (extf .f32 · bitsLt_bf16_f32) main_arg1
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x2048 .f32 := (extf .f32 · bitsLt_bf16_f32) main_arg2
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S4096x2048 .f32 := (extf .f32 · bitsLt_bf16_f32) main_arg3
  let main_v9 : FVec F S4096x2048 .f32 := Host.absf main_v8
  let main_cst_1 : FVec F S_ .f32 := constant S_ .f32 0x7F800000#32
  let main_v10 : FVec F S4096x2048 .f32 := broadcastInDim S4096x2048 ![] bcast_S_S4096x2048 main_cst_1
  let main_v11 : IVec S4096x2048 1 := cmpf .olt main_v9 main_v10
  let main_v12 : FVec F S16x64x64x64 .f32 := Host.absf main_arg4
  let main_cst_2 : FVec F S_ .f32 := constant S_ .f32 0x7F800000#32
  let main_v13 : FVec F S16x64x64x64 .f32 := broadcastInDim S16x64x64x64 ![] bcast_S_S16x64x64x64 main_cst_2
  let main_v14 : IVec S16x64x64x64 1 := cmpf .olt main_v12 main_v13
  let main_v15 : FVec F S64x16 .f32 := Host.absf main_arg5
  let main_cst_3 : FVec F S_ .f32 := constant S_ .f32 0x7F800000#32
  let main_v16 : FVec F S64x16 .f32 := broadcastInDim S64x16 ![] bcast_S_S64x16 main_cst_3
  let main_v17 : IVec S64x16 1 := cmpf .olt main_v15 main_v16
  let main_v18 : FVec F S16x64x128x128 .f32 := (extf .f32 · bitsLt_bf16_f32) main_arg6
  fn_part1 (F := F) main_arg7 main_v3 main_v7 main_v11 main_v14 main_v17 main_v18
-- ==== Kernel.lean ====
abbrev S4096x2048 : Shape := ⟨2, ![4096, 2048]⟩
abbrev S16x64x64x64 : Shape := ⟨4, ![16, 64, 64, 64]⟩
abbrev S64x16 : Shape := ⟨2, ![64, 16]⟩
abbrev S16x64x128x128 : Shape := ⟨4, ![16, 64, 128, 128]⟩
abbrev S1x64x64x16x128 : Shape := ⟨5, ![1, 64, 64, 16, 128]⟩
abbrev S1x16x64x64x128 : Shape := ⟨5, ![1, 16, 64, 64, 128]⟩
abbrev S1x16x64x128x128 : Shape := ⟨5, ![1, 16, 64, 128, 128]⟩
abbrev S64x16x1x1 : Shape := ⟨4, ![64, 16, 1, 1]⟩
abbrev S64x16x1x128 : Shape := ⟨4, ![64, 16, 1, 128]⟩
abbrev S64x2048 : Shape := ⟨2, ![64, 2048]⟩
abbrev S16x1x64x64 : Shape := ⟨4, ![16, 1, 64, 64]⟩
abbrev S1x16x1x128 : Shape := ⟨4, ![1, 16, 1, 128]⟩
abbrev S16x1x128x128 : Shape := ⟨4, ![16, 1, 128, 128]⟩
abbrev S16x128x128 : Shape := ⟨3, ![16, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x128 : Shape := ⟨2, ![64, 128]⟩
abbrev S1x1x64x64 : Shape := ⟨4, ![1, 1, 64, 64]⟩
abbrev S64x64 : Shape := ⟨2, ![64, 64]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x128 : Shape := ⟨2, ![1, 128]⟩
abbrev S1x1x1x128 : Shape := ⟨4, ![1, 1, 1, 128]⟩

abbrev nBuf : Space → Nat
  | .hbm => 27
  | .vmem => 29
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S16x64x64x64, .f32⟩
  | .hbm, ⟨5, _⟩ => ⟨S64x16, .f32⟩
  | .hbm, ⟨6, _⟩ => ⟨S16x64x128x128, .bf16⟩
  | .hbm, ⟨7, _⟩ => ⟨S4096x2048, .f32⟩
  | .hbm, ⟨8, _⟩ => ⟨S1x64x64x16x128, .f32⟩
  | .hbm, ⟨9, _⟩ => ⟨S1x16x64x64x128, .f32⟩
  | .hbm, ⟨10, _⟩ => ⟨S4096x2048, .f32⟩
  | .hbm, ⟨11, _⟩ => ⟨S1x64x64x16x128, .f32⟩
  | .hbm, ⟨12, _⟩ => ⟨S1x16x64x64x128, .f32⟩
  | .hbm, ⟨13, _⟩ => ⟨S1x16x64x128x128, .bf16⟩
  | .hbm, ⟨14, _⟩ => ⟨S1x16x64x64x128, .f32⟩
  | .hbm, ⟨15, _⟩ => ⟨S1x16x64x64x128, .f32⟩
  | .hbm, ⟨16, _⟩ => ⟨S64x16x1x1, .f32⟩
  | .hbm, ⟨17, _⟩ => ⟨S64x16x1x128, .f32⟩
  | .hbm, ⟨18, _⟩ => ⟨S1x64x64x16x128, .f32⟩
  | .hbm, ⟨19, _⟩ => ⟨S4096x2048, .f32⟩
  | .hbm, ⟨20, _⟩ => ⟨S4096x2048, .bf16⟩
  | .hbm, ⟨21, _⟩ => ⟨S4096x2048, .bf16⟩
  | .hbm, ⟨22, _⟩ => ⟨S4096x2048, .bf16⟩
  | .hbm, ⟨23, _⟩ => ⟨S4096x2048, .f32⟩
  | .hbm, ⟨24, _⟩ => ⟨S4096x2048, .f32⟩
  | .hbm, ⟨25, _⟩ => ⟨S16x64x64x64, .f32⟩
  | .hbm, ⟨26, _⟩ => ⟨S64x16x1x128, .f32⟩
  | .local _ .vmem, ⟨0, _⟩ => ⟨S64x2048, .f32⟩
  | .local _ .vmem, ⟨1, _⟩ => ⟨S64x2048, .f32⟩
  | .local _ .vmem, ⟨2, _⟩ => ⟨S64x2048, .bf16⟩
  | .local _ .vmem, ⟨3, _⟩ => ⟨S64x2048, .bf16⟩
  | .local _ .vmem, ⟨4, _⟩ => ⟨S64x2048, .bf16⟩
  | .local _ .vmem, ⟨5, _⟩ => ⟨S64x2048, .bf16⟩
  | .local _ .vmem, ⟨6, _⟩ => ⟨S64x2048, .bf16⟩
  | .local _ .vmem, ⟨7, _⟩ => ⟨S64x2048, .bf16⟩
  | .local _ .vmem, ⟨8, _⟩ => ⟨S16x1x64x64, .f32⟩
  | .local _ .vmem, ⟨9, _⟩ => ⟨S16x1x64x64, .f32⟩
  | .local _ .vmem, ⟨10, _⟩ => ⟨S1x16x1x128, .f32⟩
  | .local _ .vmem, ⟨11, _⟩ => ⟨S1x16x1x128, .f32⟩
  | .local _ .vmem, ⟨12, _⟩ => ⟨S64x2048, .bf16⟩
  | .local _ .vmem, ⟨13, _⟩ => ⟨S64x2048, .bf16⟩
  | .local _ .vmem, ⟨14, _⟩ => ⟨S16x1x128x128, .bf16⟩
  | .local _ .vmem, ⟨15, _⟩ => ⟨S16x1x128x128, .bf16⟩
  | .local _ .vmem, ⟨16, _⟩ => ⟨S64x2048, .bf16⟩
  | .local _ .vmem, ⟨17, _⟩ => ⟨S64x2048, .bf16⟩
  | .local _ .vmem, ⟨18, _⟩ => ⟨S64x2048, .bf16⟩
  | .local _ .vmem, ⟨19, _⟩ => ⟨S64x2048, .bf16⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | .local _ .vmem, ⟨24, _⟩ => ⟨S16x1x64x64, .f32⟩
  | .local _ .vmem, ⟨25, _⟩ => ⟨S16x1x64x64, .f32⟩
  | .local _ .vmem, ⟨26, _⟩ => ⟨S1x16x1x128, .f32⟩
  | .local _ .vmem, ⟨27, _⟩ => ⟨S1x16x1x128, .f32⟩
  | .local _ .vmem, ⟨28, _⟩ => ⟨S16x128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_4 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_7 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_12 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![v0.toNat, arg0.toNat, c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x1x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4096x2048 : Shape := ⟨2, ![4096, 2048]⟩
abbrev S16x64x64x64 : Shape := ⟨4, ![16, 64, 64, 64]⟩
abbrev S64x16 : Shape := ⟨2, ![64, 16]⟩
abbrev S16x64x128x128 : Shape := ⟨4, ![16, 64, 128, 128]⟩
abbrev S_ : Shape := ⟨0, ![]⟩
abbrev S1x16x128x128 : Shape := ⟨4, ![1, 16, 128, 128]⟩
abbrev S1x16x64x128x128 : Shape := ⟨5, ![1, 16, 64, 128, 128]⟩
abbrev S64x1x16x128x128 : Shape := ⟨5, ![64, 1, 16, 128, 128]⟩
abbrev S1x64x64x16x128 : Shape := ⟨5, ![1, 64, 64, 16, 128]⟩
abbrev S1x16x64x64x128 : Shape := ⟨5, ![1, 16, 64, 64, 128]⟩
abbrev S1x16x64x64x64 : Shape := ⟨5, ![1, 16, 64, 64, 64]⟩
abbrev S16x64 : Shape := ⟨2, ![16, 64]⟩
abbrev S1x16x64 : Shape := ⟨3, ![1, 16, 64]⟩
abbrev S64x1x16x64x128 : Shape := ⟨5, ![64, 1, 16, 64, 128]⟩
abbrev S64x1x16x64x64 : Shape := ⟨5, ![64, 1, 16, 64, 64]⟩
abbrev S64x1x16 : Shape := ⟨3, ![64, 1, 16]⟩
abbrev S1x1x16x128x128 : Shape := ⟨5, ![1, 1, 16, 128, 128]⟩
abbrev S1x1x16x64x128 : Shape := ⟨5, ![1, 1, 16, 64, 128]⟩
abbrev S1x16x64x128 : Shape := ⟨4, ![1, 16, 64, 128]⟩
abbrev S1x1x16x64x64 : Shape := ⟨5, ![1, 1, 16, 64, 64]⟩
abbrev S1x16x64x64 : Shape := ⟨4, ![1, 16, 64, 64]⟩
abbrev S1x1x16 : Shape := ⟨3, ![1, 1, 16]⟩
abbrev S1x16 : Shape := ⟨2, ![1, 16]⟩
abbrev S1x16x1x1 : Shape := ⟨4, ![1, 16, 1, 1]⟩
abbrev S1x16x128x64 : Shape := ⟨4, ![1, 16, 128, 64]⟩
abbrev S16 : Shape := ⟨1, ![16]⟩
abbrev S64x16x1x1 : Shape := ⟨4, ![64, 16, 1, 1]⟩
abbrev S64x16x1x128 : Shape := ⟨4, ![64, 16, 1, 128]⟩

abbrev nBuf : Space → Nat
  | .hbm => 208
  | .vmem => 0
  | .smem => 0
  | _ => 0

abbrev hbmTy0_0 (i : Nat) : BufTy := match i % 128 with
  | 0 => ⟨S4096x2048, .f32⟩
  | 1 => ⟨S4096x2048, .bf16⟩
  | 2 => ⟨S4096x2048, .bf16⟩
  | 3 => ⟨S4096x2048, .bf16⟩
  | 4 => ⟨S16x64x64x64, .f32⟩
  | 5 => ⟨S64x16, .f32⟩
  | 6 => ⟨S16x64x128x128, .bf16⟩
  | 7 => ⟨S4096x2048, .f32⟩
  | 8 => ⟨S_, .f32⟩
  | 9 => ⟨S1x16x128x128, .f32⟩
  | 10 => ⟨S16x64x128x128, .f32⟩
  | 11 => ⟨S1x16x64x128x128, .f32⟩
  | 12 => ⟨S64x1x16x128x128, .f32⟩
  | 13 => ⟨S1x64x64x16x128, .f32⟩
  | 14 => ⟨S1x16x64x64x128, .f32⟩
  | 15 => ⟨S4096x2048, .f32⟩
  | 16 => ⟨S1x64x64x16x128, .f32⟩
  | 17 => ⟨S1x16x64x64x128, .f32⟩
  | 18 => ⟨S4096x2048, .f32⟩
  | 19 => ⟨S1x64x64x16x128, .f32⟩
  | 20 => ⟨S1x16x64x64x128, .f32⟩
  | 21 => ⟨S4096x2048, .f32⟩
  | 22 => ⟨S1x64x64x16x128, .f32⟩
  | 23 => ⟨S1x16x64x64x128, .f32⟩
  | 24 => ⟨S1x16x64x64x64, .f32⟩
  | 25 => ⟨S16x64, .f32⟩
  | 26 => ⟨S1x16x64, .f32⟩
  | 27 => ⟨S64x1x16x64x128, .f32⟩
  | 28 => ⟨S64x1x16x64x128, .f32⟩
  | 29 => ⟨S64x1x16x64x128, .f32⟩
  | 30 => ⟨S64x1x16x64x128, .f32⟩
  | 31 => ⟨S64x1x16x64x64, .f32⟩
  | 32 => ⟨S64x1x16, .f32⟩
  | 33 => ⟨S1x64x64x16x128, .f32⟩
  | 34 => ⟨S1x16x64x64x128, .f32⟩
  | 35 => ⟨S64x1x16x64x128, .f32⟩
  | 36 => ⟨S_, .f32⟩
  | 37 => ⟨S64x1x16x64x128, .f32⟩
  | 38 => ⟨S_, .f32⟩
  | 39 => ⟨S64x1x16x64x128, .f32⟩
  | 40 => ⟨S_, .f32⟩
  | 41 => ⟨S64x1x16x64x128, .f32⟩
  | 42 => ⟨S_, .f32⟩
  | 43 => ⟨S64x1x16x64x128, .f32⟩
  | 44 => ⟨S_, .f32⟩
  | 45 => ⟨S64x1x16x64x64, .f32⟩
  | 46 => ⟨S_, .f32⟩
  | 47 => ⟨S64x1x16, .f32⟩
  | 48 => ⟨S_, .i32⟩
  | 49 => ⟨S64x1x16x128x128, .f32⟩
  | 50 => ⟨S64x1x16x64x128, .f32⟩
  | 51 => ⟨S64x1x16x64x128, .f32⟩
  | 52 => ⟨S64x1x16x64x128, .f32⟩
  | 53 => ⟨S64x1x16x64x128, .f32⟩
  | 54 => ⟨S64x1x16x64x64, .f32⟩
  | 55 => ⟨S64x1x16, .f32⟩
  | 56 => ⟨S64x1x16x64x128, .f32⟩
  | 57 => ⟨S_, .i32⟩
  | 58 => ⟨S1x16x128x128, .f32⟩
  | 59 => ⟨S64x1x16x64x128, .f32⟩
  | 60 => ⟨S64x1x16x64x128, .f32⟩
  | 61 => ⟨S64x1x16x64x128, .f32⟩
  | 62 => ⟨S64x1x16x64x128, .f32⟩
  | 63 => ⟨S64x1x16x64x64, .f32⟩
  | 64 => ⟨S64x1x16, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S1x1x16x128x128, .f32⟩
  | 76 => ⟨S1x16x128x128, .f32⟩
  | 77 => ⟨S_, .i32⟩
  | 78 => ⟨S_, .i32⟩
  | 79 => ⟨S_, .i32⟩
  | 80 => ⟨S_, .i32⟩
  | 81 => ⟨S1x1x16x64x128, .f32⟩
  | 82 => ⟨S1x16x64x128, .f32⟩
  | 83 => ⟨S_, .i32⟩
  | 84 => ⟨S_, .i32⟩
  | 85 => ⟨S_, .i32⟩
  | 86 => ⟨S_, .i32⟩
  | 87 => ⟨S1x1x16x64x128, .f32⟩
  | 88 => ⟨S1x16x64x128, .f32⟩
  | 89 => ⟨S_, .i32⟩
  | 90 => ⟨S_, .i32⟩
  | 91 => ⟨S_, .i32⟩
  | 92 => ⟨S_, .i32⟩
  | 93 => ⟨S1x1x16x64x128, .f32⟩
  | 94 => ⟨S1x16x64x128, .f32⟩
  | 95 => ⟨S_, .i32⟩
  | 96 => ⟨S_, .i32⟩
  | 97 => ⟨S_, .i32⟩
  | 98 => ⟨S_, .i32⟩
  | 99 => ⟨S1x1x16x64x128, .f32⟩
  | 100 => ⟨S1x16x64x128, .f32⟩
  | 101 => ⟨S_, .i32⟩
  | 102 => ⟨S_, .i32⟩
  | 103 => ⟨S_, .i32⟩
  | 104 => ⟨S_, .i32⟩
  | 105 => ⟨S1x1x16x64x64, .f32⟩
  | 106 => ⟨S1x16x64x64, .f32⟩
  | 107 => ⟨S_, .i32⟩
  | 108 => ⟨S_, .i32⟩
  | 109 => ⟨S1x1x16, .f32⟩
  | 110 => ⟨S1x16, .f32⟩
  | 111 => ⟨S_, .i32⟩
  | 112 => ⟨S_, .i32⟩
  | 113 => ⟨S_, .i32⟩
  | 114 => ⟨S_, .i32⟩
  | 115 => ⟨S1x1x16x64x128, .f32⟩
  | 116 => ⟨S1x16x64x128, .f32⟩
  | 117 => ⟨S1x16x64x128, .f32⟩
  | 118 => ⟨S1x16x64x128, .f32⟩
  | 119 => ⟨S1x16x64x128, .f32⟩
  | 120 => ⟨S1x16x64x128, .f32⟩
  | 121 => ⟨S1x16x64x128, .f32⟩
  | 122 => ⟨S1x16x1x1, .f32⟩
  | 123 => ⟨S1x16x128x128, .f32⟩
  | 124 => ⟨S1x16x128x128, .f32⟩
  | 125 => ⟨S1x16x128x128, .f32⟩
  | 126 => ⟨S1x16x128x128, .f32⟩
  | 127 => ⟨S1x16x128x64, .f32⟩
  | _ => ⟨S4096x2048, .f32⟩

abbrev hbmTy0_1 (i : Nat) : BufTy := match i % 128 with
  | 0 => ⟨S1x16x64x128, .f32⟩
  | 1 => ⟨S1x16x128x64, .f32⟩
  | 2 => ⟨S1x16x64x128, .f32⟩
  | 3 => ⟨S1x16x128x128, .f32⟩
  | 4 => ⟨S_, .f32⟩
  | 5 => ⟨S1x16, .f32⟩
  | 6 => ⟨S1x16x1x1, .f32⟩
  | 7 => ⟨S1x16x128x128, .f32⟩
  | 8 => ⟨S1x16x128x128, .f32⟩
  | 9 => ⟨S_, .f32⟩
  | 10 => ⟨S16, .f32⟩
  | 11 => ⟨S1x16, .f32⟩
  | 12 => ⟨S1x16x128x64, .f32⟩
  | 13 => ⟨S1x16x64x128, .f32⟩
  | 14 => ⟨S1x16x64x128, .f32⟩
  | 15 => ⟨S1x16x64x64, .f32⟩
  | 16 => ⟨S1x16x128x128, .f32⟩
  | 17 => ⟨S1x16x128x128, .f32⟩
  | 18 => ⟨S1x16x128x128, .f32⟩
  | 19 => ⟨S1x16x64x128, .f32⟩
  | 20 => ⟨S1x16x64x128, .f32⟩
  | 21 => ⟨S1x16x128x128, .f32⟩
  | 22 => ⟨S1x16x128x128, .f32⟩
  | 23 => ⟨S1x16x128x128, .f32⟩
  | 24 => ⟨S1x16x64x128, .f32⟩
  | 25 => ⟨S1x1x16x64x128, .f32⟩
  | 26 => ⟨S_, .i32⟩
  | 27 => ⟨S_, .i32⟩
  | 28 => ⟨S_, .i32⟩
  | 29 => ⟨S_, .i32⟩
  | 30 => ⟨S64x1x16x64x128, .f32⟩
  | 31 => ⟨S1x1x16x64x128, .f32⟩
  | 32 => ⟨S_, .i32⟩
  | 33 => ⟨S_, .i32⟩
  | 34 => ⟨S_, .i32⟩
  | 35 => ⟨S_, .i32⟩
  | 36 => ⟨S64x1x16x64x128, .f32⟩
  | 37 => ⟨S1x1x16x64x128, .f32⟩
  | 38 => ⟨S_, .i32⟩
  | 39 => ⟨S_, .i32⟩
  | 40 => ⟨S_, .i32⟩
  | 41 => ⟨S_, .i32⟩
  | 42 => ⟨S64x1x16x64x128, .f32⟩
  | 43 => ⟨S1x1x16x64x128, .f32⟩
  | 44 => ⟨S_, .i32⟩
  | 45 => ⟨S_, .i32⟩
  | 46 => ⟨S_, .i32⟩
  | 47 => ⟨S_, .i32⟩
  | 48 => ⟨S64x1x16x64x128, .f32⟩
  | 49 => ⟨S1x1x16x64x64, .f32⟩
  | 50 => ⟨S_, .i32⟩
  | 51 => ⟨S_, .i32⟩
  | 52 => ⟨S_, .i32⟩
  | 53 => ⟨S_, .i32⟩
  | 54 => ⟨S64x1x16x64x64, .f32⟩
  | 55 => ⟨S1x1x16, .f32⟩
  | 56 => ⟨S_, .i32⟩
  | 57 => ⟨S_, .i32⟩
  | 58 => ⟨S64x1x16, .f32⟩
  | 59 => ⟨S_, .i32⟩
  | 60 => ⟨S_, .i32⟩
  | 61 => ⟨S1x16x64x64x128, .f32⟩
  | 62 => ⟨S1x64x64x16x128, .f32⟩
  | 63 => ⟨S4096x2048, .f32⟩
  | 64 => ⟨S4096x2048, .bf16⟩
  | 65 => ⟨S1x16x64x64x128, .f32⟩
  | 66 => ⟨S1x64x64x16x128, .f32⟩
  | 67 => ⟨S4096x2048, .f32⟩
  | 68 => ⟨S4096x2048, .bf16⟩
  | 69 => ⟨S1x16x64x64x128, .f32⟩
  | 70 => ⟨S1x64x64x16x128, .f32⟩
  | 71 => ⟨S4096x2048, .f32⟩
  | 72 => ⟨S1x16x64x64x128, .f32⟩
  | 73 => ⟨S1x64x64x16x128, .f32⟩
  | 74 => ⟨S4096x2048, .f32⟩
  | 75 => ⟨S1x16x64x64x64, .f32⟩
  | 76 => ⟨S16x64x64x64, .f32⟩
  | 77 => ⟨S64x16, .f32⟩
  | 78 => ⟨S64x16x1x1, .f32⟩
  | 79 => ⟨S64x16x1x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_c : Ref sig .tc := ⟨.hbm, 48, rfl⟩
abbrev main_v33_0 : Ref sig .tc := ⟨.hbm, 49, rfl⟩
abbrev main_v33_1 : Ref sig .tc := ⟨.hbm, 50, rfl⟩
abbrev main_v33_2 : Ref sig .tc := ⟨.hbm, 51, rfl⟩
abbrev main_v33_3 : Ref sig .tc := ⟨.hbm, 52, rfl⟩
abbrev main_v33_4 : Ref sig .tc := ⟨.hbm, 53, rfl⟩
abbrev main_v33_5 : Ref sig .tc := ⟨.hbm, 54, rfl⟩
abbrev main_v33_6 : Ref sig .tc := ⟨.hbm, 55, rfl⟩
abbrev main_v33_7 : Ref sig .tc := ⟨.hbm, 56, rfl⟩
abbrev main_v33_8 : Ref sig .tc := ⟨.hbm, 57, rfl⟩
abbrev main_v33_9 : Ref sig .tc := ⟨.hbm, 58, rfl⟩
abbrev main_v33_10 : Ref sig .tc := ⟨.hbm, 59, rfl⟩
abbrev main_v33_11 : Ref sig .tc := ⟨.hbm, 60, rfl⟩
abbrev main_v33_12 : Ref sig .tc := ⟨.hbm, 61, rfl⟩
abbrev main_v33_13 : Ref sig .tc := ⟨.hbm, 62, rfl⟩
abbrev main_v33_14 : Ref sig .tc := ⟨.hbm, 63, rfl⟩
abbrev main_v33_15 : Ref sig .tc := ⟨.hbm, 64, rfl⟩
abbrev main_while0c_c_21 : Ref sig .tc := ⟨.hbm, 65, rfl⟩
abbrev main_while0c_v53 : Ref sig .tc := ⟨.hbm, 66, rfl⟩
abbrev main_while0b_c_21 : Ref sig .tc := ⟨.hbm, 67, rfl⟩
abbrev main_while0b_v53 : Ref sig .tc := ⟨.hbm, 68, rfl⟩
abbrev main_while0b_c_22 : Ref sig .tc := ⟨.hbm, 69, rfl⟩
abbrev main_while0b_v54 : Ref sig .tc := ⟨.hbm, 70, rfl⟩
abbrev main_while0b_call0_c : Ref sig .tc := ⟨.hbm, 71, rfl⟩
abbrev main_while0b_call0_c_0 : Ref sig .tc := ⟨.hbm, 72, rfl⟩
abbrev main_while0b_call0_c_1 : Ref sig .tc := ⟨.hbm, 73, rfl⟩
abbrev main_while0b_call0_c_2 : Ref sig .tc := ⟨.hbm, 74, rfl⟩
abbrev main_while0b_call0_v0 : Ref sig .tc := ⟨.hbm, 75, rfl⟩
abbrev main_while0b_v55 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_c_2 : Ref sig .tc := ⟨.hbm, 80, rfl⟩
abbrev main_while0b_call1_v0 : Ref sig .tc := ⟨.hbm, 81, rfl⟩
abbrev main_while0b_v56 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_v0 : Ref sig .tc := ⟨.hbm, 87, rfl⟩
abbrev main_while0b_v57 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v58 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v59 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_c_2 : Ref sig .tc := ⟨.hbm, 104, rfl⟩
abbrev main_while0b_call5_v0 : Ref sig .tc := ⟨.hbm, 105, rfl⟩
abbrev main_while0b_v60 : Ref sig .tc := ⟨.hbm, 106, rfl⟩
abbrev main_while0b_call6_c : Ref sig .tc := ⟨.hbm, 107, rfl⟩
abbrev main_while0b_call6_c_0 : Ref sig .tc := ⟨.hbm, 108, rfl⟩
abbrev main_while0b_call6_v0 : Ref sig .tc := ⟨.hbm, 109, rfl⟩
abbrev main_while0b_v61 : Ref sig .tc := ⟨.hbm, 110, rfl⟩
abbrev main_while0b_call7_c : Ref sig .tc := ⟨.hbm, 111, rfl⟩
abbrev main_while0b_call7_c_0 : Ref sig .tc := ⟨.hbm, 112, rfl⟩
abbrev main_while0b_call7_c_1 : Ref sig .tc := ⟨.hbm, 113, rfl⟩
abbrev main_while0b_call7_c_2 : Ref sig .tc := ⟨.hbm, 114, rfl⟩
abbrev main_while0b_call7_v0 : Ref sig .tc := ⟨.hbm, 115, rfl⟩
abbrev main_while0b_v62 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_v68 : Ref sig .tc := ⟨.hbm, 122, rfl⟩
abbrev main_while0b_v69 : Ref sig .tc := ⟨.hbm, 123, rfl⟩
abbrev main_while0b_v70 : Ref sig .tc := ⟨.hbm, 124, rfl⟩
abbrev main_while0b_v71 : Ref sig .tc := ⟨.hbm, 125, rfl⟩
abbrev main_while0b_v72 : Ref sig .tc := ⟨.hbm, 126, rfl⟩
abbrev main_while0b_v73 : Ref sig .tc := ⟨.hbm, 127, rfl⟩
abbrev main_while0b_v74 : Ref sig .tc := ⟨.hbm, 128, rfl⟩
abbrev main_while0b_v75 : Ref sig .tc := ⟨.hbm, 129, rfl⟩
abbrev main_while0b_v76 : Ref sig .tc := ⟨.hbm, 130, rfl⟩
abbrev main_while0b_v77 : Ref sig .tc := ⟨.hbm, 131, rfl⟩
abbrev main_while0b_cst_23 : Ref sig .tc := ⟨.hbm, 132, rfl⟩
abbrev main_while0b_v78 : Ref sig .tc := ⟨.hbm, 133, rfl⟩
abbrev main_while0b_v79 : Ref sig .tc := ⟨.hbm, 134, rfl⟩
abbrev main_while0b_v80 : Ref sig .tc := ⟨.hbm, 135, rfl⟩
abbrev main_while0b_v81 : Ref sig .tc := ⟨.hbm, 136, rfl⟩
abbrev main_while0b_cst_24 : Ref sig .tc := ⟨.hbm, 137, rfl⟩
abbrev main_while0b_v82 : Ref sig .tc := ⟨.hbm, 138, rfl⟩
abbrev main_while0b_v83 : Ref sig .tc := ⟨.hbm, 139, rfl⟩
abbrev main_while0b_v84 : Ref sig .tc := ⟨.hbm, 140, rfl⟩
abbrev main_while0b_v85 : Ref sig .tc := ⟨.hbm, 141, rfl⟩
abbrev main_while0b_v86 : Ref sig .tc := ⟨.hbm, 142, rfl⟩
abbrev main_while0b_v87 : Ref sig .tc := ⟨.hbm, 143, rfl⟩
abbrev main_while0b_v88 : Ref sig .tc := ⟨.hbm, 144, rfl⟩
abbrev main_while0b_v89 : Ref sig .tc := ⟨.hbm, 145, rfl⟩
abbrev main_while0b_v90 : Ref sig .tc := ⟨.hbm, 146, rfl⟩
abbrev main_while0b_v91 : Ref sig .tc := ⟨.hbm, 147, rfl⟩
abbrev main_while0b_v92 : Ref sig .tc := ⟨.hbm, 148, rfl⟩
abbrev main_while0b_v93 : Ref sig .tc := ⟨.hbm, 149, rfl⟩
abbrev main_while0b_v94 : Ref sig .tc := ⟨.hbm, 150, rfl⟩
abbrev main_while0b_v95 : Ref sig .tc := ⟨.hbm, 151, rfl⟩
abbrev main_while0b_v96 : Ref sig .tc := ⟨.hbm, 152, rfl⟩
abbrev main_while0b_call8_v0 : Ref sig .tc := ⟨.hbm, 153, rfl⟩
abbrev main_while0b_call8_c : Ref sig .tc := ⟨.hbm, 154, rfl⟩
abbrev main_while0b_call8_c_0 : Ref sig .tc := ⟨.hbm, 155, rfl⟩
abbrev main_while0b_call8_c_1 : Ref sig .tc := ⟨.hbm, 156, rfl⟩
abbrev main_while0b_call8_c_2 : Ref sig .tc := ⟨.hbm, 157, rfl⟩
abbrev main_while0b_v97 : Ref sig .tc := ⟨.hbm, 158, rfl⟩
abbrev main_while0b_call9_v0 : Ref sig .tc := ⟨.hbm, 159, rfl⟩
abbrev main_while0b_call9_c : Ref sig .tc := ⟨.hbm, 160, rfl⟩
abbrev main_while0b_call9_c_0 : Ref sig .tc := ⟨.hbm, 161, rfl⟩
abbrev main_while0b_call9_c_1 : Ref sig .tc := ⟨.hbm, 162, rfl⟩
abbrev main_while0b_call9_c_2 : Ref sig .tc := ⟨.hbm, 163, rfl⟩
abbrev main_while0b_v98 : Ref sig .tc := ⟨.hbm, 164, rfl⟩
abbrev main_while0b_call10_v0 : Ref sig .tc := ⟨.hbm, 165, rfl⟩
abbrev main_while0b_call10_c : Ref sig .tc := ⟨.hbm, 166, rfl⟩
abbrev main_while0b_call10_c_0 : Ref sig .tc := ⟨.hbm, 167, rfl⟩
abbrev main_while0b_call10_c_1 : Ref sig .tc := ⟨.hbm, 168, rfl⟩
abbrev main_while0b_call10_c_2 : Ref sig .tc := ⟨.hbm, 169, rfl⟩
abbrev main_while0b_v99 : Ref sig .tc := ⟨.hbm, 170, rfl⟩
abbrev main_while0b_call11_v0 : Ref sig .tc := ⟨.hbm, 171, rfl⟩
abbrev main_while0b_call11_c : Ref sig .tc := ⟨.hbm, 172, rfl⟩
abbrev main_while0b_call11_c_0 : Ref sig .tc := ⟨.hbm, 173, rfl⟩
abbrev main_while0b_call11_c_1 : Ref sig .tc := ⟨.hbm, 174, rfl⟩
abbrev main_while0b_call11_c_2 : Ref sig .tc := ⟨.hbm, 175, rfl⟩
abbrev main_while0b_v100 : Ref sig .tc := ⟨.hbm, 176, rfl⟩
abbrev main_while0b_call12_v0 : Ref sig .tc := ⟨.hbm, 177, rfl⟩
abbrev main_while0b_call12_c : Ref sig .tc := ⟨.hbm, 178, rfl⟩
abbrev main_while0b_call12_c_0 : Ref sig .tc := ⟨.hbm, 179, rfl⟩
abbrev main_while0b_call12_c_1 : Ref sig .tc := ⟨.hbm, 180, rfl⟩
abbrev main_while0b_call12_c_2 : Ref sig .tc := ⟨.hbm, 181, rfl⟩
abbrev main_while0b_v101 : Ref sig .tc := ⟨.hbm, 182, rfl⟩
abbrev main_while0b_call13_v0 : Ref sig .tc := ⟨.hbm, 183, rfl⟩
abbrev main_while0b_call13_c : Ref sig .tc := ⟨.hbm, 184, rfl⟩
abbrev main_while0b_call13_c_0 : Ref sig .tc := ⟨.hbm, 185, rfl⟩
abbrev main_while0b_v102 : Ref sig .tc := ⟨.hbm, 186, rfl⟩
abbrev main_while0b_c_25 : Ref sig .tc := ⟨.hbm, 187, rfl⟩
abbrev main_while0b_v103 : Ref sig .tc := ⟨.hbm, 188, rfl⟩
abbrev main_v34 : Ref sig .tc := ⟨.hbm, 189, rfl⟩
abbrev main_v35 : Ref sig .tc := ⟨.hbm, 190, rfl⟩
abbrev main_v36 : Ref sig .tc := ⟨.hbm, 191, rfl⟩
abbrev main_v37 : Ref sig .tc := ⟨.hbm, 192, rfl⟩
abbrev main_v38 : Ref sig .tc := ⟨.hbm, 193, rfl⟩
abbrev main_v39 : Ref sig .tc := ⟨.hbm, 194, rfl⟩
abbrev main_v40 : Ref sig .tc := ⟨.hbm, 195, rfl⟩
abbrev main_v41 : Ref sig .tc := ⟨.hbm, 196, rfl⟩
abbrev main_v42 : Ref sig .tc := ⟨.hbm, 197, rfl⟩
abbrev main_v43 : Ref sig .tc := ⟨.hbm, 198, rfl⟩
abbrev main_v44 : Ref sig .tc := ⟨.hbm, 199, rfl⟩
abbrev main_v45 : Ref sig .tc := ⟨.hbm, 200, rfl⟩
abbrev main_v46 : Ref sig .tc := ⟨.hbm, 201, rfl⟩
abbrev main_v47 : Ref sig .tc := ⟨.hbm, 202, rfl⟩
abbrev main_v48 : Ref sig .tc := ⟨.hbm, 203, rfl⟩
abbrev main_v49 : Ref sig .tc := ⟨.hbm, 204, rfl⟩
abbrev main_v50 : Ref sig .tc := ⟨.hbm, 205, rfl⟩
abbrev main_v51 : Ref sig .tc := ⟨.hbm, 206, rfl⟩
abbrev main_v52 : Ref sig .tc := ⟨.hbm, 207, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x2048 : Shape := ⟨2, ![4096, 2048]⟩
abbrev S16x64x64x64 : Shape := ⟨4, ![16, 64, 64, 64]⟩
abbrev S64x16 : Shape := ⟨2, ![64, 16]⟩
abbrev S64x16x1x1 : Shape := ⟨4, ![64, 16, 1, 1]⟩
abbrev S64x16x1x128 : Shape := ⟨4, ![64, 16, 1, 128]⟩
abbrev S16x64x128x128 : Shape := ⟨4, ![16, 64, 128, 128]⟩
abbrev S64x2048 : Shape := ⟨2, ![64, 2048]⟩
abbrev S16x1x64x64 : Shape := ⟨4, ![16, 1, 64, 64]⟩
abbrev S1x16x1x128 : Shape := ⟨4, ![1, 16, 1, 128]⟩
abbrev S16x1x128x128 : Shape := ⟨4, ![16, 1, 128, 128]⟩
abbrev S16x128x128 : Shape := ⟨3, ![16, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x1x64x64 : Shape := ⟨4, ![1, 1, 64, 64]⟩
abbrev S64x64 : Shape := ⟨2, ![64, 64]⟩
abbrev S1x1x1x128 : Shape := ⟨4, ![1, 1, 1, 128]⟩
abbrev S1x128 : Shape := ⟨2, ![1, 128]⟩

abbrev nBuf : Space → Nat
  | .hbm => 11
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S16x64x64x64, .f32⟩
  | .hbm, ⟨5, _⟩ => ⟨S64x16, .f32⟩
  | .hbm, ⟨6, _⟩ => ⟨S64x16x1x1, .f32⟩
  | .hbm, ⟨7, _⟩ => ⟨S64x16x1x128, .f32⟩
  | .hbm, ⟨8, _⟩ => ⟨S4096x2048, .f32⟩
  | .hbm, ⟨9, _⟩ => ⟨S4096x2048, .bf16⟩
  | .hbm, ⟨10, _⟩ => ⟨S16x64x128x128, .bf16⟩
  | .local _ .vmem, ⟨0, _⟩ => ⟨S64x2048, .f32⟩
  | .local _ .vmem, ⟨1, _⟩ => ⟨S64x2048, .f32⟩
  | .local _ .vmem, ⟨2, _⟩ => ⟨S64x2048, .bf16⟩
  | .local _ .vmem, ⟨3, _⟩ => ⟨S64x2048, .bf16⟩
  | .local _ .vmem, ⟨4, _⟩ => ⟨S64x2048, .bf16⟩
  | .local _ .vmem, ⟨5, _⟩ => ⟨S64x2048, .bf16⟩
  | .local _ .vmem, ⟨6, _⟩ => ⟨S64x2048, .bf16⟩
  | .local _ .vmem, ⟨7, _⟩ => ⟨S64x2048, .bf16⟩
  | .local _ .vmem, ⟨8, _⟩ => ⟨S16x1x64x64, .f32⟩
  | .local _ .vmem, ⟨9, _⟩ => ⟨S16x1x64x64, .f32⟩
  | .local _ .vmem, ⟨10, _⟩ => ⟨S1x16x1x128, .f32⟩
  | .local _ .vmem, ⟨11, _⟩ => ⟨S1x16x1x128, .f32⟩
  | .local _ .vmem, ⟨12, _⟩ => ⟨S64x2048, .f32⟩
  | .local _ .vmem, ⟨13, _⟩ => ⟨S64x2048, .f32⟩
  | .local _ .vmem, ⟨14, _⟩ => ⟨S64x2048, .bf16⟩
  | .local _ .vmem, ⟨15, _⟩ => ⟨S64x2048, .bf16⟩
  | .local _ .vmem, ⟨16, _⟩ => ⟨S16x1x128x128, .bf16⟩
  | .local _ .vmem, ⟨17, _⟩ => ⟨S16x1x128x128, .bf16⟩
  | .local _ .vmem, ⟨18, _⟩ => ⟨S16x128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4096x2048 : Shape := ⟨2, ![4096, 2048]⟩
abbrev S16x64x64x64 : Shape := ⟨4, ![16, 64, 64, 64]⟩
abbrev S64x16 : Shape := ⟨2, ![64, 16]⟩
abbrev S_ : Shape := ⟨0, ![]⟩
abbrev S1x16x128x128 : Shape := ⟨4, ![1, 16, 128, 128]⟩
abbrev S1x64x64x16x128 : Shape := ⟨5, ![1, 64, 64, 16, 128]⟩
abbrev S1x16x64x64x128 : Shape := ⟨5, ![1, 16, 64, 64, 128]⟩
abbrev S1x16x64x64x64 : Shape := ⟨5, ![1, 16, 64, 64, 64]⟩
abbrev S16x64 : Shape := ⟨2, ![16, 64]⟩
abbrev S1x16x64 : Shape := ⟨3, ![1, 16, 64]⟩
abbrev S64x1x16x64x128 : Shape := ⟨5, ![64, 1, 16, 64, 128]⟩
abbrev S64x1x16x64x64 : Shape := ⟨5, ![64, 1, 16, 64, 64]⟩
abbrev S64x1x16 : Shape := ⟨3, ![64, 1, 16]⟩
abbrev S64x1x16x128x128 : Shape := ⟨5, ![64, 1, 16, 128, 128]⟩
abbrev S1x1x16x64x128 : Shape := ⟨5, ![1, 1, 16, 64, 128]⟩
abbrev S1x16x64x128 : Shape := ⟨4, ![1, 16, 64, 128]⟩
abbrev S1x1x16x64x64 : Shape := ⟨5, ![1, 1, 16, 64, 64]⟩
abbrev S1x16x64x64 : Shape := ⟨4, ![1, 16, 64, 64]⟩
abbrev S1x1x16 : Shape := ⟨3, ![1, 1, 16]⟩
abbrev S1x16 : Shape := ⟨2, ![1, 16]⟩
abbrev S1x16x1x1 : Shape := ⟨4, ![1, 16, 1, 1]⟩
abbrev S1x1x16x128x128 : Shape := ⟨5, ![1, 1, 16, 128, 128]⟩
abbrev S1x16x64x128x128 : Shape := ⟨5, ![1, 16, 64, 128, 128]⟩
abbrev S16x64x128x128 : Shape := ⟨4, ![16, 64, 128, 128]⟩

abbrev nBuf : Space → Nat
  | .hbm => 124
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S16x64x64x64, .f32⟩
  | .hbm, ⟨5, _⟩ => ⟨S64x16, .f32⟩
  | .hbm, ⟨6, _⟩ => ⟨S_, .f32⟩
  | .hbm, ⟨7, _⟩ => ⟨S1x16x128x128, .f32⟩
  | .hbm, ⟨8, _⟩ => ⟨S1x64x64x16x128, .f32⟩
  | .hbm, ⟨9, _⟩ => ⟨S1x16x64x64x128, .f32⟩
  | .hbm, ⟨10, _⟩ => ⟨S4096x2048, .f32⟩
  | .hbm, ⟨11, _⟩ => ⟨S1x64x64x16x128, .f32⟩
  | .hbm, ⟨12, _⟩ => ⟨S1x16x64x64x128, .f32⟩
  | .hbm, ⟨13, _⟩ => ⟨S4096x2048, .f32⟩
  | .hbm, ⟨14, _⟩ => ⟨S1x64x64x16x128, .f32⟩
  | .hbm, ⟨15, _⟩ => ⟨S1x16x64x64x128, .f32⟩
  | .hbm, ⟨16, _⟩ => ⟨S4096x2048, .f32⟩
  | .hbm, ⟨17, _⟩ => ⟨S1x64x64x16x128, .f32⟩
  | .hbm, ⟨18, _⟩ => ⟨S1x16x64x64x128, .f32⟩
  | .hbm, ⟨19, _⟩ => ⟨S1x16x64x64x64, .f32⟩
  | .hbm, ⟨20, _⟩ => ⟨S16x64, .f32⟩
  | .hbm, ⟨21, _⟩ => ⟨S1x16x64, .f32⟩
  | .hbm, ⟨22, _⟩ => ⟨S64x1x16x64x128, .f32⟩
  | .hbm, ⟨23, _⟩ => ⟨S64x1x16x64x128, .f32⟩
  | .hbm, ⟨24, _⟩ => ⟨S64x1x16x64x128, .f32⟩
  | .hbm, ⟨25, _⟩ => ⟨S64x1x16x64x128, .f32⟩
  | .hbm, ⟨26, _⟩ => ⟨S64x1x16x64x64, .f32⟩
  | .hbm, ⟨27, _⟩ => ⟨S64x1x16, .f32⟩
  | .hbm, ⟨28, _⟩ => ⟨S_, .f32⟩
  | .hbm, ⟨29, _⟩ => ⟨S64x1x16x64x128, .f32⟩
  | .hbm, ⟨30, _⟩ => ⟨S_, .f32⟩
  | .hbm, ⟨31, _⟩ => ⟨S64x1x16x64x128, .f32⟩
  | .hbm, ⟨32, _⟩ => ⟨S_, .f32⟩
  | .hbm, ⟨33, _⟩ => ⟨S64x1x16x128x128, .f32⟩
  | .hbm, ⟨34, _⟩ => ⟨S_, .i32⟩
  | .hbm, ⟨35, _⟩ => ⟨S64x1x16x64x128, .f32⟩
  | .hbm, ⟨36, _⟩ => ⟨S64x1x16x64x128, .f32⟩
  | .hbm, ⟨37, _⟩ => ⟨S64x1x16x64x128, .f32⟩
  | .hbm, ⟨38, _⟩ => ⟨S64x1x16x64x128, .f32⟩
  | .hbm, ⟨39, _⟩ => ⟨S64x1x16x64x64, .f32⟩
  | .hbm, ⟨40, _⟩ => ⟨S64x1x16, .f32⟩
  | .hbm, ⟨41, _⟩ => ⟨S_, .i32⟩
  | .hbm, ⟨42, _⟩ => ⟨S1x16x128x128, .f32⟩
  | .hbm, ⟨43, _⟩ => ⟨S64x1x16x64x128, .f32⟩
  | .hbm, ⟨44, _⟩ => ⟨S64x1x16x64x128, .f32⟩
  | .hbm, ⟨45, _⟩ => ⟨S64x1x16x128x128, .f32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x1x16x64x128, .f32⟩
  | .hbm, ⟨53, _⟩ => ⟨S1x16x64x128, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x1x16x64x128, .f32⟩
  | .hbm, ⟨59, _⟩ => ⟨S1x16x64x128, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x1x16x64x128, .f32⟩
  | .hbm, ⟨65, _⟩ => ⟨S1x16x64x128, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x1x16x64x128, .f32⟩
  | .hbm, ⟨71, _⟩ => ⟨S1x16x64x128, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x1x16x64x64, .f32⟩
  | .hbm, ⟨77, _⟩ => ⟨S1x16x64x64, .f32⟩
  | .hbm, ⟨78, _⟩ => ⟨S_, .i32⟩
  | .hbm, ⟨79, _⟩ => ⟨S_, .i32⟩
  | .hbm, ⟨80, _⟩ => ⟨S1x1x16, .f32⟩
  | .hbm, ⟨81, _⟩ => ⟨S1x16, .f32⟩
  | .hbm, ⟨82, _⟩ => ⟨S1x16x64x128, .f32⟩
  | .hbm, ⟨83, _⟩ => ⟨S1x16x64x128, .f32⟩
  | .hbm, ⟨84, _⟩ => ⟨S1x16x64x128, .f32⟩
  | .hbm, ⟨85, _⟩ => ⟨S1x16x64x128, .f32⟩
  | .hbm, ⟨86, _⟩ => ⟨S1x16x64x128, .f32⟩
  | .hbm, ⟨87, _⟩ => ⟨S1x16x1x1, .f32⟩
  | .hbm, ⟨88, _⟩ => ⟨S1x16x128x128, .f32⟩
  | .hbm, ⟨89, _⟩ => ⟨S1x16x128x128, .f32⟩
  | .hbm, ⟨90, _⟩ => ⟨S1x16x128x128, .f32⟩
  | .hbm, ⟨91, _⟩ => ⟨S1x16x128x128, .f32⟩
  | .hbm, ⟨92, _⟩ => ⟨S1x16x64x128, .f32⟩
  | .hbm, ⟨93, _⟩ => ⟨S1x16x64x128, .f32⟩
  | .hbm, ⟨94, _⟩ => ⟨S1x1x16x64x128, .f32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S64x1x16x64x128, .f32⟩
  | .hbm, ⟨100, _⟩ => ⟨S1x1x16x64x128, .f32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S64x1x16x64x128, .f32⟩
  | .hbm, ⟨106, _⟩ => ⟨S1x1x16x128x128, .f32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S64x1x16x128x128, .f32⟩
  | .hbm, ⟨112, _⟩ => ⟨S_, .i32⟩
  | .hbm, ⟨113, _⟩ => ⟨S_, .i32⟩
  | .hbm, ⟨114, _⟩ => ⟨S1x16x64x64x128, .f32⟩
  | .hbm, ⟨115, _⟩ => ⟨S1x64x64x16x128, .f32⟩
  | .hbm, ⟨116, _⟩ => ⟨S4096x2048, .f32⟩
  | .hbm, ⟨117, _⟩ => ⟨S1x16x64x64x128, .f32⟩
  | .hbm, ⟨118, _⟩ => ⟨S1x64x64x16x128, .f32⟩
  | .hbm, ⟨119, _⟩ => ⟨S4096x2048, .f32⟩
  | .hbm, ⟨120, _⟩ => ⟨S4096x2048, .bf16⟩
  | .hbm, ⟨121, _⟩ => ⟨S1x16x64x128x128, .f32⟩
  | .hbm, ⟨122, _⟩ => ⟨S16x64x128x128, .f32⟩
  | .hbm, ⟨123, _⟩ => ⟨S16x64x128x128, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_c : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev main_v24_4 : Ref sig .tc := ⟨.hbm, 39, rfl⟩
abbrev main_v24_5 : Ref sig .tc := ⟨.hbm, 40, rfl⟩
abbrev main_v24_6 : Ref sig .tc := ⟨.hbm, 41, rfl⟩
abbrev main_v24_7 : Ref sig .tc := ⟨.hbm, 42, rfl⟩
abbrev main_v24_8 : Ref sig .tc := ⟨.hbm, 43, rfl⟩
abbrev main_v24_9 : Ref sig .tc := ⟨.hbm, 44, rfl⟩
abbrev main_v24_10 : Ref sig .tc := ⟨.hbm, 45, rfl⟩
abbrev main_while0c_c_13 : Ref sig .tc := ⟨.hbm, 46, rfl⟩
abbrev main_while0c_v35 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_c_1 : Ref sig .tc := ⟨.hbm, 50, rfl⟩
abbrev main_while0b_call0_c_2 : Ref sig .tc := ⟨.hbm, 51, rfl⟩
abbrev main_while0b_call0_v0 : Ref sig .tc := ⟨.hbm, 52, rfl⟩
abbrev main_while0b_v35 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_c_2 : Ref sig .tc := ⟨.hbm, 57, rfl⟩
abbrev main_while0b_call1_v0 : Ref sig .tc := ⟨.hbm, 58, rfl⟩
abbrev main_while0b_v36 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_c_2 : Ref sig .tc := ⟨.hbm, 63, rfl⟩
abbrev main_while0b_call2_v0 : Ref sig .tc := ⟨.hbm, 64, rfl⟩
abbrev main_while0b_v37 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_c_2 : Ref sig .tc := ⟨.hbm, 69, rfl⟩
abbrev main_while0b_call3_v0 : Ref sig .tc := ⟨.hbm, 70, rfl⟩
abbrev main_while0b_v38 : Ref sig .tc := ⟨.hbm, 71, rfl⟩
abbrev main_while0b_call4_c : Ref sig .tc := ⟨.hbm, 72, rfl⟩
abbrev main_while0b_call4_c_0 : Ref sig .tc := ⟨.hbm, 73, rfl⟩
abbrev main_while0b_call4_c_1 : Ref sig .tc := ⟨.hbm, 74, rfl⟩
abbrev main_while0b_call4_c_2 : Ref sig .tc := ⟨.hbm, 75, rfl⟩
abbrev main_while0b_call4_v0 : Ref sig .tc := ⟨.hbm, 76, rfl⟩
abbrev main_while0b_v39 : Ref sig .tc := ⟨.hbm, 77, rfl⟩
abbrev main_while0b_call5_c : Ref sig .tc := ⟨.hbm, 78, rfl⟩
abbrev main_while0b_call5_c_0 : Ref sig .tc := ⟨.hbm, 79, rfl⟩
abbrev main_while0b_call5_v0 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_v47 : Ref sig .tc := ⟨.hbm, 88, rfl⟩
abbrev main_while0b_v48 : Ref sig .tc := ⟨.hbm, 89, rfl⟩
abbrev main_while0b_v49 : Ref sig .tc := ⟨.hbm, 90, rfl⟩
abbrev main_while0b_v50 : Ref sig .tc := ⟨.hbm, 91, rfl⟩
abbrev main_while0b_v51 : Ref sig .tc := ⟨.hbm, 92, rfl⟩
abbrev main_while0b_v52 : Ref sig .tc := ⟨.hbm, 93, rfl⟩
abbrev main_while0b_call6_v0 : Ref sig .tc := ⟨.hbm, 94, rfl⟩
abbrev main_while0b_call6_c : Ref sig .tc := ⟨.hbm, 95, rfl⟩
abbrev main_while0b_call6_c_0 : Ref sig .tc := ⟨.hbm, 96, rfl⟩
abbrev main_while0b_call6_c_1 : Ref sig .tc := ⟨.hbm, 97, rfl⟩
abbrev main_while0b_call6_c_2 : Ref sig .tc := ⟨.hbm, 98, rfl⟩
abbrev main_while0b_v53 : Ref sig .tc := ⟨.hbm, 99, rfl⟩
abbrev main_while0b_call7_v0 : Ref sig .tc := ⟨.hbm, 100, rfl⟩
abbrev main_while0b_call7_c : Ref sig .tc := ⟨.hbm, 101, rfl⟩
abbrev main_while0b_call7_c_0 : Ref sig .tc := ⟨.hbm, 102, rfl⟩
abbrev main_while0b_call7_c_1 : Ref sig .tc := ⟨.hbm, 103, rfl⟩
abbrev main_while0b_call7_c_2 : Ref sig .tc := ⟨.hbm, 104, rfl⟩
abbrev main_while0b_v54 : Ref sig .tc := ⟨.hbm, 105, rfl⟩
abbrev main_while0b_call8_v0 : Ref sig .tc := ⟨.hbm, 106, rfl⟩
abbrev main_while0b_call8_c : Ref sig .tc := ⟨.hbm, 107, rfl⟩
abbrev main_while0b_call8_c_0 : Ref sig .tc := ⟨.hbm, 108, rfl⟩
abbrev main_while0b_call8_c_1 : Ref sig .tc := ⟨.hbm, 109, rfl⟩
abbrev main_while0b_call8_c_2 : Ref sig .tc := ⟨.hbm, 110, rfl⟩
abbrev main_while0b_v55 : Ref sig .tc := ⟨.hbm, 111, rfl⟩
abbrev main_while0b_c_13 : Ref sig .tc := ⟨.hbm, 112, rfl⟩
abbrev main_while0b_v56 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩

abbrev nD : Nat := 1
abbrev τ : Topo := Topo.v7x

variable {F : FTy → Type} [FloatOps F]

abbrev main_while0_count : Scf.Loop 32 := ⟨0#32, 64#32, 1#32⟩
-- ==== Kernel3.lean ====
abbrev S4096x12288 : Shape := ⟨2, ![4096, 12288]⟩
abbrev S1024x12288 : Shape := ⟨2, ![1024, 12288]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S1024x12288, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 12], ![false, false, false]⟩

def k0_cond3 (i : grid0.Coords) : BitVec 1 :=
  let arg2 : BitVec 32 := BitVec.ofNat 32 (i 2).val
  let c11_i32 : BitVec 32 := 11#32
  let v9 : BitVec 1 := Scalar.cmpi .eq arg2 c11_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x12288 : Shape := ⟨2, ![4096, 12288]⟩
abbrev S1024x12288 : Shape := ⟨2, ![1024, 12288]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S1024x12288, .bf16⟩
  | .hbm, ⟨2, _⟩ => ⟨S_, .f32⟩
  | .hbm, ⟨3, _⟩ => ⟨S4096x1024, .f32⟩
  | .hbm, ⟨4, _⟩ => ⟨S1024x12288, .f32⟩
  | .hbm, ⟨5, _⟩ => ⟨S4096x12288, .f32⟩
  | .hbm, ⟨6, _⟩ => ⟨S4096x12288, .f32⟩
  | .hbm, ⟨7, _⟩ => ⟨S4096x1024, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S4096x12288 : Shape := ⟨2, ![4096, 12288]⟩
abbrev S1024x4096 : Shape := ⟨2, ![1024, 4096]⟩
abbrev S1024x12288 : Shape := ⟨2, ![1024, 12288]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x12288, .bf16⟩
  | .hbm, ⟨2, _⟩ => ⟨S1024x4096, .bf16⟩
  | .hbm, ⟨3, _⟩ => ⟨S1024x12288, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x12288 : Shape := ⟨2, ![4096, 12288]⟩
abbrev S_ : Shape := ⟨0, ![]⟩
abbrev S1024x12288 : Shape := ⟨2, ![1024, 12288]⟩
abbrev S12288x1024 : Shape := ⟨2, ![12288, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x12288, .bf16⟩
  | .hbm, ⟨2, _⟩ => ⟨S_, .f32⟩
  | .hbm, ⟨3, _⟩ => ⟨S1024x12288, .f32⟩
  | .hbm, ⟨4, _⟩ => ⟨S4096x1024, .f32⟩
  | .hbm, ⟨5, _⟩ => ⟨S4096x12288, .f32⟩
  | .hbm, ⟨6, _⟩ => ⟨S4096x12288, .f32⟩
  | .hbm, ⟨7, _⟩ => ⟨S12288x1024, .f32⟩
  | .hbm, ⟨8, _⟩ => ⟨S1024x12288, .f32⟩
  | .hbm, ⟨9, _⟩ => ⟨S1024x12288, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S2x4096x2816 : Shape := ⟨3, ![2, 4096, 2816]⟩
abbrev S1024x4096 : Shape := ⟨2, ![1024, 4096]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1024x4096, .bf16⟩
  | .hbm, ⟨3, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S2x4096x2816, .f32⟩
  | .hbm, ⟨3, _⟩ => ⟨S1x4096x2816, .f32⟩
  | .hbm, ⟨4, _⟩ => ⟨S4096x2816, .f32⟩
  | .hbm, ⟨5, _⟩ => ⟨S1x4096x2816, .f32⟩
  | .hbm, ⟨6, _⟩ => ⟨S4096x2816, .f32⟩
  | .hbm, ⟨7, _⟩ => ⟨S_, .f32⟩
  | .hbm, ⟨8, _⟩ => ⟨S1024x5632, .f32⟩
  | .hbm, ⟨9, _⟩ => ⟨S4096x1024, .f32⟩
  | .hbm, ⟨10, _⟩ => ⟨S4096x5632, .f32⟩
  | .hbm, ⟨11, _⟩ => ⟨S4096x2816, .f32⟩
  | .hbm, ⟨12, _⟩ => ⟨S4096x2816, .f32⟩
  | .hbm, ⟨13, _⟩ => ⟨S4096x5632, .f32⟩
  | .hbm, ⟨14, _⟩ => ⟨S5632x1024, .f32⟩
  | .hbm, ⟨15, _⟩ => ⟨S1024x5632, .f32⟩
  | .hbm, ⟨16, _⟩ => ⟨S1024x4x1408, .f32⟩
  | .hbm, ⟨17, _⟩ => ⟨S4x1024x1408, .f32⟩
  | .hbm, ⟨18, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel6.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S2x4096x2816 : Shape := ⟨3, ![2, 4096, 2816]⟩
abbrev S4x1024x1408 : Shape := ⟨3, ![4, 1024, 1408]⟩
abbrev S1x4096x2816 : Shape := ⟨3, ![1, 4096, 2816]⟩
abbrev S4096x2816 : Shape := ⟨2, ![4096, 2816]⟩
abbrev S1024x4x1408 : Shape := ⟨3, ![1024, 4, 1408]⟩
abbrev S1024x5632 : Shape := ⟨2, ![1024, 5632]⟩
abbrev S_ : Shape := ⟨0, ![]⟩
abbrev S4096x1024 : Shape := ⟨2, ![4096, 1024]⟩
abbrev S4096x5632 : Shape := ⟨2, ![4096, 5632]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S2x4096x2816, .f32⟩
  | .hbm, ⟨3, _⟩ => ⟨S1x4096x2816, .f32⟩
  | .hbm, ⟨4, _⟩ => ⟨S4096x2816, .f32⟩
  | .hbm, ⟨5, _⟩ => ⟨S1x4096x2816, .f32⟩
  | .hbm, ⟨6, _⟩ => ⟨S4096x2816, .f32⟩
  | .hbm, ⟨7, _⟩ => ⟨S1024x4x1408, .bf16⟩
  | .hbm, ⟨8, _⟩ => ⟨S1024x5632, .bf16⟩
  | .hbm, ⟨9, _⟩ => ⟨S1024x5632, .f32⟩
  | .hbm, ⟨10, _⟩ => ⟨S_, .f32⟩
  | .hbm, ⟨11, _⟩ => ⟨S4096x1024, .f32⟩
  | .hbm, ⟨12, _⟩ => ⟨S4096x5632, .f32⟩
  | .hbm, ⟨13, _⟩ => ⟨S4096x2816, .f32⟩
  | .hbm, ⟨14, _⟩ => ⟨S4096x2816, .f32⟩
  | .hbm, ⟨15, _⟩ => ⟨S4096x5632, .f32⟩
  | .hbm, ⟨16, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x4096, .bf16⟩
  | .hbm, ⟨3, _⟩ => ⟨S2816x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x512, .f32⟩
  | .local _ .vmem, ⟨3, _⟩ => ⟨S1024x512, .f32⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel8.lean ====
abbrev S4096x1024 : Shape := ⟨2, ![4096, 1024]⟩
abbrev S1024x12288 : Shape := ⟨2, ![1024, 12288]⟩
abbrev S4096x12288 : Shape := ⟨2, ![4096, 12288]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x12288, .bf16⟩
  | .hbm, ⟨2, _⟩ => ⟨S4096x12288, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x12288 : Shape := ⟨2, ![1024, 12288]⟩
abbrev S4096x12288 : Shape := ⟨2, ![4096, 12288]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x12288, .bf16⟩
  | .hbm, ⟨2, _⟩ => ⟨S4096x1024, .f32⟩
  | .hbm, ⟨3, _⟩ => ⟨S1024x12288, .f32⟩
  | .hbm, ⟨4, _⟩ => ⟨S4096x12288, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S1024x4096 : Shape := ⟨2, ![1024, 4096]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x4096, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x2048 : Shape := ⟨2, ![4096, 2048]⟩
abbrev S4096x1024 : Shape := ⟨2, ![4096, 1024]⟩
abbrev S2048x4096 : Shape := ⟨2, ![2048, 4096]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x4096, .bf16⟩
  | .hbm, ⟨3, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x1024 : Shape := ⟨2, ![4096, 1024]⟩
abbrev S1024x4096 : Shape := ⟨2, ![1024, 4096]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x4096, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x512 : Shape := ⟨2, ![1408, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel18.lean ====
abbrev S4096x1024 : Shape := ⟨2, ![4096, 1024]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S2816x4096 : Shape := ⟨2, ![2816, 4096]⟩
abbrev S512x1024 : Shape := ⟨2, ![512, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S1408x512 : Shape := ⟨2, ![1408, 512]⟩
abbrev S1024x1408 : Shape := ⟨2, ![1024, 1408]⟩
abbrev S1x512x1408 : Shape := ⟨3, ![1, 512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S2x4096x2816, .bf16⟩
  | .hbm, ⟨3, _⟩ => ⟨S4096x2816, .bf16⟩
  | .hbm, ⟨4, _⟩ => ⟨S2816x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S1408x512, .bf16⟩
  | .local _ .vmem, ⟨11, _⟩ => ⟨S1408x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference18Ideal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩
abbrev S2816x4096 : Shape := ⟨2, ![2816, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S1024x4x1408, .bf16⟩
  | .hbm, ⟨4, _⟩ => ⟨S1024x5632, .bf16⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | .hbm, ⟨20, _⟩ => ⟨S1x4096x2816, .f32⟩
  | .hbm, ⟨21, _⟩ => ⟨S1x4096x2816, .f32⟩
  | .hbm, ⟨22, _⟩ => ⟨S2x4096x2816, .f32⟩
  | .hbm, ⟨23, _⟩ => ⟨S2x4096x2816, .bf16⟩
  | .hbm, ⟨24, _⟩ => ⟨S2816x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Proof.FwdSpec.lean ====
/- The gated delta rule's chunk recurrence, as extended reals: what the state-passing scan of one head computes. -/
module

public import Idealize.ShloMosaic.Lib.Pointwise

@[expose] public section

noncomputable section

namespace Cert.Scan

open Idealize.ShloMosaic

/-- The operands of the scan, read by chunk, head, and the two coordinates inside a chunk. -/
structure Ops where
  /-- the values the keys are to be bound to, before the state's own prediction is taken off -/
  u : Fin 64 → Fin 16 → Fin 64 → Fin 128 → EReal
  /-- the keys the prediction is read with -/
  w : Fin 64 → Fin 16 → Fin 64 → Fin 128 → EReal
  /-- the decayed queries -/
  qg : Fin 64 → Fin 16 → Fin 64 → Fin 128 → EReal
  /-- the keys, decayed to the chunk's end -/
  ke : Fin 64 → Fin 16 → Fin 64 → Fin 128 → EReal
  /-- the scores inside a chunk -/
  qk : Fin 64 → Fin 16 → Fin 64 → Fin 64 → EReal
  /-- a chunk's decay -/
  dec : Fin 64 → Fin 16 → EReal

/-- Row `c * 64 + t` of an array of 4096 rows. -/
abbrev row (c t : Fin 64) : Fin 4096 := ⟨c.val * 64 + t.val, by omega⟩
/-- Lane `h * 128 + k` of an array of 2048 lanes. -/
abbrev lane (h : Fin 16) (k : Fin 128) : Fin 2048 := ⟨h.val * 128 + k.val, by omega⟩

/-- An array of 4096 rows and 2048 lanes by chunk, head, row of the chunk and lane of the head. -/
abbrev chunked (A : (⟨2, ![4096, 2048]⟩ : Shape).Idx → EReal) (c : Fin 64) (h : Fin 16) (t : Fin 64) (k : Fin 128) : EReal :=
  A (ix2 (row c t) (lane h k))

/-- The scan's operands from the six arrays. -/
abbrev ops (U W QG KE : (⟨2, ![4096, 2048]⟩ : Shape).Idx → EReal) (QK : (⟨4, ![16, 64, 64, 64]⟩ : Shape).Idx → EReal)
    (D : (⟨2, ![64, 16]⟩ : Shape).Idx → EReal) : Ops where
  u := chunked U
  w := chunked W
  qg := chunked QG
  ke := chunked KE
  qk c h t s := QK (ix4 h c t s)
  dec c h := D (ix2 c h)

variable (x : Ops)

/-- What is new in a chunk's values: the values less what a state `S` predicts of them. -/
def vnew (S : Fin 16 → Fin 128 → Fin 128 → EReal) (c : Fin 64) (h : Fin 16) (t : Fin 64) (v : Fin 128) : EReal :=
  x.u c h t v - ∑ k, x.w c h t k * S h k v

/-- A chunk's output from the state before it. -/
def out (S : Fin 16 → Fin 128 → Fin 128 → EReal) (c : Fin 64) (h : Fin 16) (t : Fin 64) (v : Fin 128) : EReal :=
  ∑ k, x.qg c h t k * S h k v + ∑ s, x.qk c h t s * vnew x S c h s v

/-- The state after a chunk from the state before it. -/
def next (S : Fin 16 → Fin 128 → Fin 128 → EReal) (c : Fin 64) (h : Fin 16) (k v : Fin 128) : EReal :=
  S h k v * x.dec c h + ∑ s, x.ke c h s k * vnew x S c h s v

/-- The state before chunk `n`. -/
def state : ℕ → Fin 16 → Fin 128 → Fin 128 → EReal
  | 0 => fun _ _ _ => 0
  | n + 1 => if hn : n < 64 then next x (state n) ⟨n, hn⟩ else fun _ _ _ => 0

theorem state_succ (n : ℕ) (hn : n < 64) : state x (n + 1) = next x (state x n) ⟨n, hn⟩ := by
  rw [state, dif_pos hn]

/-- The chunk of a row, its place in the chunk, the head of a lane, its place in the head. -/
abbrev chunkOf (r : Fin 4096) : Fin 64 := ⟨r.val / 64, by omega⟩
abbrev rowIn (r : Fin 4096) : Fin 64 := ⟨r.val % 64, by omega⟩
abbrev headOf (l : Fin 2048) : Fin 16 := ⟨l.val / 128, by omega⟩
abbrev laneIn (l : Fin 2048) : Fin 128 := ⟨l.val % 128, by omega⟩

/-- The outputs, as one array of rows and lanes. -/
def outs (i : (⟨2, ![4096, 2048]⟩ : Shape).Idx) : EReal :=
  out x (state x (chunkOf (i 0)).val) (chunkOf (i 0)) (headOf (i 1)) (rowIn (i 0)) (laneIn (i 1))

/-- The new values, as one array of rows and lanes. -/
def vnews (i : (⟨2, ![4096, 2048]⟩ : Shape).Idx) : EReal :=
  vnew x (state x (chunkOf (i 0)).val) (chunkOf (i 0)) (headOf (i 1)) (rowIn (i 0)) (laneIn (i 1))

/-- The state before every chunk, by head and chunk. -/
def states (i : (⟨4, ![16, 64, 128, 128]⟩ : Shape).Idx) : EReal :=
  state x (i 1).val (i 0) (i 2) (i 3)

/-- The three arrays at an index given by its coordinates. -/
theorem outs_at {i : (⟨2, ![4096, 2048]⟩ : Shape).Idx} {c : Fin 64} {h : Fin 16} {t : Fin 64} {v : Fin 128}
    (h0 : (i 0).val = c.val * 64 + t.val) (h1 : (i 1).val = h.val * 128 + v.val) : out x (state x c.val) c h t v = outs x i := by
  have e1 : chunkOf (i 0) = c := Fin.ext (by show (i 0).val / 64 = c.val; omega)
  have e2 : rowIn (i 0) = t := Fin.ext (by show (i 0).val % 64 = t.val; omega)
  have e3 : headOf (i 1) = h := Fin.ext (by show (i 1).val / 128 = h.val; omega)
  have e4 : laneIn (i 1) = v := Fin.ext (by show (i 1).val % 128 = v.val; omega)
  rw [outs, e1, e2, e3, e4]

theorem vnews_at {i : (⟨2, ![4096, 2048]⟩ : Shape).Idx} {c : Fin 64} {h : Fin 16} {t : Fin 64} {v : Fin 128}
    (h0 : (i 0).val = c.val * 64 + t.val) (h1 : (i 1).val = h.val * 128 + v.val) : vnew x (state x c.val) c h t v = vnews x i := by
  have e1 : chunkOf (i 0) = c := Fin.ext (by show (i 0).val / 64 = c.val; omega)
  have e2 : rowIn (i 0) = t := Fin.ext (by show (i 0).val % 64 = t.val; omega)
  have e3 : headOf (i 1) = h := Fin.ext (by show (i 1).val / 128 = h.val; omega)
  have e4 : laneIn (i 1) = v := Fin.ext (by show (i 1).val % 128 = v.val; omega)
  rw [vnews, e1, e2, e3, e4]

theorem states_at {i : (⟨4, ![16, 64, 128, 128]⟩ : Shape).Idx} {c : Fin 64} {h : Fin 16} {k v : Fin 128}
    (h0 : (i 0).val = h.val) (h1 : (i 1).val = c.val) (h2 : (i 2).val = k.val) (h3 : (i 3).val = v.val) :
    state x c.val h k v = states x i := by
  have e0 : i 0 = h := Fin.ext h0
  have e2 : i 2 = k := Fin.ext h2
  have e3 : i 3 = v := Fin.ext h3
  rw [states, h1, e0, e2, e3]

end Cert.Scan

end
-- ==== Proof.BackSpec.lean ====
/- The gradient of the gated delta rule's chunk recurrence, as extended reals: from the last chunk to the first, what the
   scan back carries and what it gives of every operand, at saved states. -/
module

public import proofs.«01_k».proof.Proof.FwdSpec

@[expose] public section

noncomputable section

namespace Cert.Scan

open Idealize.ShloMosaic

/-- What the scan back reads: the operands of the scan forth, the state before every chunk, and the outputs' gradient. -/
structure Back where
  /-- the scan's operands -/
  x : Ops
  /-- the state before every chunk, by chunk, head and its two coordinates -/
  s : Fin 64 → Fin 16 → Fin 128 → Fin 128 → EReal
  /-- the gradient of the outputs -/
  g : Fin 64 → Fin 16 → Fin 64 → Fin 128 → EReal

/-- What the scan back reads, from the eight arrays. -/
abbrev back (U W QG KE : (⟨2, ![4096, 2048]⟩ : Shape).Idx → EReal) (QK : (⟨4, ![16, 64, 64, 64]⟩ : Shape).Idx → EReal)
    (D : (⟨2, ![64, 16]⟩ : Shape).Idx → EReal) (S : (⟨4, ![16, 64, 128, 128]⟩ : Shape).Idx → EReal)
    (G : (⟨2, ![4096, 2048]⟩ : Shape).Idx → EReal) : Back where
  x := ops U W QG KE QK D
  s c h k v := S (ix4 h c k v)
  g := chunked G

/-- The gradient of a state, by head and its two coordinates. -/
abbrev Grad := Fin 16 → Fin 128 → Fin 128 → EReal

variable (b : Back)

/-- The new values of a chunk at its saved state. -/
abbrev newAt (c : Fin 64) (h : Fin 16) (t : Fin 64) (v : Fin 128) : EReal := vnew b.x (b.s c) c h t v

/-- The gradient of the new values (which is that of the values), from the gradient `D` of the state after the chunk. -/
def dvn (D : Grad) (c : Fin 64) (h : Fin 16) (t : Fin 64) (v : Fin 128) : EReal :=
  ∑ s, b.x.qk c h s t * b.g c h s v + ∑ k, b.x.ke c h t k * D h k v

/-- The gradient of the keys. -/
def dw (D : Grad) (c : Fin 64) (h : Fin 16) (t : Fin 64) (k : Fin 128) : EReal :=
  -∑ v, dvn b D c h t v * b.s c h k v

/-- The gradient of the decayed queries. -/
def dqg (c : Fin 64) (h : Fin 16) (t : Fin 64) (k : Fin 128) : EReal := ∑ v, b.g c h t v * b.s c h k v

/-- The gradient of the decayed keys. -/
def dke (D : Grad) (c : Fin 64) (h : Fin 16) (t : Fin 64) (k : Fin 128) : EReal := ∑ v, newAt b c h t v * D h k v

/-- The gradient of the scores. -/
def dqk (c : Fin 64) (h : Fin 16) (t s : Fin 64) : EReal := ∑ v, b.g c h t v * newAt b c h s v

/-- The gradient of the decay. -/
def ddec (D : Grad) (c : Fin 64) (h : Fin 16) : EReal := ∑ k, ∑ v, D h k v * b.s c h k v

/-- The gradient of the state before a chunk from that of the state after it. -/
def before (D : Grad) (c : Fin 64) : Grad := fun h k v =>
  ∑ t, b.x.qg c h t k * b.g c h t v + b.x.dec c h * D h k v - ∑ t, b.x.w c h t k * dvn b D c h t v

/-- The chunk the scan back takes at trip `n`. -/
abbrev last (n : Fin 64) : Fin 64 := ⟨63 - n.val, by omega⟩

/-- The gradient of the state after chunk `63 - n`, which the scan back carries into trip `n`. -/
def grad : ℕ → Grad
  | 0 => fun _ _ _ => 0
  | n + 1 => if hn : n < 64 then before b (grad n) (last ⟨n, hn⟩) else fun _ _ _ => 0

theorem grad_succ (n : ℕ) (hn : n < 64) : grad b (n + 1) = before b (grad b n) (last ⟨n, hn⟩) := by
  rw [grad, dif_pos hn]

/-- The gradient of the state after chunk `c`. -/
abbrev gradAfter (c : Fin 64) : Grad := grad b (63 - c.val)

/-! ## The results, as arrays -/

/-- The gradient of the values. -/
def dus (i : (⟨2, ![4096, 2048]⟩ : Shape).Idx) : EReal :=
  dvn b (gradAfter b (chunkOf (i 0))) (chunkOf (i 0)) (headOf (i 1)) (rowIn (i 0)) (laneIn (i 1))
/-- The gradient of the keys. -/
def dws (i : (⟨2, ![4096, 2048]⟩ : Shape).Idx) : EReal :=
  dw b (gradAfter b (chunkOf (i 0))) (chunkOf (i 0)) (headOf (i 1)) (rowIn (i 0)) (laneIn (i 1))
/-- The gradient of the decayed queries. -/
def dqgs (i : (⟨2, ![4096, 2048]⟩ : Shape).Idx) : EReal :=
  dqg b (chunkOf (i 0)) (headOf (i 1)) (rowIn (i 0)) (laneIn (i 1))
/-- The gradient of the decayed keys. -/
def dkes (i : (⟨2, ![4096, 2048]⟩ : Shape).Idx) : EReal :=
  dke b (gradAfter b (chunkOf (i 0))) (chunkOf (i 0)) (headOf (i 1)) (rowIn (i 0)) (laneIn (i 1))
/-- The gradient of the scores. -/
def dqks (i : (⟨4, ![16, 64, 64, 64]⟩ : Shape).Idx) : EReal := dqk b (i 1) (i 0) (i 2) (i 3)
/-- The gradient of the decays, over the lanes. -/
def ddecs (i : (⟨4, ![64, 16, 1, 128]⟩ : Shape).Idx) : EReal := ddec b (gradAfter b (i 0)) (i 0) (i 1)

section coordinates
variable {i : (⟨2, ![4096, 2048]⟩ : Shape).Idx} {c : Fin 64} {h : Fin 16} {t : Fin 64} {v : Fin 128}

theorem coords (h0 : (i 0).val = c.val * 64 + t.val) (h1 : (i 1).val = h.val * 128 + v.val) :
    chunkOf (i 0) = c ∧ rowIn (i 0) = t ∧ headOf (i 1) = h ∧ laneIn (i 1) = v :=
  ⟨Fin.ext (by show (i 0).val / 64 = c.val; omega), Fin.ext (by show (i 0).val % 64 = t.val; omega),
    Fin.ext (by show (i 1).val / 128 = h.val; omega), Fin.ext (by show (i 1).val % 128 = v.val; omega)⟩

theorem dus_at (h0 : (i 0).val = c.val * 64 + t.val) (h1 : (i 1).val = h.val * 128 + v.val) :
    dvn b (gradAfter b c) c h t v = dus b i := by
  obtain ⟨e1, e2, e3, e4⟩ := coords h0 h1
  rw [dus, e1, e2, e3, e4]
theorem dws_at (h0 : (i 0).val = c.val * 64 + t.val) (h1 : (i 1).val = h.val * 128 + v.val) :
    dw b (gradAfter b c) c h t v = dws b i := by
  obtain ⟨e1, e2, e3, e4⟩ := coords h0 h1
  rw [dws, e1, e2, e3, e4]
theorem dqgs_at (h0 : (i 0).val = c.val * 64 + t.val) (h1 : (i 1).val = h.val * 128 + v.val) :
    dqg b c h t v = dqgs b i := by
  obtain ⟨e1, e2, e3, e4⟩ := coords h0 h1
  rw [dqgs, e1, e2, e3, e4]
theorem dkes_at (h0 : (i 0).val = c.val * 64 + t.val) (h1 : (i 1).val = h.val * 128 + v.val) :
    dke b (gradAfter b c) c h t v = dkes b i := by
  obtain ⟨e1, e2, e3, e4⟩ := coords h0 h1
  rw [dkes, e1, e2, e3, e4]
end coordinates

theorem dqks_at {i : (⟨4, ![16, 64, 64, 64]⟩ : Shape).Idx} {c : Fin 64} {h : Fin 16} {t s : Fin 64}
    (h0 : (i 0).val = h.val) (h1 : (i 1).val = c.val) (h2 : (i 2).val = t.val) (h3 : (i 3).val = s.val) :
    dqk b c h t s = dqks b i := by
  obtain rfl : i 0 = h := Fin.ext h0
  obtain rfl : i 1 = c := Fin.ext h1
  obtain rfl : i 2 = t := Fin.ext h2
  obtain rfl : i 3 = s := Fin.ext h3
  rfl

theorem ddecs_at {i : (⟨4, ![64, 16, 1, 128]⟩ : Shape).Idx} {c : Fin 64} {h : Fin 16}
    (h0 : (i 0).val = c.val) (h1 : (i 1).val = h.val) : ddec b (gradAfter b c) c h = ddecs b i := by
  obtain rfl : i 0 = c := Fin.ext h0
  obtain rfl : i 1 = h := Fin.ext h1
  rfl

/-! ## Finite operands -/

/-- Neither infinity. -/
def IsReal (x : EReal) : Prop := ∃ r : ℝ, x = (r : EReal)

theorem IsReal.add {x y : EReal} : IsReal x → IsReal y → IsReal (x + y)
  | ⟨r, hr⟩, ⟨s, hs⟩ => ⟨r + s, by rw [hr, hs, EReal.coe_add]⟩
theorem IsReal.sub {x y : EReal} : IsReal x → IsReal y → IsReal (x - y)
  | ⟨r, hr⟩, ⟨s, hs⟩ => ⟨r - s, by rw [hr, hs, EReal.coe_sub]⟩
theorem IsReal.mul {x y : EReal} : IsReal x → IsReal y → IsReal (x * y)
  | ⟨r, hr⟩, ⟨s, hs⟩ => ⟨r * s, by rw [hr, hs, EReal.coe_mul]⟩
theorem IsReal.zero : IsReal 0 := ⟨0, EReal.coe_zero.symm⟩
theorem IsReal.sum {ι : Type} (s : Finset ι) {f : ι → EReal} (h : ∀ i, IsReal (f i)) : IsReal (∑ i ∈ s, f i) := by
  classical
  induction s using Finset.induction_on with
  | empty => rw [Finset.sum_empty]; exact IsReal.zero
  | insert a s ha ih => rw [Finset.sum_insert ha]; exact (h a).add ih

/-- Of finite terms, the sum of the minuses is minus the sum. -/
theorem sum_neg {ι : Type} (s : Finset ι) {f : ι → EReal} (h : ∀ i, IsReal (f i)) : ∑ i ∈ s, -f i = -∑ i ∈ s, f i := by
  classical
  induction s using Finset.induction_on with
  | empty => rw [Finset.sum_empty, Finset.sum_empty, neg_zero]
  | insert a s ha ih =>
    rw [Finset.sum_insert ha, Finset.sum_insert ha, ih]
    obtain ⟨r, hr⟩ := h a
    obtain ⟨q, hq⟩ := IsReal.sum s h
    rw [hr, hq, ← EReal.coe_neg, ← EReal.coe_neg, ← EReal.coe_add, ← EReal.coe_add, ← EReal.coe_neg, neg_add]

/-- Finite operands of the scan back (the values need not be). -/
structure Finite : Prop where
  w : ∀ c h t k, IsReal (b.x.w c h t k)
  qg : ∀ c h t k, IsReal (b.x.qg c h t k)
  ke : ∀ c h t k, IsReal (b.x.ke c h t k)
  qk : ∀ c h t k, IsReal (b.x.qk c h t k)
  dec : ∀ c h, IsReal (b.x.dec c h)
  s : ∀ c h k v, IsReal (b.s c h k v)
  g : ∀ c h t v, IsReal (b.g c h t v)

variable {b} (hb : Finite b)
include hb

theorem dvn_finite {D : Grad} (hD : ∀ h k v, IsReal (D h k v)) (c h t v) : IsReal (dvn b D c h t v) :=
  (IsReal.sum _ fun _ => (hb.qk _ _ _ _).mul (hb.g _ _ _ _)).add (IsReal.sum _ fun _ => (hb.ke _ _ _ _).mul (hD _ _ _))

theorem before_finite {D : Grad} (hD : ∀ h k v, IsReal (D h k v)) (c h k v) : IsReal (before b D c h k v) :=
  ((IsReal.sum _ fun _ => (hb.qg _ _ _ _).mul (hb.g _ _ _ _)).add ((hb.dec _ _).mul (hD _ _ _))).sub
    (IsReal.sum _ fun _ => (hb.w _ _ _ _).mul (dvn_finite hb hD _ _ _ _))

/-- The gradient the scan back carries is finite. -/
theorem grad_finite (n : ℕ) : ∀ h k v, IsReal (grad b n h k v) := by
  induction n with
  | zero => exact fun _ _ _ => IsReal.zero
  | succ n ih =>
    intro h k v
    rw [grad]
    split
    · exact before_finite hb ih _ h k v
    · exact IsReal.zero

/-- The keys' gradient with the minus under the sum. -/
theorem dw_eq {D : Grad} (hD : ∀ h k v, IsReal (D h k v)) (c h t k) :
    ∑ v, -dvn b D c h t v * b.s c h k v = dw b D c h t k := by
  rw [dw, ← sum_neg _ fun v => (dvn_finite hb hD c h t v).mul (hb.s c h k v)]
  exact Finset.sum_congr rfl fun v _ => EReal.neg_mul _ _

/-- The gradient of the state before a chunk with the minus under the sum, and the terms in the other order. -/
theorem before_eq {D : Grad} (hD : ∀ h k v, IsReal (D h k v)) (c h k v) :
    D h k v * b.x.dec c h + ∑ t, b.g c h t v * b.x.qg c h t k + ∑ t, -dvn b D c h t v * b.x.w c h t k = before b D c h k v := by
  rw [before, sub_eq_add_neg, ← sum_neg _ fun t => (hb.w c h t k).mul (dvn_finite hb hD c h t v)]
  congr 1
  · rw [add_comm, mul_comm]
    congr 1
    exact Finset.sum_congr rfl fun t _ => mul_comm _ _
  · exact Finset.sum_congr rfl fun t _ => by rw [EReal.neg_mul, mul_comm]

end Cert.Scan

end
-- ==== Proof.ScanTiles.lean ====
/- Stores that cover a buffer hide the earlier ones. -/
module

public import Idealize.ShloMosaic.Lib.Pipeline.ReadBack

@[expose] public section

namespace Cert.Scan

open Idealize.ShloMosaic

/-- Stores that cover the buffer hide the earlier ones. -/
theorem canon_over {Val : EltTy → Type} [∀ e, Nonempty (Val e)] {s : Shape} {e : EltTy} (L' : List (View.Piece Val s e)) :
    ∀ (L : List (View.Piece Val s e)) (y : s.Idx), (∃ p ∈ L, y ∈ p.1.set) → View.canon (L ++ L') y = View.canon L y
  | [], _, h => by obtain ⟨p, hp, _⟩ := h; exact absurd hp List.not_mem_nil
  | ⟨r, w⟩ :: L, y, h => by
    by_cases hy : y ∈ r.set
    · obtain ⟨x, rfl⟩ : ∃ x, r.emb x = y := r.exists_idx_of_mem hy
      rw [List.cons_append, View.canon_cons_emb, View.canon_cons_emb]
    · rw [List.cons_append, View.canon_cons_of_not_mem ⟨r, w⟩ _ hy, View.canon_cons_of_not_mem ⟨r, w⟩ _ hy]
      refine canon_over L' L y ?_
      obtain ⟨p, hp, hm⟩ := h
      rcases List.mem_cons.mp hp with rfl | hp
      · exact absurd hm hy
      · exact ⟨p, hp, hm⟩

end Cert.Scan
-- ==== Proof.BackBlock.lean ====
/- What one grid point of the scan back reads of its windows and its scratch, at one index. -/
module

public import proofs.«01_k».proof.Proof.Gen.KernelIdeal.Frame
public import proofs.«01_k».proof.Proof.BackSpec
public import proofs.«01_k».proof.Proof.ScanTiles
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Idealize.ShloMosaic Idealize.ShloMosaic.TcCoe
open Idealize.ShloMosaic.Tactic Idealize.SL.Sem Cert.KernelIdeal.Gen
open Idealize.ShloMosaic.Pipeline (Dat)
open Cert.Scan

variable (m : (ℓ : Loc nD τ sig) → Buf (Elt Ideal) ℓ) (c : Dev nD)

/-- What the scan back reads, off the kernel's arguments. -/
abbrev kback : Back :=
  back (m (c, main_arg0)) (m (c, main_arg1)) (m (c, main_arg2)) (m (c, main_arg3)) (m (c, main_arg4)) (m (c, main_arg5))
    (m (c, main_arg6)) (m (c, main_arg7))

/-- The chunk a point takes. -/
abbrev at_ (t : Fin cfg0.N) : Fin 64 := last t

theorem idx_val : ∀ t : Fin cfg0.N,
    win0_0.index t = ![63 - t.val, 0] ∧ win0_1.index t = ![63 - t.val, 0] ∧ win0_2.index t = ![63 - t.val, 0] ∧
    win0_3.index t = ![63 - t.val, 0] ∧ win0_4.index t = ![0, 63 - t.val, 0, 0] ∧ win0_5.index t = ![63 - t.val, 0, 0, 0] ∧
    win0_6.index t = ![63 - t.val, 0] ∧ win0_7.index t = ![0, 63 - t.val, 0, 0] ∧ win0_8.index t = ![63 - t.val, 0] ∧
    win0_9.index t = ![63 - t.val, 0] ∧ win0_10.index t = ![63 - t.val, 0] ∧ win0_11.index t = ![63 - t.val, 0] ∧
    win0_12.index t = ![0, 63 - t.val, 0, 0] ∧ win0_13.index t = ![63 - t.val, 0, 0, 0] :=
  (by decide +kernel : ∀ t : Fin grid0.N, _)

/-- A box of the scratch read after the zeroing store. -/
theorem read_zeros (r : Rect S16x128x128) (j : r.shape.Idx) (inb : ∀ a, (![0, 0, 0] : Fin 3 → ℕ) a + (![16, 128, 128] : Fin 3 → ℕ) a ≤ S16x128x128.size a) :
    (View.whole cc0_scratch0).readCov (Val := Elt Ideal)
      [⟨Rect.unit ![0, 0, 0] ![16, 128, 128] inb, (broadcast S16x128x128 0 : FVec Ideal S16x128x128 .f32)⟩] r.toLoadRect j = (0 : EReal) := by
  exact congrFun (View.readCov_fill _ inb _ [] r (by decide)) j

/-- The block of the outputs' gradient at a point. -/
theorem g_read (t : Fin cfg0.N) {a a' : Fin 64} {l : Fin 2048} {h : Fin 16} {k : Fin 128} (ha : a.val = a'.val) (hl : l.val = h.val * 128 + k.val) :
    iblk m c 0 t (ix2 a l) = (kback m c).g (at_ t) h a' k := by
  obtain rfl : a = a' := Fin.ext ha
  obtain rfl : l = lane h k := Fin.ext hl
  blk_ext [iblk, V, idx_val t]

/-- The block of keys at a point. -/
theorem w_read (t : Fin cfg0.N) {a a' : Fin 64} {l : Fin 2048} {h : Fin 16} {k : Fin 128} (ha : a.val = a'.val) (hl : l.val = h.val * 128 + k.val) :
    iblk m c 1 t (ix2 a l) = (kback m c).x.w (at_ t) h a' k := by
  obtain rfl : a = a' := Fin.ext ha
  obtain rfl : l = lane h k := Fin.ext hl
  blk_ext [iblk, V, idx_val t]

/-- The block of decayed queries at a point. -/
theorem qg_read (t : Fin cfg0.N) {a a' : Fin 64} {l : Fin 2048} {h : Fin 16} {k : Fin 128} (ha : a.val = a'.val) (hl : l.val = h.val * 128 + k.val) :
    iblk m c 2 t (ix2 a l) = (kback m c).x.qg (at_ t) h a' k := by
  obtain rfl : a = a' := Fin.ext ha
  obtain rfl : l = lane h k := Fin.ext hl
  blk_ext [iblk, V, idx_val t]

/-- The block of decayed keys at a point. -/
theorem ke_read (t : Fin cfg0.N) {a a' : Fin 64} {l : Fin 2048} {h : Fin 16} {k : Fin 128} (ha : a.val = a'.val) (hl : l.val = h.val * 128 + k.val) :
    iblk m c 3 t (ix2 a l) = (kback m c).x.ke (at_ t) h a' k := by
  obtain rfl : a = a' := Fin.ext ha
  obtain rfl : l = lane h k := Fin.ext hl
  blk_ext [iblk, V, idx_val t]

/-- The block of scores at a point. -/
theorem qk_read (t : Fin cfg0.N) {g h : Fin 16} {z : Fin 1} {a a' b b' : Fin 64} (hg : g.val = h.val) (ha : a.val = a'.val) (hb : b.val = b'.val) :
    iblk m c 4 t (ix4 g z a b) = (kback m c).x.qk (at_ t) h a' b' := by
  obtain rfl : g = h := Fin.ext hg
  obtain rfl : a = a' := Fin.ext ha
  obtain rfl : b = b' := Fin.ext hb
  blk_ext [iblk, V, idx_val t]

/-- The block of saved states at a point. -/
theorem s_read (t : Fin cfg0.N) {g h : Fin 16} {z : Fin 1} {a a' b b' : Fin 128} (hg : g.val = h.val) (ha : a.val = a'.val) (hb : b.val = b'.val) :
    iblk m c 7 t (ix4 g z a b) = (kback m c).s (at_ t) h a' b' := by
  obtain rfl : g = h := Fin.ext hg
  obtain rfl : a = a' := Fin.ext ha
  obtain rfl : b = b' := Fin.ext hb
  blk_ext [iblk, V, idx_val t]

/-- The block of decays at a point. -/
theorem dec_read (t : Fin cfg0.N) {z z' : Fin 1} {g h : Fin 16} {v : Fin 128} (hg : g.val = h.val) :
    iblk m c 5 t (ix4 z g z' v) = (kback m c).x.dec (at_ t) h := by
  obtain rfl : g = h := Fin.ext hg
  unfold iblk
  blk_simp [V, idx_val t]
  entry_read
  pointwise
  blk_ext [V, idx_val t]

/-- The new values of a chunk, from equal terms. -/
theorem vnew_of (x : Ops) (S : Fin 16 → Fin 128 → Fin 128 → EReal) (t : Fin 64) (h : Fin 16) (a : Fin 64) (v : Fin 128)
    {Uf : EReal} {Wf Sf : Fin 128 → EReal} (hu : Uf = x.u t h a v) (hw : ∀ k, Wf k = x.w t h a k) (hS : ∀ k, Sf k = S h k v) :
    Uf - ∑ k, Wf k * Sf k = vnew x S t h a v := by
  rw [vnew, hu]; congr 1; exact Finset.sum_congr rfl fun k _ => by rw [hw, hS]

theorem ix4_ext {A B C E : ℕ} {i i' : Fin A} {j j' : Fin B} {k k' : Fin C} {l l' : Fin E} (hi : i = i') (hj : j = j')
    (hk : k = k') (hl : l = l') : ix4 i j k l = ix4 i' j' k' l' := by rw [hi, hj, hk, hl]

/-- The new values the host makes, at one index. -/
theorem vn_entry (q : S4096x2048.Idx) :
    StableHlo.after hostOps0 (fun b => m (c, b)) (Proc.tc.devRef main_v12) q
      = newAt (kback m c) (chunkOf (q 0)) (headOf (q 1)) (rowIn (q 0)) (laneIn (q 1)) := by
  entry_read
  pointwise
  refine vnew_of _ _ _ _ _ _ ?_ (fun k => ?_) (fun k => ?_)
  · exact congrArg _ (congrArg₂ ix2 rfl rfl)
  · exact congrArg _ (congrArg₂ ix2 rfl rfl)
  · exact congrArg (m (c, main_arg6)) (ix4_ext rfl rfl rfl rfl)
/-- The block of new values at a point. -/
theorem vn_read (t : Fin cfg0.N) {a a' : Fin 64} {l : Fin 2048} {h : Fin 16} {v : Fin 128} (ha : a.val = a'.val) (hl : l.val = h.val * 128 + v.val) :
    iblk m c 6 t (ix2 a l) = newAt (kback m c) (at_ t) h a' v := by
  obtain rfl : a = a' := Fin.ext ha
  unfold iblk
  blk_simp [V, idx_val t]
  refine (vn_entry m c _).trans ?_
  obtain ⟨e1, e2, e3, e4⟩ := coords (i := ((win0_6.blk t).view.emb (ix2 a l) : S4096x2048.Idx)) (c := at_ t) (h := h) (t := a) (v := v)
    (by blk_simp [idx_val t]) (by blk_simp [idx_val t]; exact hl)
  rw [e1, e2, e3, e4]

/-- The gradient a point finds in the scratch, by head and the state's two coordinates: nothing at the first point. -/
def held (t : Fin cfg0.N) : Grad := fun h k v =>
  if t.val % 64 = 0 then 0 else (outsAt0 m c (t.val - 1) (Nat.lt_of_le_of_lt (Nat.sub_le _ _) t.isLt)).2.2.2.2.2.2 (ix3 h k v)

theorem held_first (t : Fin cfg0.N) (h0 : t.val % 64 = 0) (h : Fin 16) (k v : Fin 128) : 0 = held m c t h k v := by
  rw [held, if_pos h0]

theorem held_later (t : Fin cfg0.N) (h0 : ¬t.val % 64 = 0) {g h : Fin 16} {k k' v v' : Fin 128} (hg : g.val = h.val)
    (hk : k.val = k'.val) (hv : v.val = v'.val) :
    (outsAt0 m c (t.val - 1) (Nat.lt_of_le_of_lt (Nat.sub_le _ _) t.isLt)).2.2.2.2.2.2 (ix3 g k v) = held m c t h k' v' := by
  obtain rfl : g = h := Fin.ext hg
  obtain rfl : k = k' := Fin.ext hk
  obtain rfl : v = v' := Fin.ext hv
  rw [held, if_neg h0]

variable (b : Back) (D : Grad) (c : Fin 64) (h : Fin 16)

/-- The gradient of a chunk's values, from equal terms. -/
theorem dvn_of (t : Fin 64) (v : Fin 128) {Qf Gf : Fin 64 → EReal} {Kf Df : Fin 128 → EReal}
    (hq : ∀ s, Qf s = b.x.qk c h s t) (hg : ∀ s, Gf s = b.g c h s v) (hk : ∀ k, Kf k = b.x.ke c h t k) (hD : ∀ k, Df k = D h k v) :
    ∑ s, Qf s * Gf s + ∑ k, Kf k * Df k = dvn b D c h t v := by
  rw [dvn]; congr 1
  · exact Finset.sum_congr rfl fun s _ => by rw [hq, hg]
  · exact Finset.sum_congr rfl fun k _ => by rw [hk, hD]

/-- The gradient of a chunk's keys, from equal terms. -/
theorem dw_of (t : Fin 64) (k : Fin 128) {N Sf : Fin 128 → EReal} (hn : ∀ v, N v = dvn b D c h t v) (hs : ∀ v, Sf v = b.s c h k v) :
    0 - ∑ v, N v * Sf v = dw b D c h t k := by
  rw [zero_sub, dw]; congr 1; exact Finset.sum_congr rfl fun v _ => by rw [hn, hs]

/-- The gradient of a chunk's decayed queries, from equal terms. -/
theorem dqg_of (t : Fin 64) (k : Fin 128) {Gf Sf : Fin 128 → EReal} (hg : ∀ v, Gf v = b.g c h t v) (hs : ∀ v, Sf v = b.s c h k v) :
    ∑ v, Gf v * Sf v = dqg b c h t k := by
  rw [dqg]; exact Finset.sum_congr rfl fun v _ => by rw [hg, hs]

/-- The gradient of a chunk's decayed keys, from equal terms. -/
theorem dke_of (t : Fin 64) (k : Fin 128) {N Df : Fin 128 → EReal} (hn : ∀ v, N v = newAt b c h t v) (hD : ∀ v, Df v = D h k v) :
    ∑ v, N v * Df v = dke b D c h t k := by
  rw [dke]; exact Finset.sum_congr rfl fun v _ => by rw [hn, hD]

/-- The gradient of a chunk's scores, from equal terms. -/
theorem dqk_of (t s : Fin 64) {Gf N : Fin 128 → EReal} (hg : ∀ v, Gf v = b.g c h t v) (hn : ∀ v, N v = newAt b c h s v) :
    ∑ v, Gf v * N v = dqk b c h t s := by
  rw [dqk]; exact Finset.sum_congr rfl fun v _ => by rw [hg, hn]

/-- The gradient of a chunk's decay, from equal terms. -/
theorem ddec_of {Df Sf : Fin 128 → Fin 128 → EReal} (hD : ∀ k v, Df k v = D h k v) (hs : ∀ k v, Sf k v = b.s c h k v) :
    ∑ k, ∑ v, Df k v * Sf k v = ddec b D c h := by
  rw [ddec]; exact Finset.sum_congr rfl fun k _ => Finset.sum_congr rfl fun v _ => by rw [hD, hs]

/-- The gradient of the state before a chunk, from equal terms. -/
theorem before_of (k v : Fin 128) {Qf Gf Wf N : Fin 64 → EReal} {E D0 : EReal} (hq : ∀ t, Qf t = b.x.qg c h t k) (hg : ∀ t, Gf t = b.g c h t v)
    (he : E = b.x.dec c h) (hD : D0 = D h k v) (hw : ∀ t, Wf t = b.x.w c h t k) (hn : ∀ t, N t = dvn b D c h t v) :
    ∑ t, Qf t * Gf t + E * D0 - ∑ t, Wf t * N t = before b D c h k v := by
  rw [before, he, hD]; congr 1
  · congr 1; exact Finset.sum_congr rfl fun t _ => by rw [hq, hg]
  · exact Finset.sum_congr rfl fun t _ => by rw [hw, hn]

theorem idx2 (y : S64x2048.Idx) : (y 1).val < 2048 := (y 1).isLt

end Cert.KernelIdeal.Value

end
-- ==== Proof.BackDu.lean ====
/- The gradient of the values one grid point of the scan back stores, head by head. -/
module

public import proofs.«01_k».proof.Proof.BackBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Idealize.ShloMosaic Idealize.ShloMosaic.TcCoe
open Idealize.ShloMosaic.Tactic Idealize.SL.Sem Cert.KernelIdeal.Gen
open Idealize.ShloMosaic.Pipeline (Dat)
open Cert.Scan

variable (m : (ℓ : Loc nD τ sig) → Buf (Elt Ideal) ℓ) (c : Dev nD)

/-- The gradient of the values a point stores. -/
theorem du_A (t : Fin cfg0.N) (hz : t.val % 64 = 0) (y : S64x2048.Idx) :
    (outsAt0 m c t.val t.isLt).1 y = dvn (kback m c) (held m c t) (at_ t) ⟨(y 1).val / 128, by have := idx2 y; omega⟩ (y 0) ⟨(y 1).val % 128, by omega⟩ := by
  rw [outsAt0_A m c t hz]
  frame_out
  canon_tiles x h
  all_goals
    open_payloads
    pointwise
    exact (dvn_of _ _ _ _ _ _ (fun _ => qk_read m c t (by first | rfl | omega | (dsimp only; omega)) (by first | rfl | omega | (dsimp only; omega)) (by first | rfl | omega | (dsimp only; omega))) (fun _ => g_read m c t (by first | rfl | omega | (dsimp only; omega)) (by first | rfl | omega | (dsimp only; omega))) (fun _ => ke_read m c t (by first | rfl | omega | (dsimp only; omega)) (by first | rfl | omega | (dsimp only; omega))) (fun _ => (read_zeros _ _ _).trans (held_first m c t hz _ _ _)))

/-- The gradient of the values a point stores. -/
theorem du_B (t : Fin cfg0.N) (hz : ¬t.val % 64 = 0) (y : S64x2048.Idx) :
    (outsAt0 m c t.val t.isLt).1 y = dvn (kback m c) (held m c t) (at_ t) ⟨(y 1).val / 128, by have := idx2 y; omega⟩ (y 0) ⟨(y 1).val % 128, by omega⟩ := by
  rw [outsAt0_B m c t hz]
  frame_out
  canon_tiles x h
  all_goals
    open_payloads
    pointwise
    rw [read_unread_whole]
    exact (dvn_of _ _ _ _ _ _ (fun _ => qk_read m c t (by first | rfl | omega | (dsimp only; omega)) (by first | rfl | omega | (dsimp only; omega)) (by first | rfl | omega | (dsimp only; omega))) (fun _ => g_read m c t (by first | rfl | omega | (dsimp only; omega)) (by first | rfl | omega | (dsimp only; omega))) (fun _ => ke_read m c t (by first | rfl | omega | (dsimp only; omega)) (by first | rfl | omega | (dsimp only; omega))) (fun _ => held_later m c t hz (by first | rfl | omega | (dsimp only; omega)) (by first | rfl | omega | (dsimp only; omega)) (by first | rfl | omega | (dsimp only; omega))))

end Cert.KernelIdeal.Value

end
-- ==== Proof.BackDw.lean ====
/- The gradient of the keys one grid point of the scan back stores, head by head. -/
module

public import proofs.«01_k».proof.Proof.BackBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Idealize.ShloMosaic Idealize.ShloMosaic.TcCoe
open Idealize.ShloMosaic.Tactic Idealize.SL.Sem Cert.KernelIdeal.Gen
open Idealize.ShloMosaic.Pipeline (Dat)
open Cert.Scan

variable (m : (ℓ : Loc nD τ sig) → Buf (Elt Ideal) ℓ) (c : Dev nD)

/-- The gradient of the keys a point stores. -/
theorem dw_A (t : Fin cfg0.N) (hz : t.val % 64 = 0) (y : S64x2048.Idx) :
    (outsAt0 m c t.val t.isLt).2.1 y = dw (kback m c) (held m c t) (at_ t) ⟨(y 1).val / 128, by have := idx2 y; omega⟩ (y 0) ⟨(y 1).val % 128, by omega⟩ := by
  rw [outsAt0_A m c t hz]
  frame_out
  canon_tiles x h
  all_goals
    open_payloads
    pointwise
    exact dw_of _ _ _ _ _ _ (fun _ => (dvn_of _ _ _ _ _ _ (fun _ => qk_read m c t (by first | rfl | omega | (dsimp only; omega)) (by first | rfl | omega | (dsimp only; omega)) (by first | rfl | omega | (dsimp only; omega))) (fun _ => g_read m c t (by first | rfl | omega | (dsimp only; omega)) (by first | rfl | omega | (dsimp only; omega))) (fun _ => ke_read m c t (by first | rfl | omega | (dsimp only; omega)) (by first | rfl | omega | (dsimp only; omega))) (fun _ => (read_zeros _ _ _).trans (held_first m c t hz _ _ _)))) (fun _ => s_read m c t (by first | rfl | omega | (dsimp only; omega)) (by first | rfl | omega | (dsimp only; omega)) (by first | rfl | omega | (dsimp only; omega)))

/-- The gradient of the keys a point stores. -/
theorem dw_B (t : Fin cfg0.N) (hz : ¬t.val % 64 = 0) (y : S64x2048.Idx) :
    (outsAt0 m c t.val t.isLt).2.1 y = dw (kback m c) (held m c t) (at_ t) ⟨(y 1).val / 128, by have := idx2 y; omega⟩ (y 0) ⟨(y 1).val % 128, by omega⟩ := by
  rw [outsAt0_B m c t hz]
  frame_out
  canon_tiles x h
  all_goals
    open_payloads
    pointwise
    rw [read_unread_whole]
    exact dw_of _ _ _ _ _ _ (fun _ => (dvn_of _ _ _ _ _ _ (fun _ => qk_read m c t (by first | rfl | omega | (dsimp only; omega)) (by first | rfl | omega | (dsimp only; omega)) (by first | rfl | omega | (dsimp only; omega))) (fun _ => g_read m c t (by first | rfl | omega | (dsimp only; omega)) (by first | rfl | omega | (dsimp only; omega))) (fun _ => ke_read m c t (by first | rfl | omega | (dsimp only; omega)) (by first | rfl | omega | (dsimp only; omega))) (fun _ => held_later m c t hz (by first | rfl | omega | (dsimp only; omega)) (by first | rfl | omega | (dsimp only; omega)) (by first | rfl | omega | (dsimp only; omega))))) (fun _ => s_read m c t (by first | rfl | omega | (dsimp only; omega)) (by first | rfl | omega | (dsimp only; omega)) (by first | rfl | omega | (dsimp only; omega)))

end Cert.KernelIdeal.Value

end
-- ==== Proof.BackDqg.lean ====
/- The gradient of the decayed queries one grid point of the scan back stores, head by head. -/
module

public import proofs.«01_k».proof.Proof.BackBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Idealize.ShloMosaic Idealize.ShloMosaic.TcCoe
open Idealize.ShloMosaic.Tactic Idealize.SL.Sem Cert.KernelIdeal.Gen
open Idealize.ShloMosaic.Pipeline (Dat)
open Cert.Scan

variable (m : (ℓ : Loc nD τ sig) → Buf (Elt Ideal) ℓ) (c : Dev nD)

/-- The gradient of the decayed queries a point stores. -/
theorem dqg_A (t : Fin cfg0.N) (hz : t.val % 64 = 0) (y : S64x2048.Idx) :
    (outsAt0 m c t.val t.isLt).2.2.1 y = dqg (kback m c) (at_ t) ⟨(y 1).val / 128, by have := idx2 y; omega⟩ (y 0) ⟨(y 1).val % 128, by omega⟩ := by
  rw [outsAt0_A m c t hz]
  frame_out
  canon_tiles x h
  all_goals
    open_payloads
    pointwise
    exact dqg_of _ _ _ _ _ (fun _ => g_read m c t (by first | rfl | omega | (dsimp only; omega)) (by first | rfl | omega | (dsimp only; omega))) (fun _ => s_read m c t (by first | rfl | omega | (dsimp only; omega)) (by first | rfl | omega | (dsimp only; omega)) (by first | rfl | omega | (dsimp only; omega)))

/-- The gradient of the decayed queries a point stores. -/
theorem dqg_B (t : Fin cfg0.N) (hz : ¬t.val % 64 = 0) (y : S64x2048.Idx) :
    (outsAt0 m c t.val t.isLt).2.2.1 y = dqg (kback m c) (at_ t) ⟨(y 1).val / 128, by have := idx2 y; omega⟩ (y 0) ⟨(y 1).val % 128, by omega⟩ := by
  rw [outsAt0_B m c t hz]
  frame_out
  canon_tiles x h
  all_goals
    open_payloads
    pointwise
    exact dqg_of _ _ _ _ _ (fun _ => g_read m c t (by first | rfl | omega | (dsimp only; omega)) (by first | rfl | omega | (dsimp only; omega))) (fun _ => s_read m c t (by first | rfl | omega | (dsimp only; omega)) (by first | rfl | omega | (dsimp only; omega)) (by first | rfl | omega | (dsimp only; omega)))

end Cert.KernelIdeal.Value

end
-- ==== Proof.BackDke.lean ====
/- The gradient of the decayed keys one grid point of the scan back stores, head by head. -/
module

public import proofs.«01_k».proof.Proof.BackBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Idealize.ShloMosaic Idealize.ShloMosaic.TcCoe
open Idealize.ShloMosaic.Tactic Idealize.SL.Sem Cert.KernelIdeal.Gen
open Idealize.ShloMosaic.Pipeline (Dat)
open Cert.Scan

variable (m : (ℓ : Loc nD τ sig) → Buf (Elt Ideal) ℓ) (c : Dev nD)

/-- The gradient of the decayed keys a point stores. -/
theorem dke_A (t : Fin cfg0.N) (hz : t.val % 64 = 0) (y : S64x2048.Idx) :
    (outsAt0 m c t.val t.isLt).2.2.2.1 y = dke (kback m c) (held m c t) (at_ t) ⟨(y 1).val / 128, by have := idx2 y; omega⟩ (y 0) ⟨(y 1).val % 128, by omega⟩ := by
  rw [outsAt0_A m c t hz]
  frame_out
  canon_tiles x h
  all_goals
    open_payloads
    pointwise
    exact dke_of _ _ _ _ _ _ (fun _ => vn_read m c t (by first | rfl | omega | (dsimp only; omega)) (by first | rfl | omega | (dsimp only; omega))) (fun _ => (read_zeros _ _ _).trans (held_first m c t hz _ _ _))

/-- The gradient of the decayed keys a point stores. -/
theorem dke_B (t : Fin cfg0.N) (hz : ¬t.val % 64 = 0) (y : S64x2048.Idx) :
    (outsAt0 m c t.val t.isLt).2.2.2.1 y = dke (kback m c) (held m c t) (at_ t) ⟨(y 1).val / 128, by have := idx2 y; omega⟩ (y 0) ⟨(y 1).val % 128, by omega⟩ := by
  rw [outsAt0_B m c t hz]
  frame_out
  canon_tiles x h
  all_goals
    open_payloads
    pointwise
    rw [read_unread_whole]
    exact dke_of _ _ _ _ _ _ (fun _ => vn_read m c t (by first | rfl | omega | (dsimp only; omega)) (by first | rfl | omega | (dsimp only; omega))) (fun _ => held_later m c t hz (by first | rfl | omega | (dsimp only; omega)) (by first | rfl | omega | (dsimp only; omega)) (by first | rfl | omega | (dsimp only; omega)))

end Cert.KernelIdeal.Value

end
-- ==== Proof.BackDqk.lean ====
/- The gradient of the scores one grid point of the scan back stores, head by head. -/
module

public import proofs.«01_k».proof.Proof.BackBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Idealize.ShloMosaic Idealize.ShloMosaic.TcCoe
open Idealize.ShloMosaic.Tactic Idealize.SL.Sem Cert.KernelIdeal.Gen
open Idealize.ShloMosaic.Pipeline (Dat)
open Cert.Scan

variable (m : (ℓ : Loc nD τ sig) → Buf (Elt Ideal) ℓ) (c : Dev nD)

/-- The gradient of the scores a point stores. -/
theorem dqk_A (t : Fin cfg0.N) (hz : t.val % 64 = 0) (y : S16x1x64x64.Idx) :
    (outsAt0 m c t.val t.isLt).2.2.2.2.1 y = dqk (kback m c) (at_ t) (y 0) (y 2) (y 3) := by
  rw [outsAt0_A m c t hz]
  frame_out
  canon_tiles x h
  all_goals
    open_payloads
    pointwise
    exact dqk_of _ _ _ _ _ (fun _ => g_read m c t (by first | rfl | omega | (dsimp only; omega)) (by first | rfl | omega | (dsimp only; omega))) (fun _ => vn_read m c t (by first | rfl | omega | (dsimp only; omega)) (by first | rfl | omega | (dsimp only; omega)))

/-- The gradient of the scores a point stores. -/
theorem dqk_B (t : Fin cfg0.N) (hz : ¬t.val % 64 = 0) (y : S16x1x64x64.Idx) :
    (outsAt0 m c t.val t.isLt).2.2.2.2.1 y = dqk (kback m c) (at_ t) (y 0) (y 2) (y 3) := by
  rw [outsAt0_B m c t hz]
  frame_out
  canon_tiles x h
  all_goals
    open_payloads
    pointwise
    exact dqk_of _ _ _ _ _ (fun _ => g_read m c t (by first | rfl | omega | (dsimp only; omega)) (by first | rfl | omega | (dsimp only; omega))) (fun _ => vn_read m c t (by first | rfl | omega | (dsimp only; omega)) (by first | rfl | omega | (dsimp only; omega)))

end Cert.KernelIdeal.Value

end
-- ==== Proof.BackDdec.lean ====
/- The gradient of the decays one grid point of the scan back stores, head by head. -/
module

public import proofs.«01_k».proof.Proof.BackBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Idealize.ShloMosaic Idealize.ShloMosaic.TcCoe
open Idealize.ShloMosaic.Tactic Idealize.SL.Sem Cert.KernelIdeal.Gen
open Idealize.ShloMosaic.Pipeline (Dat)
open Cert.Scan

variable (m : (ℓ : Loc nD τ sig) → Buf (Elt Ideal) ℓ) (c : Dev nD)

/-- The gradient of the decays a point stores. -/
theorem ddec_A (t : Fin cfg0.N) (hz : t.val % 64 = 0) (y : S1x16x1x128.Idx) :
    (outsAt0 m c t.val t.isLt).2.2.2.2.2.1 y = ddec (kback m c) (held m c t) (at_ t) (y 1) := by
  rw [outsAt0_A m c t hz]
  frame_out
  canon_tiles x h
  all_goals
    open_payloads
    pointwise
    exact ddec_of _ _ _ _ (fun _ _ => (read_zeros _ _ _).trans (held_first m c t hz _ _ _)) (fun _ _ => s_read m c t (by first | rfl | omega | (dsimp only; omega)) (by first | rfl | omega | (dsimp only; omega)) (by first | rfl | omega | (dsimp only; omega)))

/-- The gradient of the decays a point stores. -/
theorem ddec_B (t : Fin cfg0.N) (hz : ¬t.val % 64 = 0) (y : S1x16x1x128.Idx) :
    (outsAt0 m c t.val t.isLt).2.2.2.2.2.1 y = ddec (kback m c) (held m c t) (at_ t) (y 1) := by
  rw [outsAt0_B m c t hz]
  frame_out
  canon_tiles x h
  all_goals
    open_payloads
    pointwise
    rw [read_unread_whole]
    exact ddec_of _ _ _ _ (fun _ _ => held_later m c t hz (by first | rfl | omega | (dsimp only; omega)) (by first | rfl | omega | (dsimp only; omega)) (by first | rfl | omega | (dsimp only; omega))) (fun _ _ => s_read m c t (by first | rfl | omega | (dsimp only; omega)) (by first | rfl | omega | (dsimp only; omega)) (by first | rfl | omega | (dsimp only; omega)))

end Cert.KernelIdeal.Value

end
-- ==== Proof.BackState.lean ====
/- The gradient of the state one grid point of the scan back leaves in the scratch for the next, head by head. -/
module

public import proofs.«01_k».proof.Proof.BackBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Idealize.ShloMosaic Idealize.ShloMosaic.TcCoe
open Idealize.ShloMosaic.Tactic Idealize.SL.Sem Cert.KernelIdeal.Gen
open Idealize.ShloMosaic.Pipeline (Dat)
open Cert.Scan

variable (m : (ℓ : Loc nD τ sig) → Buf (Elt Ideal) ℓ) (c : Dev nD)

/-- The gradient of the state a point leaves. -/
theorem st_A (t : Fin cfg0.N) (hz : t.val % 64 = 0) (y : S16x128x128.Idx) :
    (outsAt0 m c t.val t.isLt).2.2.2.2.2.2 y = before (kback m c) (held m c t) (at_ t) (y 0) (y 1) (y 2) := by
  rw [outsAt0_A m c t hz]
  frame_out
  refine (canon_over [_] [_, _, _, _, _, _, _, _, _, _, _, _, _, _, _, _] y (View.cover_of_tiledL _ ![1, 128, 128] (by sl_kernel_rfl) y)).trans ?_
  canon_tiles x h
  all_goals
    open_payloads
    pointwise
    exact before_of _ _ _ _ _ _ (fun _ => qg_read m c t (by first | rfl | omega | (dsimp only; omega)) (by first | rfl | omega | (dsimp only; omega))) (fun _ => g_read m c t (by first | rfl | omega | (dsimp only; omega)) (by first | rfl | omega | (dsimp only; omega))) (dec_read m c t (by first | rfl | omega | (dsimp only; omega))) ((read_zeros _ _ _).trans (held_first m c t hz _ _ _)) (fun _ => w_read m c t (by first | rfl | omega | (dsimp only; omega)) (by first | rfl | omega | (dsimp only; omega))) (fun _ => (dvn_of _ _ _ _ _ _ (fun _ => qk_read m c t (by first | rfl | omega | (dsimp only; omega)) (by first | rfl | omega | (dsimp only; omega)) (by first | rfl | omega | (dsimp only; omega))) (fun _ => g_read m c t (by first | rfl | omega | (dsimp only; omega)) (by first | rfl | omega | (dsimp only; omega))) (fun _ => ke_read m c t (by first | rfl | omega | (dsimp only; omega)) (by first | rfl | omega | (dsimp only; omega))) (fun _ => (read_zeros _ _ _).trans (held_first m c t hz _ _ _))))

/-- The gradient of the state a point leaves. -/
theorem st_B (t : Fin cfg0.N) (hz : ¬t.val % 64 = 0) (y : S16x128x128.Idx) :
    (outsAt0 m c t.val t.isLt).2.2.2.2.2.2 y = before (kback m c) (held m c t) (at_ t) (y 0) (y 1) (y 2) := by
  rw [outsAt0_B m c t hz]
  frame_out
  canon_tiles x h
  all_goals
    open_payloads
    pointwise
    rw [read_unread_whole]
    exact before_of _ _ _ _ _ _ (fun _ => qg_read m c t (by first | rfl | omega | (dsimp only; omega)) (by first | rfl | omega | (dsimp only; omega))) (fun _ => g_read m c t (by first | rfl | omega | (dsimp only; omega)) (by first | rfl | omega | (dsimp only; omega))) (dec_read m c t (by first | rfl | omega | (dsimp only; omega))) (held_later m c t hz (by first | rfl | omega | (dsimp only; omega)) (by first | rfl | omega | (dsimp only; omega)) (by first | rfl | omega | (dsimp only; omega))) (fun _ => w_read m c t (by first | rfl | omega | (dsimp only; omega)) (by first | rfl | omega | (dsimp only; omega))) (fun _ => (dvn_of _ _ _ _ _ _ (fun _ => qk_read m c t (by first | rfl | omega | (dsimp only; omega)) (by first | rfl | omega | (dsimp only; omega)) (by first | rfl | omega | (dsimp only; omega))) (fun _ => g_read m c t (by first | rfl | omega | (dsimp only; omega)) (by first | rfl | omega | (dsimp only; omega))) (fun _ => ke_read m c t (by first | rfl | omega | (dsimp only; omega)) (by first | rfl | omega | (dsimp only; omega))) (fun _ => held_later m c t hz (by first | rfl | omega | (dsimp only; omega)) (by first | rfl | omega | (dsimp only; omega)) (by first | rfl | omega | (dsimp only; omega)))))

end Cert.KernelIdeal.Value

end
-- ==== Proof.BackKernel.lean ====
/- The scan back's results: the scratch carries the state's gradient from a chunk to the one before, and the six arrays hold
   the gradients of the operands. -/
module

public import proofs.«01_k».proof.Proof.BackDu
public import proofs.«01_k».proof.Proof.BackDw
public import proofs.«01_k».proof.Proof.BackDqg
public import proofs.«01_k».proof.Proof.BackDke
public import proofs.«01_k».proof.Proof.BackDqk
public import proofs.«01_k».proof.Proof.BackDdec
public import proofs.«01_k».proof.Proof.BackState
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Idealize.ShloMosaic Idealize.ShloMosaic.TcCoe
open Idealize.ShloMosaic.Tactic Idealize.SL.Sem Cert.KernelIdeal.Gen
open Idealize.ShloMosaic.Pipeline (Dat)
open Cert.Scan

variable (m : (ℓ : Loc nD τ sig) → Buf (Elt Ideal) ℓ) (c : Dev nD)

theorem du_point (t : Fin cfg0.N) (y : S64x2048.Idx) :
    (outsAt0 m c t.val t.isLt).1 y = dvn (kback m c) (held m c t) (at_ t) ⟨(y 1).val / 128, by have := idx2 y; omega⟩ (y 0) ⟨(y 1).val % 128, by omega⟩ := by
  by_cases h : t.val % 64 = 0
  · exact du_A m c t h y
  · exact du_B m c t h y

theorem dw_point (t : Fin cfg0.N) (y : S64x2048.Idx) :
    (outsAt0 m c t.val t.isLt).2.1 y = dw (kback m c) (held m c t) (at_ t) ⟨(y 1).val / 128, by have := idx2 y; omega⟩ (y 0) ⟨(y 1).val % 128, by omega⟩ := by
  by_cases h : t.val % 64 = 0
  · exact dw_A m c t h y
  · exact dw_B m c t h y

theorem dqg_point (t : Fin cfg0.N) (y : S64x2048.Idx) :
    (outsAt0 m c t.val t.isLt).2.2.1 y = dqg (kback m c) (at_ t) ⟨(y 1).val / 128, by have := idx2 y; omega⟩ (y 0) ⟨(y 1).val % 128, by omega⟩ := by
  by_cases h : t.val % 64 = 0
  · exact dqg_A m c t h y
  · exact dqg_B m c t h y

theorem dke_point (t : Fin cfg0.N) (y : S64x2048.Idx) :
    (outsAt0 m c t.val t.isLt).2.2.2.1 y = dke (kback m c) (held m c t) (at_ t) ⟨(y 1).val / 128, by have := idx2 y; omega⟩ (y 0) ⟨(y 1).val % 128, by omega⟩ := by
  by_cases h : t.val % 64 = 0
  · exact dke_A m c t h y
  · exact dke_B m c t h y

theorem dqk_point (t : Fin cfg0.N) (y : S16x1x64x64.Idx) :
    (outsAt0 m c t.val t.isLt).2.2.2.2.1 y = dqk (kback m c) (at_ t) (y 0) (y 2) (y 3) := by
  by_cases h : t.val % 64 = 0
  · exact dqk_A m c t h y
  · exact dqk_B m c t h y

theorem ddec_point (t : Fin cfg0.N) (y : S1x16x1x128.Idx) :
    (outsAt0 m c t.val t.isLt).2.2.2.2.2.1 y = ddec (kback m c) (held m c t) (at_ t) (y 1) := by
  by_cases h : t.val % 64 = 0
  · exact ddec_A m c t h y
  · exact ddec_B m c t h y

theorem st_point (t : Fin cfg0.N) (y : S16x128x128.Idx) :
    (outsAt0 m c t.val t.isLt).2.2.2.2.2.2 y = before (kback m c) (held m c t) (at_ t) (y 0) (y 1) (y 2) := by
  by_cases h : t.val % 64 = 0
  · exact st_A m c t h y
  · exact st_B m c t h y

/-- The scratch before point `n` is the gradient the scan back carries. -/
theorem held_eq (n : ℕ) (hn : n < cfg0.N) : held m c ⟨n, hn⟩ = grad (kback m c) n := by
  induction n with
  | zero => funext h k v; rw [held, if_pos (by rfl)]; rfl
  | succ n ih =>
    have hn' : n + 1 < 64 := hn
    funext h k v
    rw [held, if_neg (by dsimp only; omega), grad_succ _ n (by omega), ← ih (by omega)]
    exact st_point m c ⟨n, by omega⟩ (ix3 h k v)

theorem held_grad (t : Fin cfg0.N) : held m c t = gradAfter (kback m c) (at_ t) := by
  have ht : t.val < 64 := t.isLt
  rw [show gradAfter (kback m c) (at_ t) = grad (kback m c) t.val from congrArg (grad (kback m c)) (by show 63 - (63 - t.val) = t.val; omega)]
  exact held_eq m c t.val t.isLt

theorem final_du : (dats m 0 c).arrAt 8 cfg0.N = dus (kback m c) := by
  refine (dats m 0 c).arrAt_eq_of_covers 8 _ (by decide +kernel) fun t _ y => ?_
  blk_simp
  rw [after0_8]
  refine (du_point m c t y).trans ?_
  rw [held_grad]
  refine dus_at (kback m c) ?_ ?_
  · blk_simp [idx_val t]
  · blk_simp [idx_val t]
    exact (Nat.div_add_mod' _ 128).symm

theorem final_dw : (dats m 0 c).arrAt 9 cfg0.N = dws (kback m c) := by
  refine (dats m 0 c).arrAt_eq_of_covers 9 _ (by decide +kernel) fun t _ y => ?_
  blk_simp
  rw [after0_9]
  refine (dw_point m c t y).trans ?_
  rw [held_grad]
  refine dws_at (kback m c) ?_ ?_
  · blk_simp [idx_val t]
  · blk_simp [idx_val t]
    exact (Nat.div_add_mod' _ 128).symm

theorem final_dqg : (dats m 0 c).arrAt 10 cfg0.N = dqgs (kback m c) := by
  refine (dats m 0 c).arrAt_eq_of_covers 10 _ (by decide +kernel) fun t _ y => ?_
  blk_simp
  rw [after0_10]
  refine (dqg_point m c t y).trans ?_
  refine dqgs_at (kback m c) ?_ ?_
  · blk_simp [idx_val t]
  · blk_simp [idx_val t]
    exact (Nat.div_add_mod' _ 128).symm

theorem final_dke : (dats m 0 c).arrAt 11 cfg0.N = dkes (kback m c) := by
  refine (dats m 0 c).arrAt_eq_of_covers 11 _ (by decide +kernel) fun t _ y => ?_
  blk_simp
  rw [after0_11]
  refine (dke_point m c t y).trans ?_
  rw [held_grad]
  refine dkes_at (kback m c) ?_ ?_
  · blk_simp [idx_val t]
  · blk_simp [idx_val t]
    exact (Nat.div_add_mod' _ 128).symm

theorem final_dqk : (dats m 0 c).arrAt 12 cfg0.N = dqks (kback m c) := by
  refine (dats m 0 c).arrAt_eq_of_covers 12 _ (by decide +kernel) fun t _ y => ?_
  blk_simp
  rw [after0_12]
  refine (dqk_point m c t y).trans ?_
  refine dqks_at (kback m c) (c := at_ t) ?_ ?_ ?_ ?_
  · blk_simp [idx_val t]
  · blk_simp [idx_val t]
  · blk_simp [idx_val t]
  · blk_simp [idx_val t]

theorem final_ddec : (dats m 0 c).arrAt 13 cfg0.N = ddecs (kback m c) := by
  refine (dats m 0 c).arrAt_eq_of_covers 13 _ (by decide +kernel) fun t _ y => ?_
  blk_simp
  rw [after0_13]
  refine (ddec_point m c t y).trans ?_
  rw [held_grad]
  refine ddecs_at (kback m c) (c := at_ t) ?_ ?_
  · blk_simp [idx_val t]
  · blk_simp [idx_val t]

end Cert.KernelIdeal.Value

end
-- ==== Proof.ScanSlices.lean ====
/- One chunk of a stack of 64 chunks, taken out or put in at a chunk's number: what a scan's trip does with its operands and
   its results. -/
module

public import Idealize.ShloMosaic.Lib.Pointwise

@[expose] public section

set_option maxRecDepth 16384

noncomputable section

namespace Cert.Scan

open Idealize.ShloMosaic

/-- A chunk's number as a word, read back. -/
theorem toInt_chunk (n : Fin 64) : (BitVec.ofNat 32 n.val).toInt = (n.val : Int) := by
  have := n.isLt
  rw [BitVec.toInt_eq_toNat_of_lt] <;> simp only [BitVec.toNat_ofNat] <;> omega

theorem start5 (n : Fin 64) {i : IVec ⟨0, ![]⟩ 32} (hi : i = fun _ => BitVec.ofNat 32 n.val) (q : (⟨0, ![]⟩ : Shape).Idx) :
    (fun k => ((![i, constantI ⟨0, ![]⟩ 32 0#32, constantI ⟨0, ![]⟩ 32 0#32, constantI ⟨0, ![]⟩ 32 0#32,
      constantI ⟨0, ![]⟩ 32 0#32] : Fin 5 → IVec ⟨0, ![]⟩ 32) k q).toInt) = ![(n.val : Int), 0, 0, 0, 0] := by
  subst hi
  funext k
  fin_cases k
  · exact toInt_chunk n
  all_goals rfl

theorem start3 (n : Fin 64) {i : IVec ⟨0, ![]⟩ 32} (hi : i = fun _ => BitVec.ofNat 32 n.val) (q : (⟨0, ![]⟩ : Shape).Idx) :
    (fun k => ((![i, constantI ⟨0, ![]⟩ 32 0#32, constantI ⟨0, ![]⟩ 32 0#32] : Fin 3 → IVec ⟨0, ![]⟩ 32) k q).toInt)
      = ![(n.val : Int), 0, 0] := by
  subst hi
  funext k
  fin_cases k
  · exact toInt_chunk n
  all_goals rfl

/-- Where a [64, 128] chunk starts in its stack. -/
theorem clamp128 (n : Fin 64) (e : 5 = 5) :
    (Host.clampedStart ⟨5, ![64, 1, 16, 64, 128]⟩ ⟨5, ![1, 1, 16, 64, 128]⟩ e ![(n.val : Int), 0, 0, 0, 0] 0 = n.val
      ∧ Host.clampedStart ⟨5, ![64, 1, 16, 64, 128]⟩ ⟨5, ![1, 1, 16, 64, 128]⟩ e ![(n.val : Int), 0, 0, 0, 0] 1 = 0
      ∧ Host.clampedStart ⟨5, ![64, 1, 16, 64, 128]⟩ ⟨5, ![1, 1, 16, 64, 128]⟩ e ![(n.val : Int), 0, 0, 0, 0] 2 = 0)
      ∧ Host.clampedStart ⟨5, ![64, 1, 16, 64, 128]⟩ ⟨5, ![1, 1, 16, 64, 128]⟩ e ![(n.val : Int), 0, 0, 0, 0] 3 = 0
      ∧ Host.clampedStart ⟨5, ![64, 1, 16, 64, 128]⟩ ⟨5, ![1, 1, 16, 64, 128]⟩ e ![(n.val : Int), 0, 0, 0, 0] 4 = 0 := by
  have hn := n.isLt
  refine ⟨⟨?_, rfl, rfl⟩, rfl, rfl⟩
  show (min (max (n.val : Int) 0) ((63 : Nat) : Int)).toNat = n.val
  omega

/-- Taking chunk `n` out of a stack of [64, 128] chunks. -/
theorem slice128_apply {α : Type} (A : (⟨5, ![64, 1, 16, 64, 128]⟩ : Shape).Idx → α) (i : IVec ⟨0, ![]⟩ 32) (n : Fin 64)
    (hi : i = fun _ => BitVec.ofNat 32 n.val) (q : (⟨0, ![]⟩ : Shape).Idx)
    (hs : (⟨5, ![64, 1, 16, 64, 128]⟩ : Shape).Slices (fun _ => 0) ⟨5, ![1, 1, 16, 64, 128]⟩) (hc : (⟨5, ![1, 1, 16, 64, 128]⟩ : Shape).ShapeCasts ⟨4, ![1, 16, 64, 128]⟩)
    (h : Fin 16) (t : Fin 64) (k : Fin 128) :
    shapeCast ⟨4, ![1, 16, 64, 128]⟩ (Host.dynamicSlice ⟨5, ![1, 1, 16, 64, 128]⟩ A (fun k => ((![i, constantI ⟨0, ![]⟩ 32 0#32, constantI ⟨0, ![]⟩ 32 0#32,
      constantI ⟨0, ![]⟩ 32 0#32, constantI ⟨0, ![]⟩ 32 0#32] : Fin 5 → IVec ⟨0, ![]⟩ 32) k q).toInt) hs) hc (ix4 0 h t k)
      = A (ix5 n 0 h t k) := by
  obtain ⟨⟨e0, e1, e2⟩, e3, e4⟩ := clamp128 n rfl
  rw [start5 n hi]
  pointwise
  simp only [e0, e1, e2, e3, e4, Nat.zero_add]
  rfl

/-- Putting chunk `n` into a stack of [64, 128] chunks. -/
theorem put128_apply {α : Type} (A : (⟨5, ![64, 1, 16, 64, 128]⟩ : Shape).Idx → α) (X : (⟨4, ![1, 16, 64, 128]⟩ : Shape).Idx → α) (i : IVec ⟨0, ![]⟩ 32) (n : Fin 64)
    (hi : i = fun _ => BitVec.ofNat 32 n.val) (q : (⟨0, ![]⟩ : Shape).Idx)
    (hs : (⟨5, ![64, 1, 16, 64, 128]⟩ : Shape).Slices (fun _ => 0) ⟨5, ![1, 1, 16, 64, 128]⟩) (hb : (⟨4, ![1, 16, 64, 128]⟩ : Shape).BroadcastsInDim ⟨5, ![1, 1, 16, 64, 128]⟩ ![1, 2, 3, 4])
    (j : Fin 64) (h : Fin 16) (t : Fin 64) (k : Fin 128) :
    Host.dynamicUpdateSlice A (broadcastInDim ⟨5, ![1, 1, 16, 64, 128]⟩ ![1, 2, 3, 4] hb X) (fun k => ((![i, constantI ⟨0, ![]⟩ 32 0#32,
      constantI ⟨0, ![]⟩ 32 0#32, constantI ⟨0, ![]⟩ 32 0#32, constantI ⟨0, ![]⟩ 32 0#32] : Fin 5 → IVec ⟨0, ![]⟩ 32) k q).toInt) hs
      (ix5 j 0 h t k) = if j = n then X (ix4 0 h t k) else A (ix5 j 0 h t k) := by
  obtain ⟨⟨e0, e1, e2⟩, e3, e4⟩ := clamp128 n rfl
  rw [start5 n hi]
  pointwise
  simp only [e0, e1, e2, e3, e4, Nat.zero_add, Nat.sub_zero]
  by_cases hj : j = n
  · subst hj
    rw [if_pos rfl, dif_pos (by omega)]
  · rw [if_neg hj, dif_neg]
    intro hh
    exact hj (Fin.ext (by omega))

/-- Where a [64, 64] chunk starts in its stack. -/
theorem clamp64 (n : Fin 64) (e : 5 = 5) :
    (Host.clampedStart ⟨5, ![64, 1, 16, 64, 64]⟩ ⟨5, ![1, 1, 16, 64, 64]⟩ e ![(n.val : Int), 0, 0, 0, 0] 0 = n.val
      ∧ Host.clampedStart ⟨5, ![64, 1, 16, 64, 64]⟩ ⟨5, ![1, 1, 16, 64, 64]⟩ e ![(n.val : Int), 0, 0, 0, 0] 1 = 0
      ∧ Host.clampedStart ⟨5, ![64, 1, 16, 64, 64]⟩ ⟨5, ![1, 1, 16, 64, 64]⟩ e ![(n.val : Int), 0, 0, 0, 0] 2 = 0)
      ∧ Host.clampedStart ⟨5, ![64, 1, 16, 64, 64]⟩ ⟨5, ![1, 1, 16, 64, 64]⟩ e ![(n.val : Int), 0, 0, 0, 0] 3 = 0
      ∧ Host.clampedStart ⟨5, ![64, 1, 16, 64, 64]⟩ ⟨5, ![1, 1, 16, 64, 64]⟩ e ![(n.val : Int), 0, 0, 0, 0] 4 = 0 := by
  have hn := n.isLt
  refine ⟨⟨?_, rfl, rfl⟩, rfl, rfl⟩
  show (min (max (n.val : Int) 0) ((63 : Nat) : Int)).toNat = n.val
  omega

/-- Taking chunk `n` out of a stack of [64, 64] chunks. -/
theorem slice64_apply {α : Type} (A : (⟨5, ![64, 1, 16, 64, 64]⟩ : Shape).Idx → α) (i : IVec ⟨0, ![]⟩ 32) (n : Fin 64)
    (hi : i = fun _ => BitVec.ofNat 32 n.val) (q : (⟨0, ![]⟩ : Shape).Idx)
    (hs : (⟨5, ![64, 1, 16, 64, 64]⟩ : Shape).Slices (fun _ => 0) ⟨5, ![1, 1, 16, 64, 64]⟩) (hc : (⟨5, ![1, 1, 16, 64, 64]⟩ : Shape).ShapeCasts ⟨4, ![1, 16, 64, 64]⟩)
    (h : Fin 16) (t : Fin 64) (k : Fin 64) :
    shapeCast ⟨4, ![1, 16, 64, 64]⟩ (Host.dynamicSlice ⟨5, ![1, 1, 16, 64, 64]⟩ A (fun k => ((![i, constantI ⟨0, ![]⟩ 32 0#32, constantI ⟨0, ![]⟩ 32 0#32,
      constantI ⟨0, ![]⟩ 32 0#32, constantI ⟨0, ![]⟩ 32 0#32] : Fin 5 → IVec ⟨0, ![]⟩ 32) k q).toInt) hs) hc (ix4 0 h t k)
      = A (ix5 n 0 h t k) := by
  obtain ⟨⟨e0, e1, e2⟩, e3, e4⟩ := clamp64 n rfl
  rw [start5 n hi]
  pointwise
  simp only [e0, e1, e2, e3, e4, Nat.zero_add]
  rfl

/-- Putting chunk `n` into a stack of [64, 64] chunks. -/
theorem put64_apply {α : Type} (A : (⟨5, ![64, 1, 16, 64, 64]⟩ : Shape).Idx → α) (X : (⟨4, ![1, 16, 64, 64]⟩ : Shape).Idx → α) (i : IVec ⟨0, ![]⟩ 32) (n : Fin 64)
    (hi : i = fun _ => BitVec.ofNat 32 n.val) (q : (⟨0, ![]⟩ : Shape).Idx)
    (hs : (⟨5, ![64, 1, 16, 64, 64]⟩ : Shape).Slices (fun _ => 0) ⟨5, ![1, 1, 16, 64, 64]⟩) (hb : (⟨4, ![1, 16, 64, 64]⟩ : Shape).BroadcastsInDim ⟨5, ![1, 1, 16, 64, 64]⟩ ![1, 2, 3, 4])
    (j : Fin 64) (h : Fin 16) (t : Fin 64) (k : Fin 64) :
    Host.dynamicUpdateSlice A (broadcastInDim ⟨5, ![1, 1, 16, 64, 64]⟩ ![1, 2, 3, 4] hb X) (fun k => ((![i, constantI ⟨0, ![]⟩ 32 0#32,
      constantI ⟨0, ![]⟩ 32 0#32, constantI ⟨0, ![]⟩ 32 0#32, constantI ⟨0, ![]⟩ 32 0#32] : Fin 5 → IVec ⟨0, ![]⟩ 32) k q).toInt) hs
      (ix5 j 0 h t k) = if j = n then X (ix4 0 h t k) else A (ix5 j 0 h t k) := by
  obtain ⟨⟨e0, e1, e2⟩, e3, e4⟩ := clamp64 n rfl
  rw [start5 n hi]
  pointwise
  simp only [e0, e1, e2, e3, e4, Nat.zero_add, Nat.sub_zero]
  by_cases hj : j = n
  · subst hj
    rw [if_pos rfl, dif_pos (by omega)]
  · rw [if_neg hj, dif_neg]
    intro hh
    exact hj (Fin.ext (by omega))

/-- Where a [128, 128] chunk starts in its stack. -/
theorem clampS (n : Fin 64) (e : 5 = 5) :
    (Host.clampedStart ⟨5, ![64, 1, 16, 128, 128]⟩ ⟨5, ![1, 1, 16, 128, 128]⟩ e ![(n.val : Int), 0, 0, 0, 0] 0 = n.val
      ∧ Host.clampedStart ⟨5, ![64, 1, 16, 128, 128]⟩ ⟨5, ![1, 1, 16, 128, 128]⟩ e ![(n.val : Int), 0, 0, 0, 0] 1 = 0
      ∧ Host.clampedStart ⟨5, ![64, 1, 16, 128, 128]⟩ ⟨5, ![1, 1, 16, 128, 128]⟩ e ![(n.val : Int), 0, 0, 0, 0] 2 = 0)
      ∧ Host.clampedStart ⟨5, ![64, 1, 16, 128, 128]⟩ ⟨5, ![1, 1, 16, 128, 128]⟩ e ![(n.val : Int), 0, 0, 0, 0] 3 = 0
      ∧ Host.clampedStart ⟨5, ![64, 1, 16, 128, 128]⟩ ⟨5, ![1, 1, 16, 128, 128]⟩ e ![(n.val : Int), 0, 0, 0, 0] 4 = 0 := by
  have hn := n.isLt
  refine ⟨⟨?_, rfl, rfl⟩, rfl, rfl⟩
  show (min (max (n.val : Int) 0) ((63 : Nat) : Int)).toNat = n.val
  omega

/-- Taking chunk `n` out of a stack of [128, 128] chunks. -/
theorem sliceS_apply {α : Type} (A : (⟨5, ![64, 1, 16, 128, 128]⟩ : Shape).Idx → α) (i : IVec ⟨0, ![]⟩ 32) (n : Fin 64)
    (hi : i = fun _ => BitVec.ofNat 32 n.val) (q : (⟨0, ![]⟩ : Shape).Idx)
    (hs : (⟨5, ![64, 1, 16, 128, 128]⟩ : Shape).Slices (fun _ => 0) ⟨5, ![1, 1, 16, 128, 128]⟩) (hc : (⟨5, ![1, 1, 16, 128, 128]⟩ : Shape).ShapeCasts ⟨4, ![1, 16, 128, 128]⟩)
    (h : Fin 16) (t : Fin 128) (k : Fin 128) :
    shapeCast ⟨4, ![1, 16, 128, 128]⟩ (Host.dynamicSlice ⟨5, ![1, 1, 16, 128, 128]⟩ A (fun k => ((![i, constantI ⟨0, ![]⟩ 32 0#32, constantI ⟨0, ![]⟩ 32 0#32,
      constantI ⟨0, ![]⟩ 32 0#32, constantI ⟨0, ![]⟩ 32 0#32] : Fin 5 → IVec ⟨0, ![]⟩ 32) k q).toInt) hs) hc (ix4 0 h t k)
      = A (ix5 n 0 h t k) := by
  obtain ⟨⟨e0, e1, e2⟩, e3, e4⟩ := clampS n rfl
  rw [start5 n hi]
  pointwise
  simp only [e0, e1, e2, e3, e4, Nat.zero_add]
  rfl

/-- Putting chunk `n` into a stack of [128, 128] chunks. -/
theorem putS_apply {α : Type} (A : (⟨5, ![64, 1, 16, 128, 128]⟩ : Shape).Idx → α) (X : (⟨4, ![1, 16, 128, 128]⟩ : Shape).Idx → α) (i : IVec ⟨0, ![]⟩ 32) (n : Fin 64)
    (hi : i = fun _ => BitVec.ofNat 32 n.val) (q : (⟨0, ![]⟩ : Shape).Idx)
    (hs : (⟨5, ![64, 1, 16, 128, 128]⟩ : Shape).Slices (fun _ => 0) ⟨5, ![1, 1, 16, 128, 128]⟩) (hb : (⟨4, ![1, 16, 128, 128]⟩ : Shape).BroadcastsInDim ⟨5, ![1, 1, 16, 128, 128]⟩ ![1, 2, 3, 4])
    (j : Fin 64) (h : Fin 16) (t : Fin 128) (k : Fin 128) :
    Host.dynamicUpdateSlice A (broadcastInDim ⟨5, ![1, 1, 16, 128, 128]⟩ ![1, 2, 3, 4] hb X) (fun k => ((![i, constantI ⟨0, ![]⟩ 32 0#32,
      constantI ⟨0, ![]⟩ 32 0#32, constantI ⟨0, ![]⟩ 32 0#32, constantI ⟨0, ![]⟩ 32 0#32] : Fin 5 → IVec ⟨0, ![]⟩ 32) k q).toInt) hs
      (ix5 j 0 h t k) = if j = n then X (ix4 0 h t k) else A (ix5 j 0 h t k) := by
  obtain ⟨⟨e0, e1, e2⟩, e3, e4⟩ := clampS n rfl
  rw [start5 n hi]
  pointwise
  simp only [e0, e1, e2, e3, e4, Nat.zero_add, Nat.sub_zero]
  by_cases hj : j = n
  · subst hj
    rw [if_pos rfl, dif_pos (by omega)]
  · rw [if_neg hj, dif_neg]
    intro hh
    exact hj (Fin.ext (by omega))

/-- Where a chunk's 16 numbers start in their stack. -/
theorem clampD (n : Fin 64) (e : 3 = 3) :
    Host.clampedStart ⟨3, ![64, 1, 16]⟩ ⟨3, ![1, 1, 16]⟩ e ![(n.val : Int), 0, 0] 0 = n.val
      ∧ Host.clampedStart ⟨3, ![64, 1, 16]⟩ ⟨3, ![1, 1, 16]⟩ e ![(n.val : Int), 0, 0] 1 = 0
      ∧ Host.clampedStart ⟨3, ![64, 1, 16]⟩ ⟨3, ![1, 1, 16]⟩ e ![(n.val : Int), 0, 0] 2 = 0 := by
  have hn := n.isLt
  refine ⟨?_, rfl, rfl⟩
  show (min (max (n.val : Int) 0) ((63 : Nat) : Int)).toNat = n.val
  omega

/-- Taking chunk `n`'s number of every head. -/
theorem sliceD_apply {α : Type} (A : (⟨3, ![64, 1, 16]⟩ : Shape).Idx → α) (i : IVec ⟨0, ![]⟩ 32) (n : Fin 64)
    (hi : i = fun _ => BitVec.ofNat 32 n.val) (q : (⟨0, ![]⟩ : Shape).Idx)
    (hs : (⟨3, ![64, 1, 16]⟩ : Shape).Slices (fun _ => 0) ⟨3, ![1, 1, 16]⟩)
    (hc : (⟨3, ![1, 1, 16]⟩ : Shape).ShapeCasts ⟨2, ![1, 16]⟩) (h : Fin 16) :
    shapeCast ⟨2, ![1, 16]⟩ (Host.dynamicSlice ⟨3, ![1, 1, 16]⟩ A (fun k => ((![i, constantI ⟨0, ![]⟩ 32 0#32,
      constantI ⟨0, ![]⟩ 32 0#32] : Fin 3 → IVec ⟨0, ![]⟩ 32) k q).toInt) hs) hc (ix2 0 h) = A (ix3 n 0 h) := by
  obtain ⟨e0, e1, e2⟩ := clampD n rfl
  rw [start3 n hi]
  pointwise
  simp only [e0, e1, e2, Nat.zero_add]
  rfl

/-- Putting chunk `n`'s number of every head. -/
theorem putD_apply {α : Type} (A : (⟨3, ![64, 1, 16]⟩ : Shape).Idx → α) (X : (⟨2, ![1, 16]⟩ : Shape).Idx → α) (i : IVec ⟨0, ![]⟩ 32)
    (n : Fin 64) (hi : i = fun _ => BitVec.ofNat 32 n.val) (q : (⟨0, ![]⟩ : Shape).Idx)
    (hs : (⟨3, ![64, 1, 16]⟩ : Shape).Slices (fun _ => 0) ⟨3, ![1, 1, 16]⟩)
    (hb : (⟨2, ![1, 16]⟩ : Shape).BroadcastsInDim ⟨3, ![1, 1, 16]⟩ ![1, 2]) (j : Fin 64) (h : Fin 16) :
    Host.dynamicUpdateSlice A (broadcastInDim ⟨3, ![1, 1, 16]⟩ ![1, 2] hb X) (fun k => ((![i, constantI ⟨0, ![]⟩ 32 0#32,
      constantI ⟨0, ![]⟩ 32 0#32] : Fin 3 → IVec ⟨0, ![]⟩ 32) k q).toInt) hs (ix3 j 0 h)
      = if j = n then X (ix2 0 h) else A (ix3 j 0 h) := by
  obtain ⟨e0, e1, e2⟩ := clampD n rfl
  rw [start3 n hi]
  pointwise
  simp only [e0, e1, e2, Nat.zero_add, Nat.sub_zero]
  by_cases hj : j = n
  · subst hj
    rw [if_pos rfl, dif_pos (by omega)]
  · rw [if_neg hj, dif_neg]
    intro hh
    exact hj (Fin.ext (by omega))

end Cert.Scan

end
-- ==== Proof.BackTrip.lean ====
/- One trip of the reference's scan back: the gradients it stacks and the gradient of the state it carries on. -/
module

public import proofs.«01_k».proof.Proof.Gen.ReferenceIdeal.Run
public import proofs.«01_k».proof.Proof.BackSpec
public import proofs.«01_k».proof.Proof.ScanSlices

@[expose] public section

set_option maxRecDepth 16384

noncomputable section

namespace Cert.ReferenceIdeal.Value

open Idealize.ShloMosaic Idealize.ShloMosaic.TcCoe
open Idealize.ShloMosaic.StableHlo Idealize.ShloMosaic.Tactic Idealize.SL.Sem Cert.ReferenceIdeal.Gen
open Cert.Scan

/-- The trip's number, what it slices of, the gradient of the state, and the stacks it fills, as plain arrays. -/
abbrev ctr (V : Valuation τ sig (Elt Ideal)) : IVec S_ 32 := V (Proc.devRef .tc main_v33_8)
abbrev cs (V : Valuation τ sig (Elt Ideal)) : FVec Ideal S64x1x16x128x128 .f32 := V (Proc.devRef .tc main_v33_0)
abbrev cu (V : Valuation τ sig (Elt Ideal)) : FVec Ideal S64x1x16x64x128 .f32 := V (Proc.devRef .tc main_v33_1)
abbrev cw (V : Valuation τ sig (Elt Ideal)) : FVec Ideal S64x1x16x64x128 .f32 := V (Proc.devRef .tc main_v33_2)
abbrev cqg (V : Valuation τ sig (Elt Ideal)) : FVec Ideal S64x1x16x64x128 .f32 := V (Proc.devRef .tc main_v33_3)
abbrev cke (V : Valuation τ sig (Elt Ideal)) : FVec Ideal S64x1x16x64x128 .f32 := V (Proc.devRef .tc main_v33_4)
abbrev cqk (V : Valuation τ sig (Elt Ideal)) : FVec Ideal S64x1x16x64x64 .f32 := V (Proc.devRef .tc main_v33_5)
abbrev cdec (V : Valuation τ sig (Elt Ideal)) : FVec Ideal S64x1x16 .f32 := V (Proc.devRef .tc main_v33_6)
abbrev cg (V : Valuation τ sig (Elt Ideal)) : FVec Ideal S64x1x16x64x128 .f32 := V (Proc.devRef .tc main_v33_7)
abbrev cD (V : Valuation τ sig (Elt Ideal)) : FVec Ideal S1x16x128x128 .f32 := V (Proc.devRef .tc main_v33_9)
abbrev adu (V : Valuation τ sig (Elt Ideal)) : FVec Ideal S64x1x16x64x128 .f32 := V (Proc.devRef .tc main_v33_10)
abbrev adw (V : Valuation τ sig (Elt Ideal)) : FVec Ideal S64x1x16x64x128 .f32 := V (Proc.devRef .tc main_v33_11)
abbrev adqg (V : Valuation τ sig (Elt Ideal)) : FVec Ideal S64x1x16x64x128 .f32 := V (Proc.devRef .tc main_v33_12)
abbrev adke (V : Valuation τ sig (Elt Ideal)) : FVec Ideal S64x1x16x64x128 .f32 := V (Proc.devRef .tc main_v33_13)
abbrev adqk (V : Valuation τ sig (Elt Ideal)) : FVec Ideal S64x1x16x64x64 .f32 := V (Proc.devRef .tc main_v33_14)
abbrev addec (V : Valuation τ sig (Elt Ideal)) : FVec Ideal S64x1x16 .f32 := V (Proc.devRef .tc main_v33_15)

/-- The chunk a trip takes. -/
abbrev number (V : Valuation τ sig (Elt Ideal)) : IVec S_ 32 := res_main_while0b_v54 V

/-- The operands a trip slices, by chunk, head, row and lane. -/
abbrev carried (V : Valuation τ sig (Elt Ideal)) : Back where
  x := { u := fun c h t k => cu V (ix5 c 0 h t k)
         w := fun c h t k => cw V (ix5 c 0 h t k)
         qg := fun c h t k => cqg V (ix5 c 0 h t k)
         ke := fun c h t k => cke V (ix5 c 0 h t k)
         qk := fun c h t k => cqk V (ix5 c 0 h t k)
         dec := fun c h => cdec V (ix3 c 0 h) }
  s := fun c h k v => cs V (ix5 c 0 h k v)
  g := fun c h t v => cg V (ix5 c 0 h t v)

abbrev carriedD (V : Valuation τ sig (Elt Ideal)) : Grad := fun h a b => cD V (ix4 0 h a b)

/-- What a trip slices of the stacks it carries. -/
def chunk128 (A : FVec Ideal S64x1x16x64x128 .f32) (i : IVec S_ 32) : FVec Ideal S1x16x64x128 .f32 :=
  shapeCast S1x16x64x128 (Host.dynamicSlice S1x1x16x64x128 A (fun k => (((![i, constantI S_ 32 0#32, constantI S_ 32 0#32, constantI S_ 32 0#32, constantI S_ 32 0#32] : Fin 5 → IVec S_ 32)) k (Shape.Idx.first h_S_)).toInt) sliceFits_S64x1x16x64x128_S1x1x16x64x128) shapeCasts_S1x1x16x64x128_S1x16x64x128
def chunk64 (A : FVec Ideal S64x1x16x64x64 .f32) (i : IVec S_ 32) : FVec Ideal S1x16x64x64 .f32 :=
  shapeCast S1x16x64x64 (Host.dynamicSlice S1x1x16x64x64 A (fun k => (((![i, constantI S_ 32 0#32, constantI S_ 32 0#32, constantI S_ 32 0#32, constantI S_ 32 0#32] : Fin 5 → IVec S_ 32)) k (Shape.Idx.first h_S_)).toInt) sliceFits_S64x1x16x64x64_S1x1x16x64x64) shapeCasts_S1x1x16x64x64_S1x16x64x64
def chunkS (A : FVec Ideal S64x1x16x128x128 .f32) (i : IVec S_ 32) : FVec Ideal S1x16x128x128 .f32 :=
  shapeCast S1x16x128x128 (Host.dynamicSlice S1x1x16x128x128 A (fun k => (((![i, constantI S_ 32 0#32, constantI S_ 32 0#32, constantI S_ 32 0#32, constantI S_ 32 0#32] : Fin 5 → IVec S_ 32)) k (Shape.Idx.first h_S_)).toInt) sliceFits_S64x1x16x128x128_S1x1x16x128x128) shapeCasts_S1x1x16x128x128_S1x16x128x128
def chunkD (A : FVec Ideal S64x1x16 .f32) (i : IVec S_ 32) : FVec Ideal S1x16 .f32 :=
  shapeCast S1x16 (Host.dynamicSlice S1x1x16 A (fun k => (((![i, constantI S_ 32 0#32, constantI S_ 32 0#32] : Fin 3 → IVec S_ 32)) k (Shape.Idx.first h_S_)).toInt) sliceFits_S64x1x16_S1x1x16) shapeCasts_S1x1x16_S1x16

theorem chunk128_at {A : FVec Ideal S64x1x16x64x128 .f32} {i : IVec S_ 32} {n : Fin 64} (hn : i = fun _ => BitVec.ofNat 32 n.val)
    (h : Fin 16) (t : Fin 64) (k : Fin 128) : chunk128 A i (ix4 0 h t k) = A (ix5 n 0 h t k) :=
  slice128_apply A i n hn _ _ _ h t k
theorem chunk64_at {A : FVec Ideal S64x1x16x64x64 .f32} {i : IVec S_ 32} {n : Fin 64} (hn : i = fun _ => BitVec.ofNat 32 n.val)
    (h : Fin 16) (t k : Fin 64) : chunk64 A i (ix4 0 h t k) = A (ix5 n 0 h t k) :=
  slice64_apply A i n hn _ _ _ h t k
theorem chunkS_at {A : FVec Ideal S64x1x16x128x128 .f32} {i : IVec S_ 32} {n : Fin 64} (hn : i = fun _ => BitVec.ofNat 32 n.val)
    (h : Fin 16) (k v : Fin 128) : chunkS A i (ix4 0 h k v) = A (ix5 n 0 h k v) :=
  sliceS_apply A i n hn _ _ _ h k v
theorem chunkD_at {A : FVec Ideal S64x1x16 .f32} {i : IVec S_ 32} {n : Fin 64} (hn : i = fun _ => BitVec.ofNat 32 n.val)
    (h : Fin 16) : chunkD A i (ix2 0 h) = A (ix3 n 0 h) :=
  sliceD_apply A i n hn _ _ _ h

theorem sum_swap {n : ℕ} (f g : Fin n → EReal) : ∑ k, f k * g k = ∑ k, g k * f k :=
  Finset.sum_congr rfl fun _ _ => mul_comm _ _

/-- A sum over axes of one coordinate. -/
theorem sum_ones (hr : (⟨4, ![1, 16, 1, 1]⟩ : Shape).ReducesTo [0, 2, 3] ⟨1, ![16]⟩) (v : (⟨4, ![1, 16, 1, 1]⟩ : Shape).Idx → EReal) (h : Fin 16) :
    Ideal.hostReduceAdd hr v 0 (ix1 h) = v (ix4 0 h 0 0) := by
  unfold Ideal.hostReduceAdd
  rw [zero_add]
  refine Finset.sum_eq_single_of_mem _ (Finset.mem_filter.2 ⟨Finset.mem_univ _, ?_⟩) fun i hi hne => absurd ?_ hne
  · funext a
    match a with
    | ⟨0, _⟩ => exact Fin.ext rfl
  · have e : (i 1).val = h.val := congrArg Fin.val (congrFun (Finset.mem_filter.1 hi).2 0)
    funext a
    match a with
    | ⟨0, _⟩ => exact Subsingleton.elim (α := Fin 1) _ _
    | ⟨1, _⟩ => exact Fin.ext e
    | ⟨2, _⟩ => exact Subsingleton.elim (α := Fin 1) _ _
    | ⟨3, _⟩ => exact Subsingleton.elim (α := Fin 1) _ _

section
variable (V : Valuation τ sig (Elt Ideal)) (n : Fin 64) (hn : number V = fun _ => BitVec.ofNat 32 n.val)
include hn

/-- The new values a trip makes. -/
theorem newValues_apply (h : Fin 16) (t : Fin 64) (v : Fin 128) :
    (res_main_while0b_v64 V : FVec Ideal S1x16x64x128 .f32) (ix4 0 h t v) = newAt (carried V) n h t v := by
  have e : (res_main_while0b_v64 V : FVec Ideal S1x16x64x128 .f32) = subf (chunk128 (cu V) (number V)) (Host.dotGeneral dot_S1x16x64x128_S1x16x128x128_S1x16x64x128_3_2_2_3_01_01 none (chunk128 (cw V) (number V)) (chunkS (cs V) (number V))) := rfl
  rw [e]
  pointwise [chunk128_at hn, chunkS_at hn]
  rfl

/-- The gradient of the values a trip makes. -/
theorem dvn_apply (h : Fin 16) (t : Fin 64) (v : Fin 128) :
    (res_main_while0b_v86 V : FVec Ideal S1x16x64x128 .f32) (ix4 0 h t v) = dvn (carried V) (carriedD V) n h t v := by
  have e : (res_main_while0b_v86 V : FVec Ideal S1x16x64x128 .f32) = addf (transpose S1x16x64x128 [0, 1, 3, 2] (Host.dotGeneral dot_S1x16x128x128_S1x16x64x128_S1x16x128x64_2_3_3_2_01_01 none (cD V) (chunk128 (cke V) (number V))) transposes_S1x16x128x64_S1x16x64x128_0_1_3_2)
    (transpose S1x16x64x128 [0, 1, 3, 2] (Host.dotGeneral dot_S1x16x64x128_S1x16x64x64_S1x16x128x64_2_2_3_3_01_01 none (chunk128 (cg V) (number V)) (chunk64 (cqk V) (number V))) transposes_S1x16x128x64_S1x16x64x128_0_1_3_2) := rfl
  rw [e]
  pointwise [chunk128_at hn, chunk64_at hn]
  rw [dvn, add_comm]
  exact congrArg₂ (· + ·) (Finset.sum_congr rfl fun s _ => mul_comm _ _) (Finset.sum_congr rfl fun k _ => mul_comm _ _)

/-- Its minus. -/
theorem neg_apply (h : Fin 16) (t : Fin 64) (v : Fin 128) :
    (res_main_while0b_v92 V : FVec Ideal S1x16x64x128 .f32) (ix4 0 h t v) = -dvn (carried V) (carriedD V) n h t v := by
  have e : (res_main_while0b_v92 V : FVec Ideal S1x16x64x128 .f32) = Host.negf (F := Ideal) (s := S1x16x64x128) (φ := .f32) (res_main_while0b_v86 V) := rfl
  rw [e]
  exact congrArg (fun x : EReal => -x) (dvn_apply V n hn h t v)

theorem step_du (j : Fin 64) (h : Fin 16) (t : Fin 64) (v : Fin 128) :
    (step_main_v33_10 V : FVec Ideal S64x1x16x64x128 .f32) (ix5 j 0 h t v) = if j = n then dvn (carried V) (carriedD V) n h t v else adu V (ix5 j 0 h t v) := by
  have e : (step_main_v33_10 V : FVec Ideal S64x1x16x64x128 .f32) = Host.dynamicUpdateSlice (adu V) (broadcastInDim S1x1x16x64x128 ![1, 2, 3, 4] bcast_S1x16x64x128_S1x1x16x64x128_1_2_3_4
    (res_main_while0b_v86 V : FVec Ideal S1x16x64x128 .f32))
    (fun k => (((![number V, constantI S_ 32 0#32, constantI S_ 32 0#32, constantI S_ 32 0#32, constantI S_ 32 0#32] : Fin 5 → IVec S_ 32)) k (Shape.Idx.first h_S_)).toInt) updateFits_S64x1x16x64x128_S1x1x16x64x128 := rfl
  rw [e, put128_apply _ _ _ n hn]
  refine if_congr Iff.rfl ?_ rfl
  exact dvn_apply V n hn h t v

theorem step_dw (hb : Finite (carried V)) (hD : ∀ h k v, IsReal (carriedD V h k v)) (j : Fin 64) (h : Fin 16) (t : Fin 64) (v : Fin 128) :
    (step_main_v33_11 V : FVec Ideal S64x1x16x64x128 .f32) (ix5 j 0 h t v) = if j = n then dw (carried V) (carriedD V) n h t v else adw V (ix5 j 0 h t v) := by
  have e : (step_main_v33_11 V : FVec Ideal S64x1x16x64x128 .f32) = Host.dynamicUpdateSlice (adw V) (broadcastInDim S1x1x16x64x128 ![1, 2, 3, 4] bcast_S1x16x64x128_S1x1x16x64x128_1_2_3_4
    (Host.dotGeneral dot_S1x16x64x128_S1x16x128x128_S1x16x64x128_3_3_2_2_01_01 none (res_main_while0b_v92 V : FVec Ideal S1x16x64x128 .f32) (chunkS (cs V) (number V))))
    (fun k => (((![number V, constantI S_ 32 0#32, constantI S_ 32 0#32, constantI S_ 32 0#32, constantI S_ 32 0#32] : Fin 5 → IVec S_ 32)) k (Shape.Idx.first h_S_)).toInt) updateFits_S64x1x16x64x128_S1x1x16x64x128 := rfl
  rw [e, put128_apply _ _ _ n hn]
  refine if_congr Iff.rfl ?_ rfl
  pointwise [chunkS_at hn]
  simp only [neg_apply V n hn]
  exact dw_eq hb hD n h t v

theorem step_dqg (j : Fin 64) (h : Fin 16) (t : Fin 64) (v : Fin 128) :
    (step_main_v33_12 V : FVec Ideal S64x1x16x64x128 .f32) (ix5 j 0 h t v) = if j = n then dqg (carried V) n h t v else adqg V (ix5 j 0 h t v) := by
  have e : (step_main_v33_12 V : FVec Ideal S64x1x16x64x128 .f32) = Host.dynamicUpdateSlice (adqg V) (broadcastInDim S1x1x16x64x128 ![1, 2, 3, 4] bcast_S1x16x64x128_S1x1x16x64x128_1_2_3_4
    (Host.dotGeneral dot_S1x16x64x128_S1x16x128x128_S1x16x64x128_3_3_2_2_01_01 none (chunk128 (cg V) (number V)) (chunkS (cs V) (number V))))
    (fun k => (((![number V, constantI S_ 32 0#32, constantI S_ 32 0#32, constantI S_ 32 0#32, constantI S_ 32 0#32] : Fin 5 → IVec S_ 32)) k (Shape.Idx.first h_S_)).toInt) updateFits_S64x1x16x64x128_S1x1x16x64x128 := rfl
  rw [e, put128_apply _ _ _ n hn]
  refine if_congr Iff.rfl ?_ rfl
  pointwise [chunk128_at hn, chunkS_at hn]
  rfl

theorem step_dke (j : Fin 64) (h : Fin 16) (t : Fin 64) (v : Fin 128) :
    (step_main_v33_13 V : FVec Ideal S64x1x16x64x128 .f32) (ix5 j 0 h t v) = if j = n then dke (carried V) (carriedD V) n h t v else adke V (ix5 j 0 h t v) := by
  have e : (step_main_v33_13 V : FVec Ideal S64x1x16x64x128 .f32) = Host.dynamicUpdateSlice (adke V) (broadcastInDim S1x1x16x64x128 ![1, 2, 3, 4] bcast_S1x16x64x128_S1x1x16x64x128_1_2_3_4
    (transpose S1x16x64x128 [0, 1, 3, 2] (Host.dotGeneral dot_S1x16x128x128_S1x16x64x128_S1x16x128x64_3_3_2_2_01_01 none (cD V) (res_main_while0b_v64 V : FVec Ideal S1x16x64x128 .f32)) transposes_S1x16x128x64_S1x16x64x128_0_1_3_2))
    (fun k => (((![number V, constantI S_ 32 0#32, constantI S_ 32 0#32, constantI S_ 32 0#32, constantI S_ 32 0#32] : Fin 5 → IVec S_ 32)) k (Shape.Idx.first h_S_)).toInt) updateFits_S64x1x16x64x128_S1x1x16x64x128 := rfl
  rw [e, put128_apply _ _ _ n hn]
  refine if_congr Iff.rfl ?_ rfl
  pointwise
  simp only [newValues_apply V n hn]
  exact sum_swap _ _

theorem step_dqk (j : Fin 64) (h : Fin 16) (t v : Fin 64) :
    (step_main_v33_14 V : FVec Ideal S64x1x16x64x64 .f32) (ix5 j 0 h t v) = if j = n then dqk (carried V) n h t v else adqk V (ix5 j 0 h t v) := by
  have e : (step_main_v33_14 V : FVec Ideal S64x1x16x64x64 .f32) = Host.dynamicUpdateSlice (adqk V) (broadcastInDim S1x1x16x64x64 ![1, 2, 3, 4] bcast_S1x16x64x64_S1x1x16x64x64_1_2_3_4
    (Host.dotGeneral dot_S1x16x64x128_S1x16x64x128_S1x16x64x64_3_3_2_2_01_01 none (chunk128 (cg V) (number V)) (res_main_while0b_v64 V : FVec Ideal S1x16x64x128 .f32)))
    (fun k => (((![number V, constantI S_ 32 0#32, constantI S_ 32 0#32, constantI S_ 32 0#32, constantI S_ 32 0#32] : Fin 5 → IVec S_ 32)) k (Shape.Idx.first h_S_)).toInt) updateFits_S64x1x16x64x64_S1x1x16x64x64 := rfl
  rw [e, put64_apply _ _ _ n hn]
  refine if_congr Iff.rfl ?_ rfl
  pointwise [chunk128_at hn]
  simp only [newValues_apply V n hn]
  rfl

theorem step_ddec (j : Fin 64) (h : Fin 16) :
    (step_main_v33_15 V : FVec Ideal S64x1x16 .f32) (ix3 j 0 h) = if j = n then ddec (carried V) (carriedD V) n h else addec V (ix3 j 0 h) := by
  have e : (step_main_v33_15 V : FVec Ideal S64x1x16 .f32) = Host.dynamicUpdateSlice (addec V) (broadcastInDim S1x1x16 ![1, 2] bcast_S1x16_S1x1x16_1_2
    (broadcastInDim S1x16 ![1] bcast_S16_S1x16_1 (Host.reduceAdd (shapeCast S1x16x1x1 (Host.reduceAdd (mulf (chunkS (cs V) (number V)) (cD V)) (constant S_ .f32 0x00000000#32) reducesTo_S1x16x128x128_S1x16_d2_3 h_S_) shapeCasts_S1x16_S1x16x1x1) (constant S_ .f32 0x00000000#32) reducesTo_S1x16x1x1_S16_d0_2_3 h_S_)))
    (fun k => (((![number V, constantI S_ 32 0#32, constantI S_ 32 0#32] : Fin 3 → IVec S_ 32)) k (Shape.Idx.first h_S_)).toInt) updateFits_S64x1x16_S1x1x16 := rfl
  rw [e, putD_apply _ _ _ n hn]
  refine if_congr Iff.rfl ?_ rfl
  pointwise
  rw [sum_ones]
  pointwise [chunkS_at hn]
  rw [ddec]
  exact Finset.sum_congr (M := EReal) rfl fun k _ => sum_swap _ _

/-- The gradient of the state a trip carries on. -/
theorem step_grad (hb : Finite (carried V)) (hD : ∀ h k v, IsReal (carriedD V h k v)) (h : Fin 16) (a b : Fin 128) :
    (step_main_v33_9 V : FVec Ideal S1x16x128x128 .f32) (ix4 0 h a b) = before (carried V) (carriedD V) n h a b := by
  have e : (step_main_v33_9 V : FVec Ideal S1x16x128x128 .f32) = addf (addf (mulf (cD V) (broadcastInDim S1x16x128x128 ![0, 1, 2, 3] bcast_S1x16x1x1_S1x16x128x128_0_1_2_3 (broadcastInDim S1x16x1x1 ![0, 1] bcast_S1x16_S1x16x1x1_0_1 (chunkD (cdec V) (number V)))))
    (transpose S1x16x128x128 [0, 1, 3, 2] (Host.dotGeneral dot_S1x16x64x128_S1x16x64x128_S1x16x128x128_2_2_3_3_01_01 none (chunk128 (cg V) (number V)) (chunk128 (cqg V) (number V))) transposes_S1x16x128x128_S1x16x128x128_0_1_3_2))
    (transpose S1x16x128x128 [0, 1, 3, 2] (Host.dotGeneral dot_S1x16x64x128_S1x16x64x128_S1x16x128x128_2_2_3_3_01_01 none (res_main_while0b_v92 V : FVec Ideal S1x16x64x128 .f32) (chunk128 (cw V) (number V))) transposes_S1x16x128x128_S1x16x128x128_0_1_3_2) := rfl
  rw [e]
  pointwise [chunk128_at hn, chunkD_at hn]
  simp only [neg_apply V n hn]
  exact before_eq hb hD n h a b

end

end Cert.ReferenceIdeal.Value

end
-- ==== Proof.BackReference.lean ====
/- What the reference's scan back holds after `n` trips, and its six results. -/
module

public import proofs.«01_k».proof.Proof.BackTrip

@[expose] public section

set_option maxRecDepth 16384

noncomputable section

namespace Cert.ReferenceIdeal.Value

open Idealize.ShloMosaic Idealize.ShloMosaic.TcCoe
open Idealize.ShloMosaic.StableHlo Idealize.ShloMosaic.Tactic Idealize.SL.Sem Cert.ReferenceIdeal.Gen
open Cert.Scan

variable (m : (ℓ : Loc nD τ sig) → Buf (Elt Ideal) ℓ) (c : Dev nD)

/-- What the scan back reads, off the reference's arguments. -/
abbrev rback : Back :=
  back (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

abbrev entry0 : Valuation τ sig (Elt Ideal) := entryContents preI m c

/-- An array of 4096 rows stacked by chunks. -/
def stack128 (A : FVec Ideal S4096x2048 .f32) : FVec Ideal S64x1x16x64x128 .f32 :=
  transpose S64x1x16x64x128 [2, 0, 1, 3, 4] (transpose S1x16x64x64x128 [0, 3, 1, 2, 4] (shapeCast S1x64x64x16x128 A shapeCasts_S4096x2048_S1x64x64x16x128) transposes_S1x64x64x16x128_S1x16x64x64x128_0_3_1_2_4) transposes_S1x16x64x64x128_S64x1x16x64x128_2_0_1_3_4

theorem stack128_apply (A : FVec Ideal S4096x2048 .f32) (j : Fin 64) (h : Fin 16) (t : Fin 64) (k : Fin 128) :
    stack128 A (ix5 j 0 h t k) = chunked A j h t k := by
  pointwise [stack128]

theorem entry_u : cu (entry0 m c) = stack128 (m ((c.tc : Thread nD τ).loc main_arg0)) := by
  show entryContents preI m c (Proc.devRef .tc main_v33_1) = _
  simp only [entryContents, afterL_cons, afterL_nil]
  after_reads_simp
  rfl
theorem entry_w : cw (entry0 m c) = stack128 (m ((c.tc : Thread nD τ).loc main_arg1)) := by
  show entryContents preI m c (Proc.devRef .tc main_v33_2) = _
  simp only [entryContents, afterL_cons, afterL_nil]
  after_reads_simp
  rfl
theorem entry_qg : cqg (entry0 m c) = stack128 (m ((c.tc : Thread nD τ).loc main_arg2)) := by
  show entryContents preI m c (Proc.devRef .tc main_v33_3) = _
  simp only [entryContents, afterL_cons, afterL_nil]
  after_reads_simp
  rfl
theorem entry_ke : cke (entry0 m c) = stack128 (m ((c.tc : Thread nD τ).loc main_arg3)) := by
  show entryContents preI m c (Proc.devRef .tc main_v33_4) = _
  simp only [entryContents, afterL_cons, afterL_nil]
  after_reads_simp
  rfl
theorem entry_g : cg (entry0 m c) = stack128 (m ((c.tc : Thread nD τ).loc main_arg7)) := by
  show entryContents preI m c (Proc.devRef .tc main_v33_7) = _
  simp only [entryContents, afterL_cons, afterL_nil]
  after_reads_simp
  rfl
theorem entry_dec : cdec (entry0 m c) = transpose S64x1x16 [2, 0, 1] (broadcastInDim S1x16x64 ![1, 2] bcast_S16x64_S1x16x64_1_2 (transpose S16x64 [1, 0] (m ((c.tc : Thread nD τ).loc main_arg5)) transposes_S64x16_S16x64_1_0)) transposes_S1x16x64_S64x1x16_2_0_1 := by
  show entryContents preI m c (Proc.devRef .tc main_v33_6) = _
  simp only [entryContents, afterL_cons, afterL_nil]
  after_reads_simp
  rfl
theorem entry_qk : cqk (entry0 m c) = transpose S64x1x16x64x64 [2, 0, 1, 3, 4] (broadcastInDim S1x16x64x64x64 ![1, 2, 3, 4] bcast_S16x64x64x64_S1x16x64x64x64_1_2_3_4 (m ((c.tc : Thread nD τ).loc main_arg4))) transposes_S1x16x64x64x64_S64x1x16x64x64_2_0_1_3_4 := by
  show entryContents preI m c (Proc.devRef .tc main_v33_5) = _
  simp only [entryContents, afterL_cons, afterL_nil]
  after_reads_simp
  rfl
theorem entry_s : cs (entry0 m c) = transpose S64x1x16x128x128 [2, 0, 1, 3, 4] (broadcastInDim S1x16x64x128x128 ![1, 2, 3, 4] bcast_S16x64x128x128_S1x16x64x128x128_1_2_3_4 (extf (F := Ideal) .f32 (m ((c.tc : Thread nD τ).loc main_arg6)) bitsLt_bf16_f32)) transposes_S1x16x64x128x128_S64x1x16x128x128_2_0_1_3_4 := by
  show entryContents preI m c (Proc.devRef .tc main_v33_0) = _
  simp only [entryContents, afterL_cons, afterL_nil]
  after_reads_simp
  rfl
theorem entry_D : cD (entry0 m c) = broadcastInDim S1x16x128x128 ![] bcast_S_S1x16x128x128 (constant S_ .f32 0x00000000#32) := by
  show entryContents preI m c (Proc.devRef .tc main_v33_9) = _
  simp only [entryContents, afterL_cons, afterL_nil]
  after_reads_simp
  rfl

/-- The operands the loop carries are the arguments', chunk by chunk. -/
theorem entry_ops : carried (entry0 m c) = rback m c := by
  simp only [carried, rback, back, ops, Back.mk.injEq, Ops.mk.injEq]
  refine ⟨⟨?_, ?_, ?_, ?_, ?_, ?_⟩, ?_, ?_⟩
  · funext j h t k; rw [entry_u]; exact stack128_apply _ j h t k
  · funext j h t k; rw [entry_w]; exact stack128_apply _ j h t k
  · funext j h t k; rw [entry_qg]; exact stack128_apply _ j h t k
  · funext j h t k; rw [entry_ke]; exact stack128_apply _ j h t k
  · funext j h t k; rw [entry_qk]; pointwise
  · funext j h; rw [entry_dec]; pointwise
  · funext j h k v; rw [entry_s]; pointwise
  · funext j h t k; rw [entry_g]; exact stack128_apply _ j h t k

theorem entry_grad : carriedD (entry0 m c) = grad (rback m c) 0 := by
  funext h a b
  show cD (entry0 m c) (ix4 0 h a b) = 0
  rw [entry_D]
  pointwise

/-! ## After `n` trips -/

/-- What the loop holds after `n` trips, which took the last `n` chunks. -/
structure Held (V : Valuation τ sig (Elt Ideal)) (n : ℕ) : Prop where
  ctr : ctr V = fun _ => BitVec.ofNat 32 n
  ops : carried V = rback m c
  grad : carriedD V = grad (rback m c) n
  du : ∀ j : Fin 64, 64 - n ≤ j.val → ∀ h t v, adu V (ix5 j 0 h t v) = dvn (rback m c) (gradAfter (rback m c) j) j h t v
  dw : ∀ j : Fin 64, 64 - n ≤ j.val → ∀ h t v, adw V (ix5 j 0 h t v) = dw (rback m c) (gradAfter (rback m c) j) j h t v
  dqg : ∀ j : Fin 64, 64 - n ≤ j.val → ∀ h t v, adqg V (ix5 j 0 h t v) = dqg (rback m c) j h t v
  dke : ∀ j : Fin 64, 64 - n ≤ j.val → ∀ h t v, adke V (ix5 j 0 h t v) = dke (rback m c) (gradAfter (rback m c) j) j h t v
  dqk : ∀ j : Fin 64, 64 - n ≤ j.val → ∀ h t v, adqk V (ix5 j 0 h t v) = dqk (rback m c) j h t v
  ddec : ∀ j : Fin 64, 64 - n ≤ j.val → ∀ h, addec V (ix3 j 0 h) = ddec (rback m c) (gradAfter (rback m c) j) j h

/-- The chunk trip `n` takes. -/
theorem number_of {V : Valuation τ sig (Elt Ideal)} {n : ℕ} (hn : n < 64) (hc : Value.ctr V = fun _ => BitVec.ofNat 32 n) :
    number V = fun _ => BitVec.ofNat 32 (last ⟨n, hn⟩).val := by
  have e : number V = subi (subi (constantI S_ 32 64#32) (Value.ctr V)) (constantI S_ 32 1#32) := rfl
  rw [e, hc]
  funext q
  show 64#32 - BitVec.ofNat 32 n - 1#32 = BitVec.ofNat 32 (63 - n)
  apply BitVec.eq_of_toNat_eq
  simp only [BitVec.toNat_sub, BitVec.toNat_ofNat]
  omega

/-- One trip. -/
theorem Held.step (hb : Finite (rback m c)) {V : Valuation τ sig (Elt Ideal)} {n : ℕ} (hn : n < 64) (H : Held m c V n) : Held m c (STEP V) (n + 1) := by
  have hc := number_of hn H.ctr
  have hf : Finite (carried V) := H.ops ▸ hb
  have hD : ∀ h k v, IsReal (carriedD V h k v) := H.grad ▸ grad_finite hb n
  have hg : gradAfter (rback m c) (last ⟨n, hn⟩) = Scan.grad (rback m c) n :=
    congrArg (Scan.grad (rback m c)) (show 63 - (63 - n) = n by omega)
  refine ⟨?_, ?_, ?_, ?_, ?_, ?_, ?_, ?_, ?_⟩
  · show STEP V (Proc.devRef .tc main_v33_8) = _
    rw [STEP_main_v33_8]
    have e : (step_main_v33_8 V : IVec S_ 32) = addi (Value.ctr V) (constantI S_ 32 1#32) := rfl
    refine e.trans ?_
    rw [H.ctr]
    funext q
    show BitVec.ofNat 32 n + 1#32 = BitVec.ofNat 32 (n + 1)
    rw [BitVec.ofNat_add]
  · refine Eq.trans ?_ H.ops
    have e0 : cs (STEP V) = cs V := STEP_main_v33_0 V
    have e1 : cu (STEP V) = cu V := STEP_main_v33_1 V
    have e2 : cw (STEP V) = cw V := STEP_main_v33_2 V
    have e3 : cqg (STEP V) = cqg V := STEP_main_v33_3 V
    have e4 : cke (STEP V) = cke V := STEP_main_v33_4 V
    have e5 : cqk (STEP V) = cqk V := STEP_main_v33_5 V
    have e6 : cdec (STEP V) = cdec V := STEP_main_v33_6 V
    have e7 : cg (STEP V) = cg V := STEP_main_v33_7 V
    unfold carried
    rw [e0, e1, e2, e3, e4, e5, e6, e7]
  · rw [Scan.grad_succ _ n hn, ← H.grad, ← H.ops]
    funext h a b
    show (STEP V (Proc.devRef .tc main_v33_9) : FVec Ideal S1x16x128x128 .f32) (ix4 0 h a b) = _
    rw [STEP_main_v33_9]
    exact step_grad V _ hc hf hD h a b
  · intro j hj h t v
    show (STEP V (Proc.devRef .tc main_v33_10) : FVec Ideal S64x1x16x64x128 .f32) (ix5 j 0 h t v) = _
    rw [STEP_main_v33_10]
    refine (step_du V _ hc j h t v).trans ?_
    by_cases e : j = last ⟨n, hn⟩
    · rw [if_pos e, e, H.ops, H.grad, hg]
    · rw [if_neg e]
      exact H.du j (by have : j.val ≠ 63 - n := fun q => e (Fin.ext q); omega) h t v
  · intro j hj h t v
    show (STEP V (Proc.devRef .tc main_v33_11) : FVec Ideal S64x1x16x64x128 .f32) (ix5 j 0 h t v) = _
    rw [STEP_main_v33_11]
    refine (step_dw V _ hc hf hD j h t v).trans ?_
    by_cases e : j = last ⟨n, hn⟩
    · rw [if_pos e, e, H.ops, H.grad, hg]
    · rw [if_neg e]
      exact H.dw j (by have : j.val ≠ 63 - n := fun q => e (Fin.ext q); omega) h t v
  · intro j hj h t v
    show (STEP V (Proc.devRef .tc main_v33_12) : FVec Ideal S64x1x16x64x128 .f32) (ix5 j 0 h t v) = _
    rw [STEP_main_v33_12]
    refine (step_dqg V _ hc j h t v).trans ?_
    by_cases e : j = last ⟨n, hn⟩
    · rw [if_pos e, e, H.ops]
    · rw [if_neg e]
      exact H.dqg j (by have : j.val ≠ 63 - n := fun q => e (Fin.ext q); omega) h t v
  · intro j hj h t v
    show (STEP V (Proc.devRef .tc main_v33_13) : FVec Ideal S64x1x16x64x128 .f32) (ix5 j 0 h t v) = _
    rw [STEP_main_v33_13]
    refine (step_dke V _ hc j h t v).trans ?_
    by_cases e : j = last ⟨n, hn⟩
    · rw [if_pos e, e, H.ops, H.grad, hg]
    · rw [if_neg e]
      exact H.dke j (by have : j.val ≠ 63 - n := fun q => e (Fin.ext q); omega) h t v
  · intro j hj h t v
    show (STEP V (Proc.devRef .tc main_v33_14) : FVec Ideal S64x1x16x64x64 .f32) (ix5 j 0 h t v) = _
    rw [STEP_main_v33_14]
    refine (step_dqk V _ hc j h t v).trans ?_
    by_cases e : j = last ⟨n, hn⟩
    · rw [if_pos e, e, H.ops]
    · rw [if_neg e]
      exact H.dqk j (by have : j.val ≠ 63 - n := fun q => e (Fin.ext q); omega) h t v
  · intro j hj h
    show (STEP V (Proc.devRef .tc main_v33_15) : FVec Ideal S64x1x16 .f32) (ix3 j 0 h) = _
    rw [STEP_main_v33_15]
    refine (step_ddec V _ hc j h).trans ?_
    by_cases e : j = last ⟨n, hn⟩
    · rw [if_pos e, e, H.ops, H.grad, hg]
    · rw [if_neg e]
      exact H.ddec j (by have : j.val ≠ 63 - n := fun q => e (Fin.ext q); omega) h

theorem held_zero : Held m c (entry0 m c) 0 :=
  ⟨ctr_entry m c, entry_ops m c, entry_grad m c, fun j h => absurd j.isLt (by omega), fun j h => absurd j.isLt (by omega),
    fun j h => absurd j.isLt (by omega), fun j h => absurd j.isLt (by omega), fun j h => absurd j.isLt (by omega),
    fun j h => absurd j.isLt (by omega)⟩

/-- After `n` of the 64 trips. -/
theorem held (hb : Finite (rback m c)) (n : ℕ) (hn : n ≤ 64) : Held m c (STEP^[n] (entry0 m c)) n := by
  have h0 := held_zero m c
  generalize entry0 m c = V at h0 ⊢
  induction n with
  | zero => exact h0
  | succ n ih =>
    rw [Function.iterate_succ_apply']
    exact Held.step m c hb (by omega) (ih (by omega))

/-! ## The results -/

variable (hb : Finite (rback m c))
include hb

theorem result_du : (out_main_v37 (STEP^[64] (entry0 m c)) : FVec Ideal S4096x2048 .bf16) = dus (rback m c) := by
  have H := held m c hb 64 (by omega)
  generalize STEP^[64] (entry0 m c) = V at H
  have e : (out_main_v37 V : FVec Ideal S4096x2048 .bf16) = truncf .bf16 (shapeCast S4096x2048 (transpose S1x64x64x16x128 [0, 2, 3, 1, 4] (transpose S1x16x64x64x128 [1, 2, 0, 3, 4] (adu V) transposes_S64x1x16x64x128_S1x16x64x64x128_1_2_0_3_4) transposes_S1x16x64x64x128_S1x64x64x16x128_0_2_3_1_4) shapeCasts_S1x64x64x16x128_S4096x2048) bitsLt_bf16_f32 := rfl
  rw [e]
  funext i
  idx_vars i
  pointwise
  exact H.du _ (Nat.zero_le _) _ _ _

theorem result_dw : (out_main_v41 (STEP^[64] (entry0 m c)) : FVec Ideal S4096x2048 .bf16) = dws (rback m c) := by
  have H := held m c hb 64 (by omega)
  generalize STEP^[64] (entry0 m c) = V at H
  have e : (out_main_v41 V : FVec Ideal S4096x2048 .bf16) = truncf .bf16 (shapeCast S4096x2048 (transpose S1x64x64x16x128 [0, 2, 3, 1, 4] (transpose S1x16x64x64x128 [1, 2, 0, 3, 4] (adw V) transposes_S64x1x16x64x128_S1x16x64x64x128_1_2_0_3_4) transposes_S1x16x64x64x128_S1x64x64x16x128_0_2_3_1_4) shapeCasts_S1x64x64x16x128_S4096x2048) bitsLt_bf16_f32 := rfl
  rw [e]
  funext i
  idx_vars i
  pointwise
  exact H.dw _ (Nat.zero_le _) _ _ _

theorem result_dqg : (out_main_v44 (STEP^[64] (entry0 m c)) : FVec Ideal S4096x2048 .f32) = dqgs (rback m c) := by
  have H := held m c hb 64 (by omega)
  generalize STEP^[64] (entry0 m c) = V at H
  have e : (out_main_v44 V : FVec Ideal S4096x2048 .f32) = shapeCast S4096x2048 (transpose S1x64x64x16x128 [0, 2, 3, 1, 4] (transpose S1x16x64x64x128 [1, 2, 0, 3, 4] (adqg V) transposes_S64x1x16x64x128_S1x16x64x64x128_1_2_0_3_4) transposes_S1x16x64x64x128_S1x64x64x16x128_0_2_3_1_4) shapeCasts_S1x64x64x16x128_S4096x2048 := rfl
  rw [e]
  funext i
  idx_vars i
  pointwise
  exact H.dqg _ (Nat.zero_le _) _ _ _

theorem result_dke : (out_main_v47 (STEP^[64] (entry0 m c)) : FVec Ideal S4096x2048 .f32) = dkes (rback m c) := by
  have H := held m c hb 64 (by omega)
  generalize STEP^[64] (entry0 m c) = V at H
  have e : (out_main_v47 V : FVec Ideal S4096x2048 .f32) = shapeCast S4096x2048 (transpose S1x64x64x16x128 [0, 2, 3, 1, 4] (transpose S1x16x64x64x128 [1, 2, 0, 3, 4] (adke V) transposes_S64x1x16x64x128_S1x16x64x64x128_1_2_0_3_4) transposes_S1x16x64x64x128_S1x64x64x16x128_0_2_3_1_4) shapeCasts_S1x64x64x16x128_S4096x2048 := rfl
  rw [e]
  funext i
  idx_vars i
  pointwise
  exact H.dke _ (Nat.zero_le _) _ _ _

theorem result_dqk : (out_main_v49 (STEP^[64] (entry0 m c)) : FVec Ideal S16x64x64x64 .f32) = dqks (rback m c) := by
  have H := held m c hb 64 (by omega)
  generalize STEP^[64] (entry0 m c) = V at H
  have e : (out_main_v49 V : FVec Ideal S16x64x64x64 .f32) = shapeCast S16x64x64x64 (transpose S1x16x64x64x64 [1, 2, 0, 3, 4] (adqk V) transposes_S64x1x16x64x64_S1x16x64x64x64_1_2_0_3_4) shapeCasts_S1x16x64x64x64_S16x64x64x64 := rfl
  rw [e]
  funext i
  idx_vars i
  pointwise
  exact H.dqk _ (Nat.zero_le _) _ _ _

theorem result_ddec : (out_main_v52 (STEP^[64] (entry0 m c)) : FVec Ideal S64x16x1x128 .f32) = ddecs (rback m c) := by
  have H := held m c hb 64 (by omega)
  generalize STEP^[64] (entry0 m c) = V at H
  have e : (out_main_v52 V : FVec Ideal S64x16x1x128 .f32) = broadcastInDim S64x16x1x128 ![0, 1, 2, 3] bcast_S64x16x1x1_S64x16x1x128_0_1_2_3 (broadcastInDim S64x16x1x1 ![0, 1] bcast_S64x16_S64x16x1x1_0_1 (shapeCast S64x16 (addec V) shapeCasts_S64x1x16_S64x16)) := rfl
  rw [e]
  funext i
  idx_vars i
  pointwise
  exact H.ddec _ (Nat.zero_le _) _

end Cert.ReferenceIdeal.Value

end
-- ==== Proof.BackFinite.lean ====
/- The precondition of the scan back, read entry by entry: where it holds, every entry of the seven arrays it names is
   neither infinity. -/
module

public import proofs.«01_k».proof.Defs
public import proofs.«01_k».proof.Proof.BackBlock
public import Idealize.ShloMosaic.Lib.Pointwise

@[expose] public section

noncomputable section

namespace Cert.Scan

open Idealize.ShloMosaic

/-- What the precondition's operations ask of its shapes. -/
instance finite_facts : Cert.Pre_finite.Facts where
  bitsLt_bf16_f32 := by decide
  bcast_S_S4096x2048 := by decide
  bcast_S_S16x64x64x64 := by decide
  bcast_S_S64x16 := by decide
  bcast_S_S16x64x128x128 := by decide

/-- A value whose absolute value lies below the positive infinity is neither infinity. -/
theorem real_of_abs {x : EReal} (h : max x (-x) < ⊤) : IsReal x := by
  rw [max_lt_iff] at h
  refine ⟨x.toReal, (EReal.coe_toReal h.1.ne fun e => ?_).symm⟩
  rw [e] at h
  exact absurd h.2 (by simp)

/-- An array that compares below the positive infinity everywhere has no infinite entry. -/
theorem real_of {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) (i : s.Idx) :
    IsReal (x i) := by
  have e := congrFun h i
  pointwise at e
  have top : Ideal.ofBits .f32 0x7F800000#32 = ⊤ := by simp [Ideal.ofBits, Ideal.ieee]
  rw [top, Ideal.absf_def] at e
  refine real_of_abs ?_
  by_contra hn
  rw [decide_eq_false hn] at e
  exact absurd e (by decide)

/-- Where the precondition holds, the scan back reads no infinity. -/
theorem finite_of (m : (ℓ : Loc Cert.KernelIdeal.nD Cert.KernelIdeal.τ Cert.KernelIdeal.sig) → Buf (Elt Ideal) ℓ)
    (h : Cert.Pre_KernelIdeal_finite m) (c : Dev Cert.KernelIdeal.nD) : Finite (Cert.KernelIdeal.Value.kback m c) := by
  obtain ⟨hw, hq, hk, hs, hd, hS, hg⟩ := h c
  exact {
    w := fun _ _ _ _ => real_of _ Cert.Pre_finite.Facts.bcast_S_S4096x2048 hw _
    qg := fun _ _ _ _ => real_of _ Cert.Pre_finite.Facts.bcast_S_S4096x2048 hq _
    ke := fun _ _ _ _ => real_of _ Cert.Pre_finite.Facts.bcast_S_S4096x2048 hk _
    qk := fun _ _ _ _ => real_of _ Cert.Pre_finite.Facts.bcast_S_S16x64x64x64 hs _
    dec := fun _ _ => real_of _ Cert.Pre_finite.Facts.bcast_S_S64x16 hd _
    s := fun _ _ _ _ => real_of _ Cert.Pre_finite.Facts.bcast_S_S16x64x128x128 hS _
    g := fun _ _ _ _ => real_of _ Cert.Pre_finite.Facts.bcast_S_S4096x2048 hg _ }

end Cert.Scan

end
-- ==== Proof.FwdBlock.lean ====
/- What one grid point of the state-passing kernel leaves in its windows, read at one index. -/
module

public import proofs.«01_k».proof.Proof.Gen.Kernel2Ideal.Frame
public import proofs.«01_k».proof.Proof.FwdSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Value

open Idealize.ShloMosaic Idealize.ShloMosaic.TcCoe
open Idealize.ShloMosaic.Tactic Idealize.SL.Sem Cert.Kernel2Ideal.Gen
open Idealize.ShloMosaic.Pipeline (Dat)
open Cert.Scan

variable (m : (ℓ : Loc nD τ sig) → Buf (Elt Ideal) ℓ) (c : Dev nD)

/-- The scan's operands, read off the kernel's arguments. -/
abbrev kops : Ops :=
  ops (m (c, main_arg0)) (m (c, main_arg1)) (m (c, main_arg2)) (m (c, main_arg3)) (m (c, main_arg4)) (m (c, main_arg5))

theorem idx_val : ∀ t : Fin cfg0.N,
    win0_0.index t = ![t.val, 0] ∧ win0_1.index t = ![t.val, 0] ∧ win0_2.index t = ![t.val, 0] ∧
    win0_3.index t = ![t.val, 0] ∧ win0_4.index t = ![0, t.val, 0, 0] ∧ win0_5.index t = ![t.val, 0, 0, 0] ∧
    win0_6.index t = ![t.val, 0] ∧ win0_7.index t = ![t.val, 0] ∧ win0_8.index t = ![0, t.val, 0, 0] :=
  (by decide +kernel : ∀ t : Fin grid0.N, _)

/-- A box of the scratch read after the zeroing store. -/
theorem read_zeros (r : Rect S16x128x128) (j : r.shape.Idx) (inb : ∀ a, (![0, 0, 0] : Fin 3 → ℕ) a + (![16, 128, 128] : Fin 3 → ℕ) a ≤ S16x128x128.size a) :
    (View.whole cc0_scratch0).readCov (Val := Elt Ideal)
      [⟨Rect.unit ![0, 0, 0] ![16, 128, 128] inb, (broadcast S16x128x128 0 : FVec Ideal S16x128x128 .f32)⟩] r.toLoadRect j = (0 : EReal) := by
  exact congrFun (View.readCov_fill _ inb _ [] r (by decide)) j

/-- The block of values at a point. -/
theorem u_read (t : Fin cfg0.N) {a a' : Fin 64} {l : Fin 2048} {h : Fin 16} {k : Fin 128} (ha : a.val = a'.val) (hl : l.val = h.val * 128 + k.val) :
    iblk m c 0 t (ix2 a l) = (kops m c).u t h a' k := by
  obtain rfl : a = a' := Fin.ext ha
  obtain rfl : l = lane h k := Fin.ext hl
  blk_ext [iblk, V, idx_val t]

/-- The block of keys at a point. -/
theorem w_read (t : Fin cfg0.N) {a a' : Fin 64} {l : Fin 2048} {h : Fin 16} {k : Fin 128} (ha : a.val = a'.val) (hl : l.val = h.val * 128 + k.val) :
    iblk m c 1 t (ix2 a l) = (kops m c).w t h a' k := by
  obtain rfl : a = a' := Fin.ext ha
  obtain rfl : l = lane h k := Fin.ext hl
  blk_ext [iblk, V, idx_val t]

/-- The block of decayed queries at a point. -/
theorem qg_read (t : Fin cfg0.N) {a a' : Fin 64} {l : Fin 2048} {h : Fin 16} {k : Fin 128} (ha : a.val = a'.val) (hl : l.val = h.val * 128 + k.val) :
    iblk m c 2 t (ix2 a l) = (kops m c).qg t h a' k := by
  obtain rfl : a = a' := Fin.ext ha
  obtain rfl : l = lane h k := Fin.ext hl
  blk_ext [iblk, V, idx_val t]

/-- The block of decayed keys at a point. -/
theorem ke_read (t : Fin cfg0.N) {a a' : Fin 64} {l : Fin 2048} {h : Fin 16} {k : Fin 128} (ha : a.val = a'.val) (hl : l.val = h.val * 128 + k.val) :
    iblk m c 3 t (ix2 a l) = (kops m c).ke t h a' k := by
  obtain rfl : a = a' := Fin.ext ha
  obtain rfl : l = lane h k := Fin.ext hl
  blk_ext [iblk, V, idx_val t]

/-- The block of scores at a point. -/
theorem qk_read (t : Fin cfg0.N) {g h : Fin 16} {z : Fin 1} {a a' b b' : Fin 64} (hg : g.val = h.val) (ha : a.val = a'.val) (hb : b.val = b'.val) :
    iblk m c 4 t (ix4 g z a b) = (kops m c).qk t h a' b' := by
  obtain rfl : g = h := Fin.ext hg
  obtain rfl : a = a' := Fin.ext ha
  obtain rfl : b = b' := Fin.ext hb
  blk_ext [iblk, V, idx_val t]

/-- The block of decays at a point. -/
theorem dec_read (t : Fin cfg0.N) {z z' : Fin 1} {g h : Fin 16} {v : Fin 128} (hg : g.val = h.val) :
    iblk m c 5 t (ix4 z g z' v) = (kops m c).dec t h := by
  obtain rfl : g = h := Fin.ext hg
  unfold iblk
  blk_simp [V, idx_val t]
  entry_read
  pointwise
  blk_ext [V, idx_val t]

/-- The state a point finds in the scratch, by head and the two coordinates of the state: nothing at the first point. -/
def held (t : Fin cfg0.N) : Fin 16 → Fin 128 → Fin 128 → EReal := fun h k v =>
  if t.val % 64 = 0 then 0 else (outsAt0 m c (t.val - 1) (Nat.lt_of_le_of_lt (Nat.sub_le _ _) t.isLt)).2.2.2 (ix3 h k v)

theorem held_first (t : Fin cfg0.N) (h0 : t.val % 64 = 0) (h : Fin 16) (k v : Fin 128) : 0 = held m c t h k v := by
  rw [held, if_pos h0]

theorem held_later (t : Fin cfg0.N) (h0 : ¬t.val % 64 = 0) {g h : Fin 16} {k k' v v' : Fin 128} (hg : g.val = h.val)
    (hk : k.val = k'.val) (hv : v.val = v'.val) :
    (outsAt0 m c (t.val - 1) (Nat.lt_of_le_of_lt (Nat.sub_le _ _) t.isLt)).2.2.2 (ix3 g k v) = held m c t h k' v' := by
  obtain rfl : g = h := Fin.ext hg
  obtain rfl : k = k' := Fin.ext hk
  obtain rfl : v = v' := Fin.ext hv
  rw [held, if_neg h0]

/-- The new values of a chunk, from equal terms. -/
theorem vnew_of (x : Ops) (S : Fin 16 → Fin 128 → Fin 128 → EReal) (t : Fin 64) (h : Fin 16) (a : Fin 64) (v : Fin 128)
    {Uf : EReal} {Wf Sf : Fin 128 → EReal} (hu : Uf = x.u t h a v) (hw : ∀ k, Wf k = x.w t h a k) (hS : ∀ k, Sf k = S h k v) :
    Uf - ∑ k, Wf k * Sf k = vnew x S t h a v := by
  rw [vnew, hu]; congr 1; exact Finset.sum_congr rfl fun k _ => by rw [hw, hS]

/-- The output of a chunk, from equal terms. -/
theorem out_of (x : Ops) (S : Fin 16 → Fin 128 → Fin 128 → EReal) (t : Fin 64) (h : Fin 16) (a : Fin 64) (v : Fin 128)
    {Qf Sf : Fin 128 → EReal} {Kf Uf : Fin 64 → EReal} {Wf : Fin 64 → Fin 128 → EReal}
    (hq : ∀ k, Qf k = x.qg t h a k) (hS : ∀ k, Sf k = S h k v) (hk : ∀ s, Kf s = x.qk t h a s)
    (hu : ∀ s, Uf s = x.u t h s v) (hw : ∀ s k, Wf s k = x.w t h s k) :
    ∑ k, Qf k * Sf k + ∑ s, Kf s * (Uf s - ∑ k, Wf s k * Sf k) = out x S t h a v := by
  rw [out]; congr 1
  · exact Finset.sum_congr rfl fun k _ => by rw [hq, hS]
  · exact Finset.sum_congr rfl fun s _ => by rw [hk, vnew_of x S t h s v (hu s) (hw s) hS]

/-- The next state, from equal terms. -/
theorem next_of (x : Ops) (S : Fin 16 → Fin 128 → Fin 128 → EReal) (t : Fin 64) (h : Fin 16) (k v : Fin 128)
    {S0 D : EReal} {Sf : Fin 128 → EReal} {Kf Uf : Fin 64 → EReal} {Wf : Fin 64 → Fin 128 → EReal}
    (h0 : S0 = S h k v) (hd : D = x.dec t h) (hS : ∀ k, Sf k = S h k v) (hk : ∀ s, Kf s = x.ke t h s k)
    (hu : ∀ s, Uf s = x.u t h s v) (hw : ∀ s k, Wf s k = x.w t h s k) :
    S0 * D + ∑ s, Kf s * (Uf s - ∑ k, Wf s k * Sf k) = next x S t h k v := by
  rw [next, h0, hd]; congr 1
  exact Finset.sum_congr rfl fun s _ => by rw [hk, vnew_of x S t h s v (hu s) (hw s) hS]

/-- Stores that cover the buffer hide the earlier ones. -/
theorem canon_over {Val : EltTy → Type} [∀ e, Nonempty (Val e)] {s : Shape} {e : EltTy} (L' : List (View.Piece Val s e)) :
    ∀ (L : List (View.Piece Val s e)) (y : s.Idx), (∃ p ∈ L, y ∈ p.1.set) → View.canon (L ++ L') y = View.canon L y
  | [], _, h => by obtain ⟨p, hp, _⟩ := h; exact absurd hp List.not_mem_nil
  | ⟨r, w⟩ :: L, y, h => by
    by_cases hy : y ∈ r.set
    · obtain ⟨x, rfl⟩ : ∃ x, r.emb x = y := r.exists_idx_of_mem hy
      rw [List.cons_append, View.canon_cons_emb, View.canon_cons_emb]
    · rw [List.cons_append, View.canon_cons_of_not_mem ⟨r, w⟩ _ hy, View.canon_cons_of_not_mem ⟨r, w⟩ _ hy]
      refine canon_over L' L y ?_
      obtain ⟨p, hp, hm⟩ := h
      rcases List.mem_cons.mp hp with rfl | hp
      · exact absurd hm hy
      · exact ⟨p, hp, hm⟩

theorem idx2 (y : S64x2048.Idx) : (y 1).val < 2048 := (y 1).isLt

end Cert.Kernel2Ideal.Value

end
-- ==== Proof.FwdOut.lean ====
/- The outputs one grid point of the state-passing kernel stores, head by head. -/
module

public import proofs.«01_k».proof.Proof.FwdBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Value

open Idealize.ShloMosaic Idealize.ShloMosaic.TcCoe
open Idealize.ShloMosaic.Tactic Idealize.SL.Sem Cert.Kernel2Ideal.Gen
open Idealize.ShloMosaic.Pipeline (Dat)
open Cert.Scan

variable (m : (ℓ : Loc nD τ sig) → Buf (Elt Ideal) ℓ) (c : Dev nD)

/-- The outputs a point stores. -/
theorem o_A (t : Fin cfg0.N) (hz : t.val % 64 = 0) (y : S64x2048.Idx) :
    (outsAt0 m c t.val t.isLt).1 y = out (kops m c) (held m c t) t ⟨(y 1).val / 128, by have := idx2 y; omega⟩ (y 0) ⟨(y 1).val % 128, by omega⟩ := by
  rw [outsAt0_A m c t hz]
  frame_out
  canon_tiles x h
  all_goals
    open_payloads
    pointwise
    refine out_of _ _ _ _ _ _ (fun k => ?_) (fun k => ?_) (fun s => ?_) (fun s => ?_) (fun s k => ?_)
    · exact qg_read m c t (by first | rfl | omega | (dsimp only; omega)) (by first | rfl | omega | (dsimp only; omega))
    · exact (read_zeros _ _ _).trans (held_first m c t hz _ _ _)
    · exact qk_read m c t (by first | rfl | omega | (dsimp only; omega)) (by first | rfl | omega | (dsimp only; omega)) (by first | rfl | omega | (dsimp only; omega))
    · exact u_read m c t (by first | rfl | omega | (dsimp only; omega)) (by first | rfl | omega | (dsimp only; omega))
    · exact w_read m c t (by first | rfl | omega | (dsimp only; omega)) (by first | rfl | omega | (dsimp only; omega))

/-- The outputs a point stores. -/
theorem o_B (t : Fin cfg0.N) (hz : ¬t.val % 64 = 0) (y : S64x2048.Idx) :
    (outsAt0 m c t.val t.isLt).1 y = out (kops m c) (held m c t) t ⟨(y 1).val / 128, by have := idx2 y; omega⟩ (y 0) ⟨(y 1).val % 128, by omega⟩ := by
  rw [outsAt0_B m c t hz]
  frame_out
  canon_tiles x h
  all_goals
    open_payloads
    pointwise
    rw [read_unread_whole]
    refine out_of _ _ _ _ _ _ (fun k => ?_) (fun k => ?_) (fun s => ?_) (fun s => ?_) (fun s k => ?_)
    · exact qg_read m c t (by first | rfl | omega | (dsimp only; omega)) (by first | rfl | omega | (dsimp only; omega))
    · exact held_later m c t hz (by first | rfl | omega | (dsimp only; omega)) rfl (by first | rfl | omega | (dsimp only; omega))
    · exact qk_read m c t (by first | rfl | omega | (dsimp only; omega)) (by first | rfl | omega | (dsimp only; omega)) (by first | rfl | omega | (dsimp only; omega))
    · exact u_read m c t (by first | rfl | omega | (dsimp only; omega)) (by first | rfl | omega | (dsimp only; omega))
    · exact w_read m c t (by first | rfl | omega | (dsimp only; omega)) (by first | rfl | omega | (dsimp only; omega))

end Cert.Kernel2Ideal.Value

end
-- ==== Proof.FwdNew.lean ====
/- The new values one grid point of the state-passing kernel stores, head by head. -/
module

public import proofs.«01_k».proof.Proof.FwdBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Value

open Idealize.ShloMosaic Idealize.ShloMosaic.TcCoe
open Idealize.ShloMosaic.Tactic Idealize.SL.Sem Cert.Kernel2Ideal.Gen
open Idealize.ShloMosaic.Pipeline (Dat)
open Cert.Scan

variable (m : (ℓ : Loc nD τ sig) → Buf (Elt Ideal) ℓ) (c : Dev nD)

/-- The new values a point stores. -/
theorem vn_A (t : Fin cfg0.N) (hz : t.val % 64 = 0) (y : S64x2048.Idx) :
    (outsAt0 m c t.val t.isLt).2.1 y = vnew (kops m c) (held m c t) t ⟨(y 1).val / 128, by have := idx2 y; omega⟩ (y 0) ⟨(y 1).val % 128, by omega⟩ := by
  rw [outsAt0_A m c t hz]
  frame_out
  canon_tiles x h
  all_goals
    open_payloads
    pointwise
    refine vnew_of _ _ _ _ _ _ ?_ (fun k => ?_) (fun k => ?_)
    · exact u_read m c t (by first | rfl | omega | (dsimp only; omega)) (by first | rfl | omega | (dsimp only; omega))
    · exact w_read m c t (by first | rfl | omega | (dsimp only; omega)) (by first | rfl | omega | (dsimp only; omega))
    · exact (read_zeros _ _ _).trans (held_first m c t hz _ _ _)

/-- The new values a point stores. -/
theorem vn_B (t : Fin cfg0.N) (hz : ¬t.val % 64 = 0) (y : S64x2048.Idx) :
    (outsAt0 m c t.val t.isLt).2.1 y = vnew (kops m c) (held m c t) t ⟨(y 1).val / 128, by have := idx2 y; omega⟩ (y 0) ⟨(y 1).val % 128, by omega⟩ := by
  rw [outsAt0_B m c t hz]
  frame_out
  canon_tiles x h
  all_goals
    open_payloads
    pointwise
    rw [read_unread_whole]
    refine vnew_of _ _ _ _ _ _ ?_ (fun k => ?_) (fun k => ?_)
    · exact u_read m c t (by first | rfl | omega | (dsimp only; omega)) (by first | rfl | omega | (dsimp only; omega))
    · exact w_read m c t (by first | rfl | omega | (dsimp only; omega)) (by first | rfl | omega | (dsimp only; omega))
    · exact held_later m c t hz (by first | rfl | omega | (dsimp only; omega)) rfl (by first | rfl | omega | (dsimp only; omega))

end Cert.Kernel2Ideal.Value

end
-- ==== Proof.FwdSaved.lean ====
/- The states one grid point of the state-passing kernel saves, head by head. -/
module

public import proofs.«01_k».proof.Proof.FwdBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Value

open Idealize.ShloMosaic Idealize.ShloMosaic.TcCoe
open Idealize.ShloMosaic.Tactic Idealize.SL.Sem Cert.Kernel2Ideal.Gen
open Idealize.ShloMosaic.Pipeline (Dat)
open Cert.Scan

variable (m : (ℓ : Loc nD τ sig) → Buf (Elt Ideal) ℓ) (c : Dev nD)

/-- The states a point saves. -/
theorem ss_A (t : Fin cfg0.N) (hz : t.val % 64 = 0) (y : S16x1x128x128.Idx) :
    (outsAt0 m c t.val t.isLt).2.2.1 y = held m c t (y 0) (y 2) (y 3) := by
  rw [outsAt0_A m c t hz]
  frame_out
  canon_tiles x h
  all_goals
    open_payloads
    pointwise
    exact (read_zeros _ _ _).trans (held_first m c t hz _ _ _)

/-- The states a point saves. -/
theorem ss_B (t : Fin cfg0.N) (hz : ¬t.val % 64 = 0) (y : S16x1x128x128.Idx) :
    (outsAt0 m c t.val t.isLt).2.2.1 y = held m c t (y 0) (y 2) (y 3) := by
  rw [outsAt0_B m c t hz]
  frame_out
  canon_tiles x h
  all_goals
    open_payloads
    pointwise
    rw [read_unread_whole]
    exact held_later m c t hz (by first | rfl | omega | (dsimp only; omega)) (by first | rfl | omega | (dsimp only; omega)) (by first | rfl | omega | (dsimp only; omega))

end Cert.Kernel2Ideal.Value

end
-- ==== Proof.FwdState.lean ====
/- The states one grid point of the state-passing kernel leaves for the next, head by head. -/
module

public import proofs.«01_k».proof.Proof.FwdBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Value

open Idealize.ShloMosaic Idealize.ShloMosaic.TcCoe
open Idealize.ShloMosaic.Tactic Idealize.SL.Sem Cert.Kernel2Ideal.Gen
open Idealize.ShloMosaic.Pipeline (Dat)
open Cert.Scan

variable (m : (ℓ : Loc nD τ sig) → Buf (Elt Ideal) ℓ) (c : Dev nD)

/-- The states a point leaves in the scratch. -/
theorem st_A (t : Fin cfg0.N) (hz : t.val % 64 = 0) (y : S16x128x128.Idx) :
    (outsAt0 m c t.val t.isLt).2.2.2 y = next (kops m c) (held m c t) t (y 0) (y 1) (y 2) := by
  rw [outsAt0_A m c t hz]
  frame_out
  refine (canon_over [_] [_, _, _, _, _, _, _, _, _, _, _, _, _, _, _, _] y (View.cover_of_tiledL _ ![1, 128, 128] (by sl_kernel_rfl) y)).trans ?_
  canon_tiles x h
  all_goals
    open_payloads
    pointwise
    refine next_of _ _ _ _ _ _ ?_ ?_ (fun k => ?_) (fun s => ?_) (fun s => ?_) (fun s k => ?_)
    · exact (read_zeros _ _ _).trans (held_first m c t hz _ _ _)
    · exact dec_read m c t (by first | rfl | omega | (dsimp only; omega))
    · exact (read_zeros _ _ _).trans (held_first m c t hz _ _ _)
    · exact ke_read m c t (by first | rfl | omega | (dsimp only; omega)) (by first | rfl | omega | (dsimp only; omega))
    · exact u_read m c t (by first | rfl | omega | (dsimp only; omega)) (by first | rfl | omega | (dsimp only; omega))
    · exact w_read m c t (by first | rfl | omega | (dsimp only; omega)) (by first | rfl | omega | (dsimp only; omega))

/-- The states a point leaves in the scratch. -/
theorem st_B (t : Fin cfg0.N) (hz : ¬t.val % 64 = 0) (y : S16x128x128.Idx) :
    (outsAt0 m c t.val t.isLt).2.2.2 y = next (kops m c) (held m c t) t (y 0) (y 1) (y 2) := by
  rw [outsAt0_B m c t hz]
  frame_out
  canon_tiles x h
  all_goals
    open_payloads
    pointwise
    rw [read_unread_whole]
    refine next_of _ _ _ _ _ _ ?_ ?_ (fun k => ?_) (fun s => ?_) (fun s => ?_) (fun s k => ?_)
    · exact held_later m c t hz (by first | rfl | omega | (dsimp only; omega)) (by first | rfl | omega | (dsimp only; omega)) (by first | rfl | omega | (dsimp only; omega))
    · exact dec_read m c t (by first | rfl | omega | (dsimp only; omega))
    · exact held_later m c t hz (by first | rfl | omega | (dsimp only; omega)) rfl (by first | rfl | omega | (dsimp only; omega))
    · exact ke_read m c t (by first | rfl | omega | (dsimp only; omega)) (by first | rfl | omega | (dsimp only; omega))
    · exact u_read m c t (by first | rfl | omega | (dsimp only; omega)) (by first | rfl | omega | (dsimp only; omega))
    · exact w_read m c t (by first | rfl | omega | (dsimp only; omega)) (by first | rfl | omega | (dsimp only; omega))

end Cert.Kernel2Ideal.Value

end
-- ==== Proof.FwdKernel.lean ====
/- The state-passing kernel's results: the scratch carries the state from chunk to chunk, and the three arrays hold the
   outputs, the new values and the state before every chunk. -/
module

public import proofs.«01_k».proof.Proof.FwdOut
public import proofs.«01_k».proof.Proof.FwdNew
public import proofs.«01_k».proof.Proof.FwdSaved
public import proofs.«01_k».proof.Proof.FwdState

@[expose] public section

set_option maxRecDepth 16384

noncomputable section

namespace Cert.Kernel2Ideal.Value

open Idealize.ShloMosaic Idealize.ShloMosaic.TcCoe
open Idealize.ShloMosaic.Tactic Idealize.SL.Sem Cert.Kernel2Ideal.Gen
open Idealize.ShloMosaic.Pipeline (Dat)
open Cert.Scan

variable (m : (ℓ : Loc nD τ sig) → Buf (Elt Ideal) ℓ) (c : Dev nD)

theorem o_point (t : Fin cfg0.N) (y : S64x2048.Idx) :
    (outsAt0 m c t.val t.isLt).1 y = out (kops m c) (held m c t) t ⟨(y 1).val / 128, by have := idx2 y; omega⟩ (y 0) ⟨(y 1).val % 128, by omega⟩ := by
  by_cases h : t.val % 64 = 0
  · exact o_A m c t h y
  · exact o_B m c t h y

theorem vn_point (t : Fin cfg0.N) (y : S64x2048.Idx) :
    (outsAt0 m c t.val t.isLt).2.1 y = vnew (kops m c) (held m c t) t ⟨(y 1).val / 128, by have := idx2 y; omega⟩ (y 0) ⟨(y 1).val % 128, by omega⟩ := by
  by_cases h : t.val % 64 = 0
  · exact vn_A m c t h y
  · exact vn_B m c t h y

theorem ss_point (t : Fin cfg0.N) (y : S16x1x128x128.Idx) :
    (outsAt0 m c t.val t.isLt).2.2.1 y = held m c t (y 0) (y 2) (y 3) := by
  by_cases h : t.val % 64 = 0
  · exact ss_A m c t h y
  · exact ss_B m c t h y

theorem st_point (t : Fin cfg0.N) (y : S16x128x128.Idx) :
    (outsAt0 m c t.val t.isLt).2.2.2 y = next (kops m c) (held m c t) t (y 0) (y 1) (y 2) := by
  by_cases h : t.val % 64 = 0
  · exact st_A m c t h y
  · exact st_B m c t h y

/-- The scratch before chunk `n` is the recurrence's state. -/
theorem held_eq (n : ℕ) (hn : n < cfg0.N) : held m c ⟨n, hn⟩ = state (kops m c) n := by
  induction n with
  | zero => funext h k v; rw [held, if_pos (by rfl)]; rfl
  | succ n ih =>
    have hn' : n + 1 < 64 := hn
    funext h k v
    rw [held, if_neg (by dsimp only; omega), state_succ _ n (by omega), ← ih (by omega)]
    exact st_point m c ⟨n, by omega⟩ (ix3 h k v)

theorem held_state (t : Fin cfg0.N) : held m c t = state (kops m c) t.val := held_eq m c t.val t.isLt

theorem final_outs : (dats m 0 c).arrAt 6 cfg0.N = outs (kops m c) := by
  refine (dats m 0 c).arrAt_eq_of_covers 6 _ (by decide +kernel) fun t _ y => ?_
  blk_simp
  rw [after0_6]
  refine (o_point m c t y).trans ?_
  rw [held_state]
  refine outs_at (kops m c) ?_ ?_
  · blk_simp [idx_val t]
  · blk_simp [idx_val t]
    exact (Nat.div_add_mod' _ 128).symm

theorem final_vnews : (dats m 0 c).arrAt 7 cfg0.N = vnews (kops m c) := by
  refine (dats m 0 c).arrAt_eq_of_covers 7 _ (by decide +kernel) fun t _ y => ?_
  blk_simp
  rw [after0_7]
  refine (vn_point m c t y).trans ?_
  rw [held_state]
  refine vnews_at (kops m c) ?_ ?_
  · blk_simp [idx_val t]
  · blk_simp [idx_val t]
    exact (Nat.div_add_mod' _ 128).symm

theorem final_states : (dats m 0 c).arrAt 8 cfg0.N = states (kops m c) := by
  refine (dats m 0 c).arrAt_eq_of_covers 8 _ (by decide +kernel) fun t _ y => ?_
  blk_simp
  rw [after0_8]
  refine (ss_point m c t y).trans ?_
  rw [held_state]
  refine states_at (kops m c) (c := ⟨t.val, t.isLt⟩) ?_ ?_ ?_ ?_
  · blk_simp [idx_val t]
  · blk_simp [idx_val t]
  · blk_simp [idx_val t]
  · blk_simp [idx_val t]

end Cert.Kernel2Ideal.Value

end
-- ==== Proof.FwdReference.lean ====
/- What the reference's scan over the chunks holds after `n` trips: the state before chunk `n`, and the first `n` chunks of
   the three stacked results. -/
module

public import proofs.«01_k».proof.Proof.Gen.Reference2Ideal.Run
public import proofs.«01_k».proof.Proof.FwdSpec
public import proofs.«01_k».proof.Proof.ScanSlices

@[expose] public section

set_option maxRecDepth 16384

noncomputable section

namespace Cert.Reference2Ideal.Value

open Idealize.ShloMosaic Idealize.ShloMosaic.TcCoe
open Idealize.ShloMosaic.StableHlo Idealize.ShloMosaic.Tactic Idealize.SL.Sem Cert.Reference2Ideal.Gen
open Cert.Scan

/-- The number of the chunk a trip is at, the state and the operands the loop carries, as plain arrays. -/
abbrev ctr (V : Valuation τ sig (Elt Ideal)) : IVec S_ 32 := V (Proc.devRef .tc main_v24_6)
abbrev cu (V : Valuation τ sig (Elt Ideal)) : FVec Ideal S64x1x16x64x128 .f32 := V (Proc.devRef .tc main_v24_0)
abbrev cw (V : Valuation τ sig (Elt Ideal)) : FVec Ideal S64x1x16x64x128 .f32 := V (Proc.devRef .tc main_v24_1)
abbrev cqg (V : Valuation τ sig (Elt Ideal)) : FVec Ideal S64x1x16x64x128 .f32 := V (Proc.devRef .tc main_v24_2)
abbrev cke (V : Valuation τ sig (Elt Ideal)) : FVec Ideal S64x1x16x64x128 .f32 := V (Proc.devRef .tc main_v24_3)
abbrev cqk (V : Valuation τ sig (Elt Ideal)) : FVec Ideal S64x1x16x64x64 .f32 := V (Proc.devRef .tc main_v24_4)
abbrev cdec (V : Valuation τ sig (Elt Ideal)) : FVec Ideal S64x1x16 .f32 := V (Proc.devRef .tc main_v24_5)
abbrev cS (V : Valuation τ sig (Elt Ideal)) : FVec Ideal S1x16x128x128 .f32 := V (Proc.devRef .tc main_v24_7)
abbrev co (V : Valuation τ sig (Elt Ideal)) : FVec Ideal S64x1x16x64x128 .f32 := V (Proc.devRef .tc main_v24_8)
abbrev cv (V : Valuation τ sig (Elt Ideal)) : FVec Ideal S64x1x16x64x128 .f32 := V (Proc.devRef .tc main_v24_9)
abbrev cs (V : Valuation τ sig (Elt Ideal)) : FVec Ideal S64x1x16x128x128 .f32 := V (Proc.devRef .tc main_v24_10)

/-- The operands a trip slices, by chunk, head, row and lane. -/
abbrev carried (V : Valuation τ sig (Elt Ideal)) : Ops where
  u c h t k := cu V (ix5 c 0 h t k)
  w c h t k := cw V (ix5 c 0 h t k)
  qg c h t k := cqg V (ix5 c 0 h t k)
  ke c h t k := cke V (ix5 c 0 h t k)
  qk c h t k := cqk V (ix5 c 0 h t k)
  dec c h := cdec V (ix3 c 0 h)

abbrev carriedS (V : Valuation τ sig (Elt Ideal)) : Fin 16 → Fin 128 → Fin 128 → EReal := fun h a b => cS V (ix4 0 h a b)

/-- A chunk of 128 lanes, of 64 lanes, a chunk's decays: what a trip slices of the stacks it carries. -/
def chunk128 (A : FVec Ideal S64x1x16x64x128 .f32) (i : IVec S_ 32) : FVec Ideal S1x16x64x128 .f32 :=
  shapeCast S1x16x64x128 (Host.dynamicSlice S1x1x16x64x128 A (fun k => (((![i, constantI S_ 32 0#32, constantI S_ 32 0#32, constantI S_ 32 0#32, constantI S_ 32 0#32] : Fin 5 → IVec S_ 32)) k (Shape.Idx.first h_S_)).toInt) sliceFits_S64x1x16x64x128_S1x1x16x64x128) shapeCasts_S1x1x16x64x128_S1x16x64x128
def chunk64 (A : FVec Ideal S64x1x16x64x64 .f32) (i : IVec S_ 32) : FVec Ideal S1x16x64x64 .f32 :=
  shapeCast S1x16x64x64 (Host.dynamicSlice S1x1x16x64x64 A (fun k => (((![i, constantI S_ 32 0#32, constantI S_ 32 0#32, constantI S_ 32 0#32, constantI S_ 32 0#32] : Fin 5 → IVec S_ 32)) k (Shape.Idx.first h_S_)).toInt) sliceFits_S64x1x16x64x64_S1x1x16x64x64) shapeCasts_S1x1x16x64x64_S1x16x64x64
def chunkD (A : FVec Ideal S64x1x16 .f32) (i : IVec S_ 32) : FVec Ideal S1x16 .f32 :=
  shapeCast S1x16 (Host.dynamicSlice S1x1x16 A (fun k => (((![i, constantI S_ 32 0#32, constantI S_ 32 0#32] : Fin 3 → IVec S_ 32)) k (Shape.Idx.first h_S_)).toInt) sliceFits_S64x1x16_S1x1x16) shapeCasts_S1x1x16_S1x16

theorem chunk128_at {A : FVec Ideal S64x1x16x64x128 .f32} {i : IVec S_ 32} {n : Fin 64} (hn : i = fun _ => BitVec.ofNat 32 n.val)
    (h : Fin 16) (t : Fin 64) (k : Fin 128) : chunk128 A i (ix4 0 h t k) = A (ix5 n 0 h t k) :=
  slice128_apply A i n hn _ _ _ h t k
theorem chunk64_at {A : FVec Ideal S64x1x16x64x64 .f32} {i : IVec S_ 32} {n : Fin 64} (hn : i = fun _ => BitVec.ofNat 32 n.val)
    (h : Fin 16) (t k : Fin 64) : chunk64 A i (ix4 0 h t k) = A (ix5 n 0 h t k) :=
  slice64_apply A i n hn _ _ _ h t k
theorem chunkD_at {A : FVec Ideal S64x1x16 .f32} {i : IVec S_ 32} {n : Fin 64} (hn : i = fun _ => BitVec.ofNat 32 n.val)
    (h : Fin 16) : chunkD A i (ix2 0 h) = A (ix3 n 0 h) :=
  sliceD_apply A i n hn _ _ _ h

/-- The chunk's new values, as a trip makes them. -/
abbrev newValues (V : Valuation τ sig (Elt Ideal)) : FVec Ideal S1x16x64x128 .f32 := res_main_while0b_v42 V

section
variable (V : Valuation τ sig (Elt Ideal)) (n : Fin 64) (hn : ctr V = fun _ => BitVec.ofNat 32 n.val)
include hn

theorem newValues_apply (h : Fin 16) (t : Fin 64) (v : Fin 128) :
    newValues V (ix4 0 h t v) = vnew (carried V) (carriedS V) n h t v := by
  have e : newValues V = subf (chunk128 (cu V) (ctr V)) (Host.dotGeneral dot_S1x16x64x128_S1x16x128x128_S1x16x64x128_3_2_2_3_01_01 none (chunk128 (cw V) (ctr V)) (cS V)) := rfl
  rw [e]
  pointwise [chunk128_at hn]
  rfl

/-- The output a trip makes. -/
theorem step_out (j : Fin 64) (h : Fin 16) (t : Fin 64) (v : Fin 128) :
    (step_main_v24_8 V : FVec Ideal S64x1x16x64x128 .f32) (ix5 j 0 h t v)
      = if j = n then out (carried V) (carriedS V) n h t v else co V (ix5 j 0 h t v) := by
  have e : (step_main_v24_8 V : FVec Ideal S64x1x16x64x128 .f32) = Host.dynamicUpdateSlice (co V) (broadcastInDim S1x1x16x64x128 ![1, 2, 3, 4] bcast_S1x16x64x128_S1x1x16x64x128_1_2_3_4
    (addf (Host.dotGeneral dot_S1x16x64x128_S1x16x128x128_S1x16x64x128_3_2_2_3_01_01 none (chunk128 (cqg V) (ctr V)) (cS V))
      (Host.dotGeneral dot_S1x16x64x64_S1x16x64x128_S1x16x64x128_3_2_2_3_01_01 none (chunk64 (cqk V) (ctr V)) (newValues V))))
    (fun k => (((![ctr V, constantI S_ 32 0#32, constantI S_ 32 0#32, constantI S_ 32 0#32, constantI S_ 32 0#32] : Fin 5 → IVec S_ 32)) k (Shape.Idx.first h_S_)).toInt) updateFits_S64x1x16x64x128_S1x1x16x64x128 := rfl
  rw [e, put128_apply _ _ _ n hn]
  refine if_congr Iff.rfl ?_ rfl
  pointwise [chunk128_at hn, chunk64_at hn]
  simp only [newValues_apply V n hn]
  rfl

/-- The new values a trip makes. -/
theorem step_vnew (j : Fin 64) (h : Fin 16) (t : Fin 64) (v : Fin 128) :
    (step_main_v24_9 V : FVec Ideal S64x1x16x64x128 .f32) (ix5 j 0 h t v)
      = if j = n then vnew (carried V) (carriedS V) n h t v else cv V (ix5 j 0 h t v) := by
  have e : (step_main_v24_9 V : FVec Ideal S64x1x16x64x128 .f32) = Host.dynamicUpdateSlice (cv V) (broadcastInDim S1x1x16x64x128 ![1, 2, 3, 4] bcast_S1x16x64x128_S1x1x16x64x128_1_2_3_4
    (newValues V))
    (fun k => (((![ctr V, constantI S_ 32 0#32, constantI S_ 32 0#32, constantI S_ 32 0#32, constantI S_ 32 0#32] : Fin 5 → IVec S_ 32)) k (Shape.Idx.first h_S_)).toInt) updateFits_S64x1x16x64x128_S1x1x16x64x128 := rfl
  rw [e, put128_apply _ _ _ n hn, newValues_apply V n hn]

/-- The state a trip records. -/
theorem step_states (j : Fin 64) (h : Fin 16) (a b : Fin 128) :
    (step_main_v24_10 V : FVec Ideal S64x1x16x128x128 .f32) (ix5 j 0 h a b)
      = if j = n then carriedS V h a b else cs V (ix5 j 0 h a b) := by
  have e : (step_main_v24_10 V : FVec Ideal S64x1x16x128x128 .f32) = Host.dynamicUpdateSlice (cs V) (broadcastInDim S1x1x16x128x128 ![1, 2, 3, 4] bcast_S1x16x128x128_S1x1x16x128x128_1_2_3_4
    (cS V))
    (fun k => (((![ctr V, constantI S_ 32 0#32, constantI S_ 32 0#32, constantI S_ 32 0#32, constantI S_ 32 0#32] : Fin 5 → IVec S_ 32)) k (Shape.Idx.first h_S_)).toInt) updateFits_S64x1x16x128x128_S1x1x16x128x128 := rfl
  rw [e, putS_apply _ _ _ n hn]

/-- The state a trip leaves. -/
theorem step_state (h : Fin 16) (a b : Fin 128) :
    (step_main_v24_7 V : FVec Ideal S1x16x128x128 .f32) (ix4 0 h a b) = next (carried V) (carriedS V) n h a b := by
  have e : (step_main_v24_7 V : FVec Ideal S1x16x128x128 .f32) = addf (mulf (cS V) (broadcastInDim S1x16x128x128 ![0, 1, 2, 3] bcast_S1x16x1x1_S1x16x128x128_0_1_2_3 (broadcastInDim S1x16x1x1 ![0, 1] bcast_S1x16_S1x16x1x1_0_1 (chunkD (cdec V) (ctr V)))))
    (Host.dotGeneral dot_S1x16x64x128_S1x16x64x128_S1x16x128x128_2_2_3_3_01_01 none (chunk128 (cke V) (ctr V)) (newValues V)) := rfl
  rw [e]
  pointwise [chunk128_at hn, chunkD_at hn]
  simp only [newValues_apply V n hn]
  rfl

end

/-! ## Before the first trip -/

variable (m : (ℓ : Loc nD τ sig) → Buf (Elt Ideal) ℓ) (c : Dev nD)

abbrev refOps : Ops :=
  ops (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

abbrev entry0 : Valuation τ sig (Elt Ideal) := entryContents preI m c

/-- An array of 4096 rows stacked by chunks. -/
def stack128 (A : FVec Ideal S4096x2048 .f32) : FVec Ideal S64x1x16x64x128 .f32 :=
  transpose S64x1x16x64x128 [2, 0, 1, 3, 4] (transpose S1x16x64x64x128 [0, 3, 1, 2, 4] (shapeCast S1x64x64x16x128 A shapeCasts_S4096x2048_S1x64x64x16x128) transposes_S1x64x64x16x128_S1x16x64x64x128_0_3_1_2_4) transposes_S1x16x64x64x128_S64x1x16x64x128_2_0_1_3_4

theorem stack128_apply (A : FVec Ideal S4096x2048 .f32) (j : Fin 64) (h : Fin 16) (t : Fin 64) (k : Fin 128) :
    stack128 A (ix5 j 0 h t k) = chunked A j h t k := by
  pointwise [stack128]

theorem entry_u : cu (entry0 m c) = stack128 (m ((c.tc : Thread nD τ).loc main_arg0)) := by
  show entryContents preI m c (Proc.devRef .tc main_v24_0) = _
  simp only [entryContents, afterL_cons, afterL_nil]
  after_reads_simp
  rfl
theorem entry_w : cw (entry0 m c) = stack128 (m ((c.tc : Thread nD τ).loc main_arg1)) := by
  show entryContents preI m c (Proc.devRef .tc main_v24_1) = _
  simp only [entryContents, afterL_cons, afterL_nil]
  after_reads_simp
  rfl
theorem entry_qg : cqg (entry0 m c) = stack128 (m ((c.tc : Thread nD τ).loc main_arg2)) := by
  show entryContents preI m c (Proc.devRef .tc main_v24_2) = _
  simp only [entryContents, afterL_cons, afterL_nil]
  after_reads_simp
  rfl
theorem entry_ke : cke (entry0 m c) = stack128 (m ((c.tc : Thread nD τ).loc main_arg3)) := by
  show entryContents preI m c (Proc.devRef .tc main_v24_3) = _
  simp only [entryContents, afterL_cons, afterL_nil]
  after_reads_simp
  rfl
theorem entry_dec : cdec (entry0 m c) = transpose S64x1x16 [2, 0, 1] (broadcastInDim S1x16x64 ![1, 2] bcast_S16x64_S1x16x64_1_2 (transpose S16x64 [1, 0] (m ((c.tc : Thread nD τ).loc main_arg5)) transposes_S64x16_S16x64_1_0)) transposes_S1x16x64_S64x1x16_2_0_1 := by
  show entryContents preI m c (Proc.devRef .tc main_v24_5) = _
  simp only [entryContents, afterL_cons, afterL_nil]
  after_reads_simp
  rfl
theorem entry_qk : cqk (entry0 m c) = transpose S64x1x16x64x64 [2, 0, 1, 3, 4] (broadcastInDim S1x16x64x64x64 ![1, 2, 3, 4] bcast_S16x64x64x64_S1x16x64x64x64_1_2_3_4 (m ((c.tc : Thread nD τ).loc main_arg4))) transposes_S1x16x64x64x64_S64x1x16x64x64_2_0_1_3_4 := by
  show entryContents preI m c (Proc.devRef .tc main_v24_4) = _
  simp only [entryContents, afterL_cons, afterL_nil]
  after_reads_simp
  rfl
theorem entry_S : cS (entry0 m c) = broadcastInDim S1x16x128x128 ![] bcast_S_S1x16x128x128 (constant S_ .f32 0x00000000#32) := by
  show entryContents preI m c (Proc.devRef .tc main_v24_7) = _
  simp only [entryContents, afterL_cons, afterL_nil]
  after_reads_simp
  rfl

/-- The operands the loop carries are the arguments', chunk by chunk. -/
theorem entry_ops : carried (entry0 m c) = refOps m c := by
  simp only [carried, refOps, ops, Ops.mk.injEq]
  refine ⟨?_, ?_, ?_, ?_, ?_, ?_⟩
  · funext j h t k; rw [entry_u]; exact stack128_apply _ j h t k
  · funext j h t k; rw [entry_w]; exact stack128_apply _ j h t k
  · funext j h t k; rw [entry_qg]; exact stack128_apply _ j h t k
  · funext j h t k; rw [entry_ke]; exact stack128_apply _ j h t k
  · funext j h t k; rw [entry_qk]; pointwise
  · funext j h; rw [entry_dec]; pointwise

theorem entry_state : carriedS (entry0 m c) = state (refOps m c) 0 := by
  funext h a b
  show cS (entry0 m c) (ix4 0 h a b) = 0
  rw [entry_S]
  pointwise

/-! ## After `n` trips -/

/-- What the loop holds after `n` trips. -/
structure Held (V : Valuation τ sig (Elt Ideal)) (n : ℕ) : Prop where
  ctr : ctr V = fun _ => BitVec.ofNat 32 n
  ops : carried V = refOps m c
  state : carriedS V = state (refOps m c) n
  out : ∀ j : Fin 64, j.val < n → ∀ h t v, co V (ix5 j 0 h t v) = out (refOps m c) (Scan.state (refOps m c) j.val) j h t v
  vnew : ∀ j : Fin 64, j.val < n → ∀ h t v, cv V (ix5 j 0 h t v) = vnew (refOps m c) (Scan.state (refOps m c) j.val) j h t v
  states : ∀ j : Fin 64, j.val < n → ∀ h a b, cs V (ix5 j 0 h a b) = Scan.state (refOps m c) j.val h a b

/-- One trip. -/
theorem Held.step {V : Valuation τ sig (Elt Ideal)} {n : ℕ} (hn : n < 64) (H : Held m c V n) : Held m c (STEP V) (n + 1) := by
  have hc : Value.ctr V = fun _ => BitVec.ofNat 32 (⟨n, hn⟩ : Fin 64).val := H.ctr
  refine ⟨?_, ?_, ?_, ?_, ?_, ?_⟩
  · show STEP V (Proc.devRef .tc main_v24_6) = _
    rw [STEP_main_v24_6]
    have e : (step_main_v24_6 V : IVec S_ 32) = addi (Value.ctr V) (constantI S_ 32 1#32) := rfl
    refine e.trans ?_
    rw [H.ctr]
    funext q
    show BitVec.ofNat 32 n + 1#32 = BitVec.ofNat 32 (n + 1)
    rw [BitVec.ofNat_add]
  · refine Eq.trans ?_ H.ops
    have e0 : cu (STEP V) = cu V := STEP_main_v24_0 V
    have e1 : cw (STEP V) = cw V := STEP_main_v24_1 V
    have e2 : cqg (STEP V) = cqg V := STEP_main_v24_2 V
    have e3 : cke (STEP V) = cke V := STEP_main_v24_3 V
    have e4 : cqk (STEP V) = cqk V := STEP_main_v24_4 V
    have e5 : cdec (STEP V) = cdec V := STEP_main_v24_5 V
    unfold carried
    rw [e0, e1, e2, e3, e4, e5]
  · rw [Scan.state_succ _ n hn, ← H.state, ← H.ops]
    funext h a b
    show (STEP V (Proc.devRef .tc main_v24_7) : FVec Ideal S1x16x128x128 .f32) (ix4 0 h a b) = _
    rw [STEP_main_v24_7]
    exact step_state V ⟨n, hn⟩ hc h a b
  · intro j hj h t v
    show (STEP V (Proc.devRef .tc main_v24_8) : FVec Ideal S64x1x16x64x128 .f32) (ix5 j 0 h t v) = _
    rw [STEP_main_v24_8]
    refine (step_out V ⟨n, hn⟩ hc j h t v).trans ?_
    by_cases e : j = ⟨n, hn⟩
    · rw [if_pos e, e, H.ops, H.state]
    · rw [if_neg e]
      exact H.out j (by have : j.val ≠ n := fun q => e (Fin.ext q); omega) h t v
  · intro j hj h t v
    show (STEP V (Proc.devRef .tc main_v24_9) : FVec Ideal S64x1x16x64x128 .f32) (ix5 j 0 h t v) = _
    rw [STEP_main_v24_9]
    refine (step_vnew V ⟨n, hn⟩ hc j h t v).trans ?_
    by_cases e : j = ⟨n, hn⟩
    · rw [if_pos e, e, H.ops, H.state]
    · rw [if_neg e]
      exact H.vnew j (by have : j.val ≠ n := fun q => e (Fin.ext q); omega) h t v
  · intro j hj h a b
    show (STEP V (Proc.devRef .tc main_v24_10) : FVec Ideal S64x1x16x128x128 .f32) (ix5 j 0 h a b) = _
    rw [STEP_main_v24_10]
    refine (step_states V ⟨n, hn⟩ hc j h a b).trans ?_
    by_cases e : j = ⟨n, hn⟩
    · rw [if_pos e, e, H.state]
    · rw [if_neg e]
      exact H.states j (by have : j.val ≠ n := fun q => e (Fin.ext q); omega) h a b

/-- After `n` of the 64 trips. -/
theorem held_zero : Held m c (entry0 m c) 0 :=
  ⟨ctr_entry m c, entry_ops m c, entry_state m c, fun _ h => absurd h (by omega), fun _ h => absurd h (by omega),
    fun _ h => absurd h (by omega)⟩

theorem held (n : ℕ) (hn : n ≤ 64) : Held m c (STEP^[n] (entry0 m c)) n := by
  have h0 := held_zero m c
  generalize entry0 m c = V at h0 ⊢
  induction n with
  | zero => exact h0
  | succ n ih =>
    rw [Function.iterate_succ_apply']
    exact Held.step m c (by omega) (ih (by omega))

/-! ## The results -/

theorem result_outs : (out_main_v27 (STEP^[64] (entry0 m c)) : FVec Ideal S4096x2048 .f32) = outs (refOps m c) := by
  have H := held m c 64 (by omega)
  generalize STEP^[64] (entry0 m c) = V at H
  have e : (out_main_v27 V : FVec Ideal S4096x2048 .f32) = shapeCast S4096x2048 (transpose S1x64x64x16x128 [0, 2, 3, 1, 4] (transpose S1x16x64x64x128 [1, 2, 0, 3, 4] (co V) transposes_S64x1x16x64x128_S1x16x64x64x128_1_2_0_3_4) transposes_S1x16x64x64x128_S1x64x64x16x128_0_2_3_1_4) shapeCasts_S1x64x64x16x128_S4096x2048 := rfl
  rw [e]
  funext i
  idx_vars i
  pointwise
  exact H.out _ (Fin.isLt _) _ _ _

theorem result_vnews : (out_main_v31 (STEP^[64] (entry0 m c)) : FVec Ideal S4096x2048 .bf16) = vnews (refOps m c) := by
  have H := held m c 64 (by omega)
  generalize STEP^[64] (entry0 m c) = V at H
  have e : (out_main_v31 V : FVec Ideal S4096x2048 .bf16) = truncf .bf16 (shapeCast S4096x2048 (transpose S1x64x64x16x128 [0, 2, 3, 1, 4] (transpose S1x16x64x64x128 [1, 2, 0, 3, 4] (cv V) transposes_S64x1x16x64x128_S1x16x64x64x128_1_2_0_3_4) transposes_S1x16x64x64x128_S1x64x64x16x128_0_2_3_1_4) shapeCasts_S1x64x64x16x128_S4096x2048) bitsLt_bf16_f32 := rfl
  rw [e]
  funext i
  idx_vars i
  pointwise
  exact H.vnew _ (Fin.isLt _) _ _ _

theorem result_states : (out_main_v34 (STEP^[64] (entry0 m c)) : FVec Ideal S16x64x128x128 .bf16) = states (refOps m c) := by
  have H := held m c 64 (by omega)
  generalize STEP^[64] (entry0 m c) = V at H
  have e : (out_main_v34 V : FVec Ideal S16x64x128x128 .bf16) = truncf .bf16 (shapeCast S16x64x128x128 (transpose S1x16x64x128x128 [1, 2, 0, 3, 4] (cs V) transposes_S64x1x16x128x128_S1x16x64x128x128_1_2_0_3_4) shapeCasts_S1x16x64x128x128_S16x64x128x128) bitsLt_bf16_f32 := rfl
  rw [e]
  funext i
  idx_vars i
  pointwise
  exact H.states _ (Fin.isLt _) _ _ _

end Cert.Reference2Ideal.Value

end
-- ==== Proof.BlockSum.lean ====
/- A sum over a long axis taken block by block: what an accumulator holds after so many blocks, and that after the last it
   holds the whole sum. -/
module

public import Mathlib.Data.EReal.Operations
public import Mathlib.Algebra.BigOperators.Fin

@[expose] public section

noncomputable section

namespace Cert.Blocks

/-- A term by its number; past the axis's end there is none. -/
def term {K : ℕ} (g : Fin K → EReal) (k : ℕ) : EReal := if h : k < K then g ⟨k, h⟩ else 0

theorem term_at {K : ℕ} (g : Fin K → EReal) (k : Fin K) {n : ℕ} (h : k.val = n) : term g n = g k := by
  subst h
  exact dif_pos k.isLt

/-- The first `n` blocks of `w` terms each, added up. -/
def upTo {K : ℕ} (g : Fin K → EReal) (w n : ℕ) : EReal := ∑ l ∈ Finset.range n, ∑ i : Fin w, term g (l * w + i.val)

theorem upTo_succ {K : ℕ} (g : Fin K → EReal) (w n : ℕ) : upTo g w (n + 1) = upTo g w n + ∑ i : Fin w, term g (n * w + i.val) :=
  Finset.sum_range_succ _ _

theorem upTo_zero {K : ℕ} (g : Fin K → EReal) (w : ℕ) : upTo g w 0 = 0 := rfl

theorem upTo_one {K : ℕ} (g : Fin K → EReal) (w : ℕ) : upTo g w 1 = ∑ i : Fin w, term g (0 * w + i.val) := by
  rw [upTo_succ, upTo_zero, zero_add]

/-- All blocks together are all terms. -/
theorem upTo_all {K : ℕ} (g : Fin K → EReal) {w n : ℕ} (h : n * w = K) : upTo g w n = ∑ k, g k := by
  have range : ∀ n, upTo g w n = ∑ k ∈ Finset.range (n * w), term g k := fun n => by
    induction n with
    | zero => rw [upTo_zero, Nat.zero_mul, Finset.sum_range_zero]
    | succ n ih => rw [upTo_succ, ih, Nat.succ_mul, Finset.sum_range_add, Fin.sum_univ_eq_sum_range (fun i => term g (n * w + i)) w]
  rw [range, h, ← Fin.sum_univ_eq_sum_range (term g) K]
  exact Finset.sum_congr rfl fun k _ => term_at g k rfl

end Cert.Blocks

end
-- ==== Proof.Products.lean ====
/- The sums the step's backward products compute, one definition for each, and how an entry is named by its coordinates. -/
module

public import Idealize.ShloMosaic.Lib.Pointwise
public import Idealize.ShloMosaic.PureOps.Ideal.Laws
public import Mathlib.Data.EReal.Operations

@[expose] public section

noncomputable section

namespace Cert.Products

open Idealize.ShloMosaic

/-- An array of two axes. -/
abbrev Mat (M N : ℕ) : Type := (⟨2, ![M, N]⟩ : Shape).Idx → EReal

/-- An array of three axes. -/
abbrev Cube (L M N : ℕ) : Type := (⟨3, ![L, M, N]⟩ : Shape).Idx → EReal

/-- Two indices with the same middle coordinate and equal outer ones. -/
theorem ix3_at {L M N : ℕ} {i i' : Fin L} {j : Fin M} {k k' : Fin N} (hi : i.val = i'.val) (hk : k.val = k'.val) : ix3 i j k = ix3 i' j k' := by
  rw [Fin.ext hi, Fin.ext hk]

/-- Rows of one matrix against rows of another. -/
def rowsByRows {M N K : ℕ} (A : Mat M K) (B : Mat N K) : Mat M N := fun i => ∑ k, A (ix2 (i 0) k) * B (ix2 (i 1) k)

theorem rowsByRows_at {M N K : ℕ} (A : Mat M K) (B : Mat N K) {i : (⟨2, ![M, N]⟩ : Shape).Idx} {r : Fin M} {q : Fin N}
    (h0 : (i 0).val = r.val) (h1 : (i 1).val = q.val) : ∑ k, A (ix2 r k) * B (ix2 q k) = rowsByRows A B i := by
  rw [rowsByRows, show i 0 = r from Fin.ext h0, show i 1 = q from Fin.ext h1]

/-- Columns of one matrix against columns of another. -/
def colsByCols {M N K : ℕ} (A : Mat K M) (B : Mat K N) : Mat M N := fun i => ∑ k, A (ix2 k (i 0)) * B (ix2 k (i 1))

theorem colsByCols_at {M N K : ℕ} (A : Mat K M) (B : Mat K N) {i : (⟨2, ![M, N]⟩ : Shape).Idx} {r : Fin M} {q : Fin N}
    (h0 : (i 0).val = r.val) (h1 : (i 1).val = q.val) : ∑ k, A (ix2 k r) * B (ix2 k q) = colsByCols A B i := by
  rw [colsByCols, show i 0 = r from Fin.ext h0, show i 1 = q from Fin.ext h1]

/-- Rows of one matrix against columns of another. -/
def rowsByCols {M N K : ℕ} (A : Mat M K) (B : Mat K N) : Mat M N := fun i => ∑ k, A (ix2 (i 0) k) * B (ix2 k (i 1))

theorem rowsByCols_at {M N K : ℕ} (A : Mat M K) (B : Mat K N) {i : (⟨2, ![M, N]⟩ : Shape).Idx} {r : Fin M} {q : Fin N}
    (h0 : (i 0).val = r.val) (h1 : (i 1).val = q.val) : ∑ k, A (ix2 r k) * B (ix2 k q) = rowsByCols A B i := by
  rw [rowsByCols, show i 0 = r from Fin.ext h0, show i 1 = q from Fin.ext h1]

theorem entry_at {M N : ℕ} (R : Mat M N) {i : (⟨2, ![M, N]⟩ : Shape).Idx} {r : Fin M} {q : Fin N} (h0 : (i 0).val = r.val) (h1 : (i 1).val = q.val) :
    R (ix2 r q) = R i :=
  congrArg R (by rw [← show i 0 = r from Fin.ext h0, ← show i 1 = q from Fin.ext h1]; exact ix2_eta i)

/-- The same, added to an array. -/
def plusProduct {M N K : ℕ} (R : Mat M N) (A : Mat M K) (B : Mat K N) : Mat M N := fun i => R i + rowsByCols A B i

theorem plusProduct_at {M N K : ℕ} (R : Mat M N) (A : Mat M K) (B : Mat K N) {i : (⟨2, ![M, N]⟩ : Shape).Idx} {r : Fin M} {q : Fin N}
    (h0 : (i 0).val = r.val) (h1 : (i 1).val = q.val) : R (ix2 r q) + ∑ k, A (ix2 r k) * B (ix2 k q) = plusProduct R A B i :=
  congrArg₂ (· + ·) (entry_at R h0 h1) (rowsByCols_at A B h0 h1)

/-- One half, by its word. -/
abbrev half : EReal := Ideal.ofBits .f32 0x3F000000#32

theorem half_eq : half = ((1 / 2 : ℝ) : EReal) := by
  simp [half, Ideal.ofBits, Ideal.ieee, -EReal.coe_mul]
  norm_num

/-- Half a product of columns. -/
def halfColsByCols {M N K : ℕ} (A : Mat K M) (B : Mat K N) : Mat M N := fun i => colsByCols A B i * half

theorem halfColsByCols_at {M N K : ℕ} (A : Mat K M) (B : Mat K N) {i : (⟨2, ![M, N]⟩ : Shape).Idx} {r : Fin M} {q : Fin N}
    (h0 : (i 0).val = r.val) (h1 : (i 1).val = q.val) : (∑ k, A (ix2 k r) * B (ix2 k q)) * half = halfColsByCols A B i :=
  congrArg (· * half) (colsByCols_at A B h0 h1)

/-- Half a product, added to an array. -/
def plusHalf {M N K : ℕ} (R : Mat M N) (A : Mat M K) (B : Mat K N) : Mat M N := fun i => R i + rowsByCols A B i * half

theorem plusHalf_at {M N K : ℕ} (R : Mat M N) (A : Mat M K) (B : Mat K N) {i : (⟨2, ![M, N]⟩ : Shape).Idx} {r : Fin M} {q : Fin N}
    (h0 : (i 0).val = r.val) (h1 : (i 1).val = q.val) : R (ix2 r q) + (∑ k, A (ix2 r k) * B (ix2 k q)) * half = plusHalf R A B i :=
  congrArg₂ (· + · * half) (entry_at R h0 h1) (rowsByCols_at A B h0 h1)

/-- The first weights' gradient, in four blocks of columns: the two sides' columns stand in the order of the sides. -/
def sidesWeights (A : Mat 4096 1024) (B : Cube 2 4096 2816) : Cube 4 1024 1408 := fun i =>
  ∑ k, A (ix2 k (i 1)) * B (ix3 ⟨(i 0).val / 2, by have : (i 0).val < 4 := (i 0).isLt; omega⟩ k ⟨(i 0).val % 2 * 1408 + (i 2).val, by have : (i 2).val < 1408 := (i 2).isLt; omega⟩)

theorem sidesWeights_at (A : Mat 4096 1024) (B : Cube 2 4096 2816) {i : (⟨3, ![4, 1024, 1408]⟩ : Shape).Idx} {p : Fin 4} {r : Fin 1024} {q : Fin 1408}
    (h0 : (i 0).val = p.val) (h1 : (i 1).val = r.val) (h2 : (i 2).val = q.val) :
    ∑ k, A (ix2 k r) * B (ix3 ⟨p.val / 2, by omega⟩ k ⟨p.val % 2 * 1408 + q.val, by omega⟩) = sidesWeights A B i := by
  obtain rfl : i 0 = p := Fin.ext h0
  obtain rfl : i 1 = r := Fin.ext h1
  obtain rfl : i 2 = q := Fin.ext h2
  rfl

/-- A column of the two sides laid next to each other. -/
abbrev sideCol (A : Cube 2 4096 2816) (r : Fin 4096) (k : Fin 5632) : EReal := A (ix3 ⟨k.val / 2816, by omega⟩ r ⟨k.val % 2816, by omega⟩)

/-- A column of the weights, kept in four blocks of columns. -/
abbrev blockCol (B : Cube 4 1024 1408) (q : Fin 1024) (k : Fin 5632) : EReal := B (ix3 ⟨k.val / 1408, by omega⟩ q ⟨k.val % 1408, by omega⟩)

/-- The gradient of the sides' input. -/
def sidesInput (A : Cube 2 4096 2816) (B : Cube 4 1024 1408) : Mat 4096 1024 := fun i => ∑ k, sideCol A (i 0) k * blockCol B (i 1) k

theorem sidesInput_at (A : Cube 2 4096 2816) (B : Cube 4 1024 1408) {i : (⟨2, ![4096, 1024]⟩ : Shape).Idx} {r : Fin 4096} {q : Fin 1024}
    (h0 : (i 0).val = r.val) (h1 : (i 1).val = q.val) : ∑ k, sideCol A r k * blockCol B q k = sidesInput A B i := by
  obtain rfl : i 0 = r := Fin.ext h0
  obtain rfl : i 1 = q := Fin.ext h1
  rfl

/-- A scale that is a nonnegative real number passes into a sum, whatever the terms. -/
theorem sum_mul_real {K : ℕ} (g : Fin K → EReal) {x : ℝ} (hx : 0 ≤ x) : (∑ k, g k) * (x : EReal) = ∑ k, g k * (x : EReal) := by
  induction K with
  | zero => rw [Fin.sum_univ_zero, Fin.sum_univ_zero, zero_mul]
  | succ n ih => rw [Fin.sum_univ_succ, Fin.sum_univ_succ, EReal.right_distrib_of_nonneg_of_ne_top (EReal.coe_nonneg.mpr hx) (EReal.coe_ne_top x), ih]

theorem sum_mul_half {K : ℕ} (g : Fin K → EReal) : (∑ k, g k) * half = ∑ k, g k * half := by
  rw [half_eq]
  exact sum_mul_real g (by norm_num)

end Cert.Products

end
-- ==== Proof.ProjDu.lean ====
/- The gradient of the projection's input: a product accumulated over twelve blocks of the long axis. -/
module

public import proofs.«01_k».proof.Proof.Gen.Kernel3Ideal.Frame
public import proofs.«01_k».proof.Proof.BlockSum
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Value

open Idealize.ShloMosaic Idealize.ShloMosaic.TcCoe
open Idealize.ShloMosaic.Tactic Idealize.SL.Sem Cert.Kernel3Ideal.Gen
open Idealize.ShloMosaic.Pipeline (Dat)
open Cert.Blocks Cert.Products

variable (m : (ℓ : Loc nD τ sig) → Buf (Elt Ideal) ℓ) (c : Dev nD)

/-- The gradient of the projection. -/
abbrev dproj : Mat 4096 12288 := m (c, main_arg0)

/-- The projection's weights. -/
abbrev weights : Mat 1024 12288 := m (c, main_arg1)

theorem idx_val : ∀ t : Fin cfg0.N,
    win0_0.index t = ![t.val / 12, t.val % 12] ∧ win0_1.index t = ![0, t.val % 12] ∧ win0_2.index t = ![t.val / 12, 0] :=
  (by decide +kernel : ∀ t : Fin grid0.N, _)

/-- The block of the result a point works on. -/
abbrev tile (t : Fin cfg0.N) : Fin 4 := ⟨t.val / 12, by have : t.val < 48 := t.isLt; omega⟩

/-- The long axis's coordinate of a block's. -/
abbrev long (t : Fin cfg0.N) (k : Fin 1024) : Fin 12288 := ⟨t.val % 12 * 1024 + k.val, by omega⟩

/-- The left factor of an entry's terms. -/
abbrev left (p : Fin 4) (a : Fin 1024) (k : Fin 12288) : EReal := dproj m c (ix2 ⟨p.val * 1024 + a.val, by omega⟩ k)

/-- The right factor of an entry's terms. -/
abbrev right (p : Fin 4) (b : Fin 1024) (k : Fin 12288) : EReal := weights m c (ix2 b k)

/-- The terms of an entry of a block. -/
abbrev terms (p : Fin 4) (a : Fin 1024) (b : Fin 1024) (k : Fin 12288) : EReal := left m c p a k * right m c p b k

theorem left_read (t : Fin cfg0.N) (a : Fin 1024) (k : Fin 1024) : iblk m c 0 t (ix2 a k) = left m c (tile t) a (long t k) := by
  blk_ext [iblk, V, idx_val t]

theorem right_read (t : Fin cfg0.N) (b : Fin 1024) (k : Fin 1024) : iblk m c 1 t (ix2 b k) = right m c (tile t) b (long t k) := by
  blk_ext [iblk, V, idx_val t]

/-- What the point adds to an entry. -/
abbrev added (t : Fin cfg0.N) (a : Fin 1024) (b : Fin 1024) : EReal := ∑ k : Fin 1024, term (terms m c (tile t) a b) (t.val % 12 * 1024 + k.val)

theorem added_of (t : Fin cfg0.N) (a : Fin 1024) (b : Fin 1024) (L R : Fin 1024 → EReal) (hL : ∀ k, L k = left m c (tile t) a (long t k))
    (hR : ∀ k, R k = right m c (tile t) b (long t k)) : ∑ k, L k * R k = added m c t a b :=
  Finset.sum_congr rfl fun k _ => by rw [hL, hR, term_at _ (long t k) rfl]

/-- What the accumulator holds before a point. -/
abbrev accBefore (t : Fin cfg0.N) : Mat 1024 1024 :=
  (outsAt0 m c (t.val - 1) (Nat.lt_of_le_of_lt (Nat.sub_le _ _) t.isLt)).2

/-- The first point of a block starts the accumulator. -/
theorem acc_A (t : Fin cfg0.N) (h0 : t.val % 12 = 0) (y : S1024x1024.Idx) : (outsAt0 m c t.val t.isLt).2 y = added m c t (y 0) (y 1) := by
  rw [outsAt0_A m c t h0 (by omega) (by omega)]
  frame_out
  open_payloads
  pointwise
  exact added_of m c t _ _ _ _ (fun k => left_read m c t _ k) (fun k => right_read m c t _ k)

/-- A later one adds to it. -/
theorem acc_B (t : Fin cfg0.N) (h0 : ¬t.val % 12 = 0) (h2 : ¬t.val % 12 = 11) (y : S1024x1024.Idx) :
    (outsAt0 m c t.val t.isLt).2 y = accBefore m c t y + added m c t (y 0) (y 1) := by
  rw [outsAt0_B m c t h0 (by omega) h2]
  frame_out
  open_payloads
  pointwise
  rw [read_unread_whole]
  exact congrArg _ (added_of m c t _ _ _ _ (fun k => left_read m c t _ k) (fun k => right_read m c t _ k))

/-- The last writes it out, its own part added. -/
theorem out_C (t : Fin cfg0.N) (h2 : t.val % 12 = 11) (y : S1024x1024.Idx) :
    (outsAt0 m c t.val t.isLt).1 y = accBefore m c t y + added m c t (y 0) (y 1) := by
  rw [outsAt0_C m c t (by omega) (by omega) h2]
  frame_out
  open_payloads
  pointwise
  rw [read_unread_whole]
  exact congrArg (_) (added_of m c t _ _ _ _ (fun k => left_read m c t _ k) (fun k => right_read m c t _ k))

/-- After a point that is not a block's last, the accumulator holds the terms so far. -/
theorem acc_eq (n : ℕ) (hn : n < cfg0.N) (h2 : ¬n % 12 = 11) (y : S1024x1024.Idx) :
    (outsAt0 m c n hn).2 y = upTo (terms m c (tile ⟨n, hn⟩) (y 0) (y 1)) 1024 (n % 12 + 1) := by
  induction n with
  | zero => exact (acc_A m c ⟨0, hn⟩ rfl y).trans (upTo_one _ _).symm
  | succ n ih =>
    by_cases h0 : (n + 1) % 12 = 0
    · refine (acc_A m c ⟨n + 1, hn⟩ h0 y).trans ?_
      dsimp only [added]
      rw [h0, upTo_one]
    · refine (acc_B m c ⟨n + 1, hn⟩ h0 h2 y).trans ?_
      rw [upTo_succ]
      refine congrArg (· + _) ((ih (by omega) (by omega)).trans ?_)
      rw [show n % 12 + 1 = (n + 1) % 12 by omega]
      exact congrArg (fun p => upTo (terms m c p (y 0) (y 1)) 1024 ((n + 1) % 12)) (Fin.ext (by show n / 12 = (n + 1) / 12; omega))

/-- A block's last point writes out the whole sums. -/
theorem out_eq (t : Fin cfg0.N) (h2 : t.val % 12 = 11) (y : S1024x1024.Idx) :
    (outsAt0 m c t.val t.isLt).1 y = ∑ k, terms m c (tile t) (y 0) (y 1) k := by
  have ht : t.val < 48 := t.isLt
  refine (out_C m c t h2 y).trans (Eq.trans ?_ (upTo_all (w := 1024) (n := 12) _ rfl))
  dsimp only [added]
  rw [upTo_succ _ _ 11, h2]
  refine congrArg (· + _) ((acc_eq m c (t.val - 1) (by omega) (by omega) y).trans ?_)
  rw [show (t.val - 1) % 12 + 1 = 11 by omega]
  exact congrArg (fun p => upTo (terms m c p (y 0) (y 1)) 1024 11) (Fin.ext (by show (t.val - 1) / 12 = t.val / 12; omega))

/-- The array after the run. -/
theorem final : (dats m 0 c).arrAt 2 cfg0.N = rowsByRows (dproj m c) (weights m c) := by
  refine (dats m 0 c).arrAt_eq_of_covers 2 _ (by decide +kernel) fun t hf y => ?_
  have h2 : t.val % 12 = 11 := (flush0_2 t).mp hf
  blk_simp
  rw [after0_2]
  refine (out_eq m c t h2 y).trans (rowsByRows_at (dproj m c) (weights m c) ?_ ?_)
  · blk_simp [idx_val t]
  · blk_simp [idx_val t]

end Cert.Kernel3Ideal.Value

end
-- ==== Proof.ProjDuReference.lean ====
/- The reference's gradient of the projection's input is the same sums. -/
module

public import proofs.«01_k».proof.Proof.Gen.Reference3Ideal.Run
public import proofs.«01_k».proof.Proof.Products

@[expose] public section

set_option maxRecDepth 16384

noncomputable section

namespace Cert.Reference3Ideal.Value

open Idealize.ShloMosaic Idealize.ShloMosaic.TcCoe Cert.Reference3Ideal.Gen
open Cert.Products

variable (G : FVec Ideal S4096x12288 .bf16) (W : FVec Ideal S1024x12288 .bf16)

theorem result : (Host.dotGeneral dot_S4096x12288_S1024x12288_S4096x1024_1_1_0_0_n_n none (extf .f32 G bitsLt_bf16_f32) (extf .f32 W bitsLt_bf16_f32) : FVec Ideal S4096x1024 .f32) = rowsByRows G W := by
  funext i
  pointwise
  rfl

end Cert.Reference3Ideal.Value

end
-- ==== Proof.ProjDw.lean ====
/- The gradient of the projection's weights: a product accumulated over four blocks of the tokens. -/
module

public import proofs.«01_k».proof.Proof.Gen.Kernel4Ideal.Frame
public import proofs.«01_k».proof.Proof.BlockSum
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Value

open Idealize.ShloMosaic Idealize.ShloMosaic.TcCoe
open Idealize.ShloMosaic.Tactic Idealize.SL.Sem Cert.Kernel4Ideal.Gen
open Idealize.ShloMosaic.Pipeline (Dat)
open Cert.Blocks Cert.Products

variable (m : (ℓ : Loc nD τ sig) → Buf (Elt Ideal) ℓ) (c : Dev nD)

/-- The projection's input. -/
abbrev normed : Mat 4096 1024 := m (c, main_arg0)

/-- The gradient of the projection. -/
abbrev dproj : Mat 4096 12288 := m (c, main_arg1)

theorem idx_val : ∀ t : Fin cfg0.N,
    win0_0.index t = ![0, t.val % 4] ∧ win0_1.index t = ![t.val % 4, t.val / 4] ∧ win0_2.index t = ![0, t.val / 4] :=
  (by decide +kernel : ∀ t : Fin grid0.N, _)

/-- The block of the result a point works on. -/
abbrev tile (t : Fin cfg0.N) : Fin 12 := ⟨t.val / 4, by have : t.val < 48 := t.isLt; omega⟩

/-- The long axis's coordinate of a block's. -/
abbrev long (t : Fin cfg0.N) (k : Fin 1024) : Fin 4096 := ⟨t.val % 4 * 1024 + k.val, by omega⟩

/-- The left factor of an entry's terms. -/
abbrev left (p : Fin 12) (a : Fin 1024) (k : Fin 4096) : EReal := normed m c (ix2 k a)

/-- The right factor of an entry's terms. -/
abbrev right (p : Fin 12) (b : Fin 1024) (k : Fin 4096) : EReal := dproj m c (ix2 k ⟨p.val * 1024 + b.val, by omega⟩)

/-- The terms of an entry of a block. -/
abbrev terms (p : Fin 12) (a : Fin 1024) (b : Fin 1024) (k : Fin 4096) : EReal := left m c p a k * right m c p b k

theorem left_read (t : Fin cfg0.N) (a : Fin 1024) (k : Fin 1024) : iblk m c 0 t (ix2 a k) = left m c (tile t) a (long t k) := by
  unfold iblk
  blk_simp [V, idx_val t]
  entry_read
  pointwise
  blk_ext [V, idx_val t]

theorem right_read (t : Fin cfg0.N) (b : Fin 1024) (k : Fin 1024) : iblk m c 1 t (ix2 k b) = right m c (tile t) b (long t k) := by
  blk_ext [iblk, V, idx_val t]

/-- What the point adds to an entry. -/
abbrev added (t : Fin cfg0.N) (a : Fin 1024) (b : Fin 1024) : EReal := ∑ k : Fin 1024, term (terms m c (tile t) a b) (t.val % 4 * 1024 + k.val)

theorem added_of (t : Fin cfg0.N) (a : Fin 1024) (b : Fin 1024) (L R : Fin 1024 → EReal) (hL : ∀ k, L k = left m c (tile t) a (long t k))
    (hR : ∀ k, R k = right m c (tile t) b (long t k)) : ∑ k, L k * R k = added m c t a b :=
  Finset.sum_congr rfl fun k _ => by rw [hL, hR, term_at _ (long t k) rfl]

/-- What the accumulator holds before a point. -/
abbrev accBefore (t : Fin cfg0.N) : Mat 1024 1024 :=
  (outsAt0 m c (t.val - 1) (Nat.lt_of_le_of_lt (Nat.sub_le _ _) t.isLt)).2

/-- The first point of a block starts the accumulator. -/
theorem acc_A (t : Fin cfg0.N) (h0 : t.val % 4 = 0) (y : S1024x1024.Idx) : (outsAt0 m c t.val t.isLt).2 y = added m c t (y 0) (y 1) := by
  rw [outsAt0_A m c t h0 (by omega) (by omega)]
  frame_out
  open_payloads
  pointwise
  exact added_of m c t _ _ _ _ (fun k => left_read m c t _ k) (fun k => right_read m c t _ k)

/-- A later one adds to it. -/
theorem acc_B (t : Fin cfg0.N) (h0 : ¬t.val % 4 = 0) (h2 : ¬t.val % 4 = 3) (y : S1024x1024.Idx) :
    (outsAt0 m c t.val t.isLt).2 y = accBefore m c t y + added m c t (y 0) (y 1) := by
  rw [outsAt0_B m c t h0 (by omega) h2]
  frame_out
  open_payloads
  pointwise
  rw [read_unread_whole]
  exact congrArg _ (added_of m c t _ _ _ _ (fun k => left_read m c t _ k) (fun k => right_read m c t _ k))

/-- The last writes it out, its own part added. -/
theorem out_C (t : Fin cfg0.N) (h2 : t.val % 4 = 3) (y : S1024x1024.Idx) :
    (outsAt0 m c t.val t.isLt).1 y = accBefore m c t y + added m c t (y 0) (y 1) := by
  rw [outsAt0_C m c t (by omega) (by omega) h2]
  frame_out
  open_payloads
  pointwise
  rw [read_unread_whole]
  exact congrArg (_) (added_of m c t _ _ _ _ (fun k => left_read m c t _ k) (fun k => right_read m c t _ k))

/-- After a point that is not a block's last, the accumulator holds the terms so far. -/
theorem acc_eq (n : ℕ) (hn : n < cfg0.N) (h2 : ¬n % 4 = 3) (y : S1024x1024.Idx) :
    (outsAt0 m c n hn).2 y = upTo (terms m c (tile ⟨n, hn⟩) (y 0) (y 1)) 1024 (n % 4 + 1) := by
  induction n with
  | zero => exact (acc_A m c ⟨0, hn⟩ rfl y).trans (upTo_one _ _).symm
  | succ n ih =>
    by_cases h0 : (n + 1) % 4 = 0
    · refine (acc_A m c ⟨n + 1, hn⟩ h0 y).trans ?_
      dsimp only [added]
      rw [h0, upTo_one]
    · refine (acc_B m c ⟨n + 1, hn⟩ h0 h2 y).trans ?_
      rw [upTo_succ]
      refine congrArg (· + _) ((ih (by omega) (by omega)).trans ?_)
      rw [show n % 4 + 1 = (n + 1) % 4 by omega]
      exact congrArg (fun p => upTo (terms m c p (y 0) (y 1)) 1024 ((n + 1) % 4)) (Fin.ext (by show n / 4 = (n + 1) / 4; omega))

/-- A block's last point writes out the whole sums. -/
theorem out_eq (t : Fin cfg0.N) (h2 : t.val % 4 = 3) (y : S1024x1024.Idx) :
    (outsAt0 m c t.val t.isLt).1 y = ∑ k, terms m c (tile t) (y 0) (y 1) k := by
  have ht : t.val < 48 := t.isLt
  refine (out_C m c t h2 y).trans (Eq.trans ?_ (upTo_all (w := 1024) (n := 4) _ rfl))
  dsimp only [added]
  rw [upTo_succ _ _ 3, h2]
  refine congrArg (· + _) ((acc_eq m c (t.val - 1) (by omega) (by omega) y).trans ?_)
  rw [show (t.val - 1) % 4 + 1 = 3 by omega]
  exact congrArg (fun p => upTo (terms m c p (y 0) (y 1)) 1024 3) (Fin.ext (by show (t.val - 1) / 4 = t.val / 4; omega))

/-- The array after the run. -/
theorem final : (dats m 0 c).arrAt 2 cfg0.N = colsByCols (normed m c) (dproj m c) := by
  refine (dats m 0 c).arrAt_eq_of_covers 2 _ (by decide +kernel) fun t hf y => ?_
  have h2 : t.val % 4 = 3 := (flush0_2 t).mp hf
  blk_simp
  rw [after0_2]
  refine (out_eq m c t h2 y).trans (colsByCols_at (normed m c) (dproj m c) ?_ ?_)
  · blk_simp [idx_val t]
  · blk_simp [idx_val t]

end Cert.Kernel4Ideal.Value

end
-- ==== Proof.ProjDwReference.lean ====
/- The reference's gradient of the projection's weights is the same sums, the factors of a term in the other order. -/
module

public import proofs.«01_k».proof.Proof.Gen.Reference4Ideal.Run
public import proofs.«01_k».proof.Proof.Products

@[expose] public section

set_option maxRecDepth 16384

noncomputable section

namespace Cert.Reference4Ideal.Value

open Idealize.ShloMosaic Idealize.ShloMosaic.TcCoe Cert.Reference4Ideal.Gen
open Cert.Products

variable (U : FVec Ideal S4096x1024 .bf16) (G : FVec Ideal S4096x12288 .bf16)

theorem result : (truncf .bf16 (transpose S1024x12288 [1, 0] (Host.dotGeneral dot_S4096x12288_S4096x1024_S12288x1024_0_0_1_1_n_n none (extf .f32 G bitsLt_bf16_f32) (extf .f32 U bitsLt_bf16_f32)) transposes_S12288x1024_S1024x12288_1_0) bitsLt_bf16_f32 : FVec Ideal S1024x12288 .bf16) = colsByCols U G := by
  funext i
  pointwise
  exact Finset.sum_congr rfl fun k _ => mul_comm _ _

end Cert.Reference4Ideal.Value

end
-- ==== Proof.FfnDwin.lean ====
/- The gradient of the feed-forward part's first weights: a product accumulated over four blocks of the tokens. -/
module

public import proofs.«01_k».proof.Proof.Gen.Kernel5Ideal.Frame
public import proofs.«01_k».proof.Proof.BlockSum
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Value

open Idealize.ShloMosaic Idealize.ShloMosaic.TcCoe
open Idealize.ShloMosaic.Tactic Idealize.SL.Sem Cert.Kernel5Ideal.Gen
open Idealize.ShloMosaic.Pipeline (Dat)
open Cert.Blocks Cert.Products

variable (m : (ℓ : Loc nD τ sig) → Buf (Elt Ideal) ℓ) (c : Dev nD)

/-- The part's normed input. -/
abbrev normed : Mat 4096 1024 := m (c, main_arg0)

/-- The gradients of the two sides. -/
abbrev dsides : Cube 2 4096 2816 := m (c, main_arg1)

theorem idx_val : ∀ t : Fin cfg0.N,
    win0_0.index t = ![0, t.val % 4] ∧ win0_1.index t = ![t.val / 4 / 2, t.val % 4, t.val / 4 % 2] ∧ win0_2.index t = ![t.val / 4, 0, 0] :=
  (by decide +kernel : ∀ t : Fin grid0.N, _)

/-- The block of the result a point works on. -/
abbrev tile (t : Fin cfg0.N) : Fin 4 := ⟨t.val / 4, by have : t.val < 16 := t.isLt; omega⟩

/-- The long axis's coordinate of a block's. -/
abbrev long (t : Fin cfg0.N) (k : Fin 1024) : Fin 4096 := ⟨t.val % 4 * 1024 + k.val, by omega⟩

/-- The left factor of an entry's terms. -/
abbrev left (p : Fin 4) (a : Fin 1024) (k : Fin 4096) : EReal := normed m c (ix2 k a)

/-- The right factor of an entry's terms. -/
abbrev right (p : Fin 4) (b : Fin 1408) (k : Fin 4096) : EReal := dsides m c (ix3 ⟨p.val / 2, by omega⟩ k ⟨p.val % 2 * 1408 + b.val, by omega⟩)

/-- The terms of an entry of a block. -/
abbrev terms (p : Fin 4) (a : Fin 1024) (b : Fin 1408) (k : Fin 4096) : EReal := left m c p a k * right m c p b k

theorem left_read (t : Fin cfg0.N) (a : Fin 1024) (k : Fin 1024) : iblk m c 0 t (ix2 a k) = left m c (tile t) a (long t k) := by
  unfold iblk
  blk_simp [V, idx_val t]
  entry_read
  pointwise
  blk_ext [V, idx_val t]

theorem right_read (t : Fin cfg0.N) (b : Fin 1408) (k : Fin 1024) : iblk m c 1 t (ix3 0 k b) = right m c (tile t) b (long t k) := by
  blk_ext [iblk, V, idx_val t]

/-- What the point adds to an entry. -/
abbrev added (t : Fin cfg0.N) (a : Fin 1024) (b : Fin 1408) : EReal := ∑ k : Fin 1024, term (terms m c (tile t) a b) (t.val % 4 * 1024 + k.val)

theorem added_of (t : Fin cfg0.N) (a : Fin 1024) (b : Fin 1408) (L R : Fin 1024 → EReal) (hL : ∀ k, L k = left m c (tile t) a (long t k))
    (hR : ∀ k, R k = right m c (tile t) b (long t k)) : ∑ k, L k * R k = added m c t a b :=
  Finset.sum_congr rfl fun k _ => by rw [hL, hR, term_at _ (long t k) rfl]

/-- What the accumulator holds before a point. -/
abbrev accBefore (t : Fin cfg0.N) : Mat 1024 1408 :=
  (outsAt0 m c (t.val - 1) (Nat.lt_of_le_of_lt (Nat.sub_le _ _) t.isLt)).2

/-- The first point of a block starts the accumulator. -/
theorem acc_A (t : Fin cfg0.N) (h0 : t.val % 4 = 0) (y : S1024x1408.Idx) : (outsAt0 m c t.val t.isLt).2 y = added m c t (y 0) (y 1) := by
  rw [outsAt0_A m c t h0 (by omega) (by omega)]
  frame_out
  open_payloads
  pointwise
  exact added_of m c t _ _ _ _ (fun k => left_read m c t _ k) (fun k => right_read m c t _ k)

/-- A later one adds to it. -/
theorem acc_B (t : Fin cfg0.N) (h0 : ¬t.val % 4 = 0) (h2 : ¬t.val % 4 = 3) (y : S1024x1408.Idx) :
    (outsAt0 m c t.val t.isLt).2 y = accBefore m c t y + added m c t (y 0) (y 1) := by
  rw [outsAt0_B m c t h0 (by omega) h2]
  frame_out
  open_payloads
  pointwise
  rw [read_unread_whole]
  exact congrArg _ (added_of m c t _ _ _ _ (fun k => left_read m c t _ k) (fun k => right_read m c t _ k))

/-- The last writes it out, its own part added. -/
theorem out_C (t : Fin cfg0.N) (h2 : t.val % 4 = 3) (y : S1x1024x1408.Idx) :
    (outsAt0 m c t.val t.isLt).1 y = accBefore m c t (ix2 (y 1) (y 2)) + added m c t (y 1) (y 2) := by
  rw [outsAt0_C m c t (by omega) (by omega) h2]
  frame_out
  open_payloads
  pointwise
  rw [read_unread_whole]
  exact congrArg (_) (added_of m c t _ _ _ _ (fun k => left_read m c t _ k) (fun k => right_read m c t _ k))

/-- After a point that is not a block's last, the accumulator holds the terms so far. -/
theorem acc_eq (n : ℕ) (hn : n < cfg0.N) (h2 : ¬n % 4 = 3) (y : S1024x1408.Idx) :
    (outsAt0 m c n hn).2 y = upTo (terms m c (tile ⟨n, hn⟩) (y 0) (y 1)) 1024 (n % 4 + 1) := by
  induction n with
  | zero => exact (acc_A m c ⟨0, hn⟩ rfl y).trans (upTo_one _ _).symm
  | succ n ih =>
    by_cases h0 : (n + 1) % 4 = 0
    · refine (acc_A m c ⟨n + 1, hn⟩ h0 y).trans ?_
      dsimp only [added]
      rw [h0, upTo_one]
    · refine (acc_B m c ⟨n + 1, hn⟩ h0 h2 y).trans ?_
      rw [upTo_succ]
      refine congrArg (· + _) ((ih (by omega) (by omega)).trans ?_)
      rw [show n % 4 + 1 = (n + 1) % 4 by omega]
      exact congrArg (fun p => upTo (terms m c p (y 0) (y 1)) 1024 ((n + 1) % 4)) (Fin.ext (by show n / 4 = (n + 1) / 4; omega))

/-- A block's last point writes out the whole sums. -/
theorem out_eq (t : Fin cfg0.N) (h2 : t.val % 4 = 3) (y : S1x1024x1408.Idx) :
    (outsAt0 m c t.val t.isLt).1 y = ∑ k, terms m c (tile t) (y 1) (y 2) k := by
  have ht : t.val < 16 := t.isLt
  refine (out_C m c t h2 y).trans (Eq.trans ?_ (upTo_all (w := 1024) (n := 4) _ rfl))
  dsimp only [added]
  rw [upTo_succ _ _ 3, h2]
  refine congrArg (· + _) ((acc_eq m c (t.val - 1) (by omega) (by omega) (ix2 (y 1) (y 2))).trans ?_)
  rw [show (t.val - 1) % 4 + 1 = 3 by omega]
  exact congrArg (fun p => upTo (terms m c p (y 1) (y 2)) 1024 3) (Fin.ext (by show (t.val - 1) / 4 = t.val / 4; omega))

/-- The array after the run. -/
theorem final : (dats m 0 c).arrAt 2 cfg0.N = sidesWeights (normed m c) (dsides m c) := by
  refine (dats m 0 c).arrAt_eq_of_covers 2 _ (by decide +kernel) fun t hf y => ?_
  have h2 : t.val % 4 = 3 := (flush0_2 t).mp hf
  blk_simp
  rw [after0_2]
  refine (out_eq m c t h2 y).trans (sidesWeights_at (normed m c) (dsides m c) ?_ ?_ ?_)
  · blk_simp [idx_val t]
  · blk_simp [idx_val t]
  · blk_simp [idx_val t]

end Cert.Kernel5Ideal.Value

end
-- ==== Proof.FfnDwinReference.lean ====
/- The reference's gradient of the feed-forward part's first weights is the same sums. -/
module

public import proofs.«01_k».proof.Proof.Gen.Reference5Ideal.Run
public import proofs.«01_k».proof.Proof.Products

@[expose] public section

set_option maxRecDepth 16384

noncomputable section

namespace Cert.Reference5Ideal.Value

open Idealize.ShloMosaic Idealize.ShloMosaic.TcCoe Cert.Reference5Ideal.Gen
open Cert.Products

variable (X : FVec Ideal S4096x1024 .bf16) (D : FVec Ideal S2x4096x2816 .bf16)

theorem result : (truncf .bf16 (transpose S4x1024x1408 [1, 0, 2] (shapeCast _ (transpose S1024x5632 [1, 0] (Host.dotGeneral dot_S4096x5632_S4096x1024_S5632x1024_0_0_1_1_n_n none (concatenate S4096x5632 1 [⟨S4096x2816, (shapeCast _ (extractStridedSlice S1x4096x2816 ![0, 0, 0] (extf .f32 D bitsLt_bf16_f32) slices_S2x4096x2816_S1x4096x2816_0_0_0) shapeCasts_S1x4096x2816_S4096x2816)⟩, ⟨S4096x2816, (shapeCast _ (extractStridedSlice S1x4096x2816 ![1, 0, 0] (extf .f32 D bitsLt_bf16_f32) slices_S2x4096x2816_S1x4096x2816_1_0_0) shapeCasts_S1x4096x2816_S4096x2816)⟩] concatenates_S4096x2816_S4096x2816_S4096x5632_d1) (extf .f32 X bitsLt_bf16_f32)) transposes_S5632x1024_S1024x5632_1_0) shapeCasts_S1024x5632_S1024x4x1408) transposes_S1024x4x1408_S4x1024x1408_1_0_2) bitsLt_bf16_f32 : FVec Ideal S4x1024x1408 .bf16) = sidesWeights X D := by
  funext i
  pointwise
  refine Finset.sum_congr rfl fun k _ => (mul_comm _ _).trans (congrArg (X (ix2 k (i 1)) * ·) ?_)
  have h0 : (i 0).val < 4 := (i 0).isLt
  have h2 : (i 2).val < 1408 := (i 2).isLt
  split
  · exact congrArg D (ix3_at (by show 0 = (i 0).val / 2; omega) (by show (i 0).val * 1408 + (i 2).val = (i 0).val % 2 * 1408 + (i 2).val; omega))
  · exact congrArg D (ix3_at (by show 1 = (i 0).val / 2; omega) (by show (i 0).val * 1408 + (i 2).val - 2816 = (i 0).val % 2 * 1408 + (i 2).val; omega))

end Cert.Reference5Ideal.Value

end
-- ==== Proof.FfnDxn.lean ====
/- The gradient of the feed-forward part's normed input: a product accumulated over four blocks of the two sides' columns. -/
module

public import proofs.«01_k».proof.Proof.Gen.Kernel6Ideal.Frame
public import proofs.«01_k».proof.Proof.BlockSum
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Value

open Idealize.ShloMosaic Idealize.ShloMosaic.TcCoe
open Idealize.ShloMosaic.Tactic Idealize.SL.Sem Cert.Kernel6Ideal.Gen
open Idealize.ShloMosaic.Pipeline (Dat)
open Cert.Blocks Cert.Products

variable (m : (ℓ : Loc nD τ sig) → Buf (Elt Ideal) ℓ) (c : Dev nD)

/-- The gradients of the two sides. -/
abbrev dsides : Cube 2 4096 2816 := m (c, main_arg0)

/-- The first weights, in four blocks of columns. -/
abbrev weights : Cube 4 1024 1408 := m (c, main_arg1)

theorem idx_val : ∀ t : Fin cfg0.N,
    win0_0.index t = ![t.val % 4 / 2, t.val / 4, t.val % 4 % 2] ∧ win0_1.index t = ![t.val % 4, 0, 0] ∧ win0_2.index t = ![t.val / 4, 0] :=
  (by decide +kernel : ∀ t : Fin grid0.N, _)

/-- The block of the result a point works on. -/
abbrev tile (t : Fin cfg0.N) : Fin 4 := ⟨t.val / 4, by have : t.val < 16 := t.isLt; omega⟩

/-- The long axis's coordinate of a block's. -/
abbrev long (t : Fin cfg0.N) (k : Fin 1408) : Fin 5632 := ⟨t.val % 4 * 1408 + k.val, by omega⟩

/-- The left factor of an entry's terms. -/
abbrev left (p : Fin 4) (a : Fin 1024) (k : Fin 5632) : EReal := sideCol (dsides m c) ⟨p.val * 1024 + a.val, by omega⟩ k

/-- The right factor of an entry's terms. -/
abbrev right (p : Fin 4) (b : Fin 1024) (k : Fin 5632) : EReal := blockCol (weights m c) b k

/-- The terms of an entry of a block. -/
abbrev terms (p : Fin 4) (a : Fin 1024) (b : Fin 1024) (k : Fin 5632) : EReal := left m c p a k * right m c p b k

theorem left_read (t : Fin cfg0.N) (a : Fin 1024) (k : Fin 1408) : iblk m c 0 t (ix3 0 a k) = left m c (tile t) a (long t k) := by
  blk_ext [iblk, V, idx_val t]

theorem right_read (t : Fin cfg0.N) (b : Fin 1024) (k : Fin 1408) : iblk m c 1 t (ix3 0 b k) = right m c (tile t) b (long t k) := by
  blk_ext [iblk, V, idx_val t]

/-- What the point adds to an entry. -/
abbrev added (t : Fin cfg0.N) (a : Fin 1024) (b : Fin 1024) : EReal := ∑ k : Fin 1408, term (terms m c (tile t) a b) (t.val % 4 * 1408 + k.val)

theorem added_of (t : Fin cfg0.N) (a : Fin 1024) (b : Fin 1024) (L R : Fin 1408 → EReal) (hL : ∀ k, L k = left m c (tile t) a (long t k))
    (hR : ∀ k, R k = right m c (tile t) b (long t k)) : ∑ k, L k * R k = added m c t a b :=
  Finset.sum_congr rfl fun k _ => by rw [hL, hR, term_at _ (long t k) rfl]

/-- What the accumulator holds before a point. -/
abbrev accBefore (t : Fin cfg0.N) : Mat 1024 1024 :=
  (outsAt0 m c (t.val - 1) (Nat.lt_of_le_of_lt (Nat.sub_le _ _) t.isLt)).2

/-- The first point of a block starts the accumulator. -/
theorem acc_A (t : Fin cfg0.N) (h0 : t.val % 4 = 0) (y : S1024x1024.Idx) : (outsAt0 m c t.val t.isLt).2 y = added m c t (y 0) (y 1) := by
  rw [outsAt0_A m c t h0 (by omega) (by omega)]
  frame_out
  open_payloads
  pointwise
  exact added_of m c t _ _ _ _ (fun k => left_read m c t _ k) (fun k => right_read m c t _ k)

/-- A later one adds to it. -/
theorem acc_B (t : Fin cfg0.N) (h0 : ¬t.val % 4 = 0) (h2 : ¬t.val % 4 = 3) (y : S1024x1024.Idx) :
    (outsAt0 m c t.val t.isLt).2 y = accBefore m c t y + added m c t (y 0) (y 1) := by
  rw [outsAt0_B m c t h0 (by omega) h2]
  frame_out
  open_payloads
  pointwise
  rw [read_unread_whole]
  exact congrArg _ (added_of m c t _ _ _ _ (fun k => left_read m c t _ k) (fun k => right_read m c t _ k))

/-- The last writes it out, its own part added. -/
theorem out_C (t : Fin cfg0.N) (h2 : t.val % 4 = 3) (y : S1024x1024.Idx) :
    (outsAt0 m c t.val t.isLt).1 y = accBefore m c t y + added m c t (y 0) (y 1) := by
  rw [outsAt0_C m c t (by omega) (by omega) h2]
  frame_out
  open_payloads
  pointwise
  rw [read_unread_whole]
  exact congrArg (_) (added_of m c t _ _ _ _ (fun k => left_read m c t _ k) (fun k => right_read m c t _ k))

/-- After a point that is not a block's last, the accumulator holds the terms so far. -/
theorem acc_eq (n : ℕ) (hn : n < cfg0.N) (h2 : ¬n % 4 = 3) (y : S1024x1024.Idx) :
    (outsAt0 m c n hn).2 y = upTo (terms m c (tile ⟨n, hn⟩) (y 0) (y 1)) 1408 (n % 4 + 1) := by
  induction n with
  | zero => exact (acc_A m c ⟨0, hn⟩ rfl y).trans (upTo_one _ _).symm
  | succ n ih =>
    by_cases h0 : (n + 1) % 4 = 0
    · refine (acc_A m c ⟨n + 1, hn⟩ h0 y).trans ?_
      dsimp only [added]
      rw [h0, upTo_one]
    · refine (acc_B m c ⟨n + 1, hn⟩ h0 h2 y).trans ?_
      rw [upTo_succ]
      refine congrArg (· + _) ((ih (by omega) (by omega)).trans ?_)
      rw [show n % 4 + 1 = (n + 1) % 4 by omega]
      exact congrArg (fun p => upTo (terms m c p (y 0) (y 1)) 1408 ((n + 1) % 4)) (Fin.ext (by show n / 4 = (n + 1) / 4; omega))

/-- A block's last point writes out the whole sums. -/
theorem out_eq (t : Fin cfg0.N) (h2 : t.val % 4 = 3) (y : S1024x1024.Idx) :
    (outsAt0 m c t.val t.isLt).1 y = ∑ k, terms m c (tile t) (y 0) (y 1) k := by
  have ht : t.val < 16 := t.isLt
  refine (out_C m c t h2 y).trans (Eq.trans ?_ (upTo_all (w := 1408) (n := 4) _ rfl))
  dsimp only [added]
  rw [upTo_succ _ _ 3, h2]
  refine congrArg (· + _) ((acc_eq m c (t.val - 1) (by omega) (by omega) y).trans ?_)
  rw [show (t.val - 1) % 4 + 1 = 3 by omega]
  exact congrArg (fun p => upTo (terms m c p (y 0) (y 1)) 1408 3) (Fin.ext (by show (t.val - 1) / 4 = t.val / 4; omega))

/-- The array after the run. -/
theorem final : (dats m 0 c).arrAt 2 cfg0.N = sidesInput (dsides m c) (weights m c) := by
  refine (dats m 0 c).arrAt_eq_of_covers 2 _ (by decide +kernel) fun t hf y => ?_
  have h2 : t.val % 4 = 3 := (flush0_2 t).mp hf
  blk_simp
  rw [after0_2]
  refine (out_eq m c t h2 y).trans (sidesInput_at (dsides m c) (weights m c) ?_ ?_)
  · blk_simp [idx_val t]
  · blk_simp [idx_val t]

end Cert.Kernel6Ideal.Value

end
-- ==== Proof.FfnDxnReference.lean ====
/- The reference's gradient of the feed-forward part's normed input is the same sums. -/
module

public import proofs.«01_k».proof.Proof.Gen.Reference6Ideal.Run
public import proofs.«01_k».proof.Proof.Products

@[expose] public section

set_option maxRecDepth 16384

noncomputable section

namespace Cert.Reference6Ideal.Value

open Idealize.ShloMosaic Idealize.ShloMosaic.TcCoe Cert.Reference6Ideal.Gen
open Cert.Products

variable (D : FVec Ideal S2x4096x2816 .bf16) (W : FVec Ideal S4x1024x1408 .bf16)

theorem result : (Host.dotGeneral dot_S4096x5632_S1024x5632_S4096x1024_1_1_0_0_n_n none (concatenate S4096x5632 1 [⟨S4096x2816, (shapeCast _ (extractStridedSlice S1x4096x2816 ![0, 0, 0] (extf .f32 D bitsLt_bf16_f32) slices_S2x4096x2816_S1x4096x2816_0_0_0) shapeCasts_S1x4096x2816_S4096x2816)⟩, ⟨S4096x2816, (shapeCast _ (extractStridedSlice S1x4096x2816 ![1, 0, 0] (extf .f32 D bitsLt_bf16_f32) slices_S2x4096x2816_S1x4096x2816_1_0_0) shapeCasts_S1x4096x2816_S4096x2816)⟩] concatenates_S4096x2816_S4096x2816_S4096x5632_d1) (extf .f32 (shapeCast _ (transpose S1024x4x1408 [1, 0, 2] W transposes_S4x1024x1408_S1024x4x1408_1_0_2) shapeCasts_S1024x4x1408_S1024x5632) bitsLt_bf16_f32) : FVec Ideal S4096x1024 .f32) = sidesInput D W := by
  funext i
  pointwise
  refine Eq.trans ?_ (Fin.sum_univ_add (a := 2816) (b := 2816) fun k => sideCol D (i 0) k * blockCol W (i 1) k).symm
  refine congrArg₂ (· + ·) (Finset.sum_congr rfl fun k _ => congrArg (· * _) (congrArg D (ix3_at ?_ ?_))) (Finset.sum_congr rfl fun k _ => congrArg (· * _) (congrArg D (ix3_at ?_ ?_)))
  · show 0 = k.val / 2816
    omega
  · show k.val = k.val % 2816
    omega
  · show 1 = (2816 + k.val) / 2816
    omega
  · show k.val = (2816 + k.val) % 2816
    omega

end Cert.Reference6Ideal.Value

end
-- ==== Proof.FfnDwout.lean ====
/- The gradient of the feed-forward part's second weights: half a product accumulated over four blocks of the tokens. -/
module

public import proofs.«01_k».proof.Proof.Gen.Kernel7Ideal.Frame
public import proofs.«01_k».proof.Proof.BlockSum
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.Value

open Idealize.ShloMosaic Idealize.ShloMosaic.TcCoe
open Idealize.ShloMosaic.Tactic Idealize.SL.Sem Cert.Kernel7Ideal.Gen
open Idealize.ShloMosaic.Pipeline (Dat)
open Cert.Blocks Cert.Products

variable (m : (ℓ : Loc nD τ sig) → Buf (Elt Ideal) ℓ) (c : Dev nD)

/-- The part's activations. -/
abbrev act : Mat 4096 2816 := m (c, main_arg0)

/-- The gradient of its result. -/
abbrev dh : Mat 4096 1024 := m (c, main_arg1)

theorem idx_val : ∀ t : Fin cfg0.N,
    win0_0.index t = ![t.val / 8, t.val % 4] ∧ win0_1.index t = ![t.val % 4, t.val / 4 % 2] ∧ win0_2.index t = ![t.val / 8, t.val / 4 % 2] :=
  (by decide +kernel : ∀ t : Fin grid0.N, _)

/-- The block of the result a point works on. -/
abbrev tile (t : Fin cfg0.N) : Fin 4 := ⟨t.val / 4, by have : t.val < 16 := t.isLt; omega⟩

/-- The long axis's coordinate of a block's. -/
abbrev long (t : Fin cfg0.N) (k : Fin 1024) : Fin 4096 := ⟨t.val % 4 * 1024 + k.val, by omega⟩

/-- The left factor of an entry's terms. -/
abbrev left (p : Fin 4) (a : Fin 1408) (k : Fin 4096) : EReal := act m c (ix2 k ⟨p.val / 2 * 1408 + a.val, by omega⟩)

/-- The right factor of an entry's terms. -/
abbrev right (p : Fin 4) (b : Fin 512) (k : Fin 4096) : EReal := dh m c (ix2 k ⟨p.val % 2 * 512 + b.val, by omega⟩)

/-- The terms of an entry of a block. -/
abbrev terms (p : Fin 4) (a : Fin 1408) (b : Fin 512) (k : Fin 4096) : EReal := left m c p a k * right m c p b k

theorem left_read (t : Fin cfg0.N) (a : Fin 1408) (k : Fin 1024) : iblk m c 0 t (ix2 a k) = left m c (tile t) a (long t k) := by
  unfold iblk
  blk_simp [V, idx_val t]
  entry_read
  pointwise
  blk_ext [V, idx_val t]

theorem right_read (t : Fin cfg0.N) (b : Fin 512) (k : Fin 1024) : iblk m c 1 t (ix2 k b) = right m c (tile t) b (long t k) := by
  blk_ext [iblk, V, idx_val t]

/-- What the point adds to an entry. -/
abbrev added (t : Fin cfg0.N) (a : Fin 1408) (b : Fin 512) : EReal := ∑ k : Fin 1024, term (terms m c (tile t) a b) (t.val % 4 * 1024 + k.val)

theorem added_of (t : Fin cfg0.N) (a : Fin 1408) (b : Fin 512) (L R : Fin 1024 → EReal) (hL : ∀ k, L k = left m c (tile t) a (long t k))
    (hR : ∀ k, R k = right m c (tile t) b (long t k)) : ∑ k, L k * R k = added m c t a b :=
  Finset.sum_congr rfl fun k _ => by rw [hL, hR, term_at _ (long t k) rfl]

/-- What the accumulator holds before a point. -/
abbrev accBefore (t : Fin cfg0.N) : Mat 1408 512 :=
  (outsAt0 m c (t.val - 1) (Nat.lt_of_le_of_lt (Nat.sub_le _ _) t.isLt)).2

/-- The first point of a block starts the accumulator. -/
theorem acc_A (t : Fin cfg0.N) (h0 : t.val % 4 = 0) (y : S1408x512.Idx) : (outsAt0 m c t.val t.isLt).2 y = added m c t (y 0) (y 1) := by
  rw [outsAt0_A m c t h0 (by omega) (by omega)]
  frame_out
  open_payloads
  pointwise
  exact added_of m c t _ _ _ _ (fun k => left_read m c t _ k) (fun k => right_read m c t _ k)

/-- A later one adds to it. -/
theorem acc_B (t : Fin cfg0.N) (h0 : ¬t.val % 4 = 0) (h2 : ¬t.val % 4 = 3) (y : S1408x512.Idx) :
    (outsAt0 m c t.val t.isLt).2 y = accBefore m c t y + added m c t (y 0) (y 1) := by
  rw [outsAt0_B m c t h0 (by omega) h2]
  frame_out
  open_payloads
  pointwise
  rw [read_unread_whole]
  exact congrArg _ (added_of m c t _ _ _ _ (fun k => left_read m c t _ k) (fun k => right_read m c t _ k))

/-- The last writes it out, its own part added, halved. -/
theorem out_C (t : Fin cfg0.N) (h2 : t.val % 4 = 3) (y : S1408x512.Idx) :
    (outsAt0 m c t.val t.isLt).1 y = (accBefore m c t y + added m c t (y 0) (y 1)) * half := by
  rw [outsAt0_C m c t (by omega) (by omega) h2]
  frame_out
  open_payloads
  pointwise
  rw [read_unread_whole]
  exact congrArg (fun e => (accBefore m c t y + e) * half) (added_of m c t _ _ _ _ (fun k => left_read m c t _ k) (fun k => right_read m c t _ k))

/-- After a point that is not a block's last, the accumulator holds the terms so far. -/
theorem acc_eq (n : ℕ) (hn : n < cfg0.N) (h2 : ¬n % 4 = 3) (y : S1408x512.Idx) :
    (outsAt0 m c n hn).2 y = upTo (terms m c (tile ⟨n, hn⟩) (y 0) (y 1)) 1024 (n % 4 + 1) := by
  induction n with
  | zero => exact (acc_A m c ⟨0, hn⟩ rfl y).trans (upTo_one _ _).symm
  | succ n ih =>
    by_cases h0 : (n + 1) % 4 = 0
    · refine (acc_A m c ⟨n + 1, hn⟩ h0 y).trans ?_
      dsimp only [added]
      rw [h0, upTo_one]
    · refine (acc_B m c ⟨n + 1, hn⟩ h0 h2 y).trans ?_
      rw [upTo_succ]
      refine congrArg (· + _) ((ih (by omega) (by omega)).trans ?_)
      rw [show n % 4 + 1 = (n + 1) % 4 by omega]
      exact congrArg (fun p => upTo (terms m c p (y 0) (y 1)) 1024 ((n + 1) % 4)) (Fin.ext (by show n / 4 = (n + 1) / 4; omega))

/-- A block's last point writes out the whole sums, halved. -/
theorem out_eq (t : Fin cfg0.N) (h2 : t.val % 4 = 3) (y : S1408x512.Idx) :
    (outsAt0 m c t.val t.isLt).1 y = (∑ k, terms m c (tile t) (y 0) (y 1) k) * half := by
  have ht : t.val < 16 := t.isLt
  refine (out_C m c t h2 y).trans (congrArg (· * half) (Eq.trans ?_ (upTo_all (w := 1024) (n := 4) _ rfl)))
  dsimp only [added]
  rw [upTo_succ _ _ 3, h2]
  refine congrArg (· + _) ((acc_eq m c (t.val - 1) (by omega) (by omega) y).trans ?_)
  rw [show (t.val - 1) % 4 + 1 = 3 by omega]
  exact congrArg (fun p => upTo (terms m c p (y 0) (y 1)) 1024 3) (Fin.ext (by show (t.val - 1) / 4 = t.val / 4; omega))

/-- The array after the run. -/
theorem final : (dats m 0 c).arrAt 2 cfg0.N = halfColsByCols (act m c) (dh m c) := by
  refine (dats m 0 c).arrAt_eq_of_covers 2 _ (by decide +kernel) fun t hf y => ?_
  have h2 : t.val % 4 = 3 := (flush0_2 t).mp hf
  blk_simp
  rw [after0_2]
  refine (out_eq m c t h2 y).trans (halfColsByCols_at (act m c) (dh m c) ?_ ?_)
  · blk_simp [idx_val t]
    exact congrArg (· * 1408 + _) (show t.val / 8 = t.val / 4 / 2 by omega)
  · blk_simp [idx_val t]

end Cert.Kernel7Ideal.Value

end
-- ==== Proof.FfnDwoutReference.lean ====
/- The reference's gradient of the feed-forward part's second weights is the same sums: the half passes into the sum. -/
module

public import proofs.«01_k».proof.Proof.Gen.Reference7Ideal.Run
public import proofs.«01_k».proof.Proof.Products

@[expose] public section

set_option maxRecDepth 16384

noncomputable section

namespace Cert.Reference7Ideal.Value

open Idealize.ShloMosaic Idealize.ShloMosaic.TcCoe Cert.Reference7Ideal.Gen
open Cert.Products

variable (A : FVec Ideal S4096x2816 .bf16) (G : FVec Ideal S4096x1024 .f32)

theorem result : (truncf .bf16 (transpose S2816x1024 [1, 0] (Host.dotGeneral dot_S4096x1024_S4096x2816_S1024x2816_0_0_1_1_n_n none (mulf (broadcastInDim S4096x1024 ![] bcast_S_S4096x1024 (constant S_ .f32 0x3F000000#32)) G) (extf .f32 A bitsLt_bf16_f32)) transposes_S1024x2816_S2816x1024_1_0) bitsLt_bf16_f32 : FVec Ideal S2816x1024 .bf16) = halfColsByCols A G := by
  funext i
  pointwise
  refine Eq.trans ?_ (sum_mul_half _).symm
  exact Finset.sum_congr rfl fun k _ => by rw [mul_comm half, mul_comm _ (A _), ← mul_assoc]

end Cert.Reference7Ideal.Value

end
-- ==== Proof.Proj.lean ====
/- The mixer's projection. -/
module

public import proofs.«01_k».proof.Proof.Gen.Kernel8Ideal.Frame
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.Value

open Idealize.ShloMosaic Idealize.ShloMosaic.TcCoe
open Idealize.ShloMosaic.Tactic Idealize.SL.Sem Cert.Kernel8Ideal.Gen
open Idealize.ShloMosaic.Pipeline (Dat)
open Cert.Products

variable (m : (ℓ : Loc nD τ sig) → Buf (Elt Ideal) ℓ) (c : Dev nD)

/-- The projection's input. -/
abbrev normed : Mat 4096 1024 := m (c, main_arg0)

/-- Its weights. -/
abbrev weights : Mat 1024 12288 := m (c, main_arg1)

theorem idx_val : ∀ t : Fin cfg0.N,
    win0_0.index t = ![t.val / 12, 0] ∧ win0_1.index t = ![0, t.val % 12] ∧ win0_2.index t = ![t.val / 12, t.val % 12] :=
  (by decide +kernel : ∀ t : Fin grid0.N, _)

/-- The block of the result a point works on. -/
abbrev tile (t : Fin cfg0.N) : Fin 48 := t

/-- The left factor of an entry's terms. -/
abbrev left (p : Fin 48) (a : Fin 1024) (k : Fin 1024) : EReal := normed m c (ix2 ⟨p.val / 12 * 1024 + a.val, by omega⟩ k)

/-- The right factor of an entry's terms. -/
abbrev right (p : Fin 48) (b : Fin 1024) (k : Fin 1024) : EReal := weights m c (ix2 k ⟨p.val % 12 * 1024 + b.val, by omega⟩)

/-- The terms of an entry of a block. -/
abbrev terms (p : Fin 48) (a : Fin 1024) (b : Fin 1024) (k : Fin 1024) : EReal := left m c p a k * right m c p b k

theorem left_read (t : Fin cfg0.N) (a : Fin 1024) (k : Fin 1024) : iblk m c 0 t (ix2 a k) = left m c (tile t) a k := by
  blk_ext [iblk, V, idx_val t]

theorem right_read (t : Fin cfg0.N) (b : Fin 1024) (k : Fin 1024) : iblk m c 1 t (ix2 k b) = right m c (tile t) b k := by
  blk_ext [iblk, V, idx_val t]

theorem sum_of (t : Fin cfg0.N) (a : Fin 1024) (b : Fin 1024) (L R : Fin 1024 → EReal) (hL : ∀ k, L k = left m c (tile t) a k)
    (hR : ∀ k, R k = right m c (tile t) b k) : ∑ k, L k * R k = ∑ k, terms m c (tile t) a b k :=
  Finset.sum_congr rfl fun k _ => by rw [hL, hR]

/-- What a point writes out. -/
theorem out_eq (t : Fin cfg0.N) (y : S1024x1024.Idx) : out0_2 (iblk m c 0 t) (iblk m c 1 t) y = ∑ k, terms m c (tile t) (y 0) (y 1) k := by
  frame_out
  open_payloads
  pointwise
  exact sum_of m c t _ _ _ _ (fun k => left_read m c t _ k) (fun k => right_read m c t _ k)

/-- The array after the run. -/
theorem final : (dats m 0 c).arrAt 2 cfg0.N = rowsByCols (normed m c) (weights m c) := by
  refine (dats m 0 c).arrAt_eq_of_covers 2 _ (by decide +kernel) fun t _ y => ?_
  blk_simp
  rw [after0_2]
  refine (out_eq m c t y).trans (rowsByCols_at (normed m c) (weights m c) ?_ ?_)
  · blk_simp [idx_val t]
  · blk_simp [idx_val t]

end Cert.Kernel8Ideal.Value

end
-- ==== Proof.ProjReference.lean ====
/- The reference's projection is the same sums. -/
module

public import proofs.«01_k».proof.Proof.Gen.Reference8Ideal.Run
public import proofs.«01_k».proof.Proof.Products

@[expose] public section

set_option maxRecDepth 16384

noncomputable section

namespace Cert.Reference8Ideal.Value

open Idealize.ShloMosaic Idealize.ShloMosaic.TcCoe Cert.Reference8Ideal.Gen
open Cert.Products

variable (U : FVec Ideal S4096x1024 .bf16) (W : FVec Ideal S1024x12288 .bf16)

theorem result : (Host.dotGeneral dot_S4096x1024_S1024x12288_S4096x12288_1_0_0_1_n_n none (extf .f32 U bitsLt_bf16_f32) (extf .f32 W bitsLt_bf16_f32) : FVec Ideal S4096x12288 .f32) = rowsByCols U W := by
  funext i
  pointwise
  rfl

end Cert.Reference8Ideal.Value

end
-- ==== Proof.HgrnBranch.lean ====
/- The product of the HGRN branch with its weights. -/
module

public import proofs.«01_k».proof.Proof.Gen.Kernel9Ideal.Frame
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel9Ideal.Value

open Idealize.ShloMosaic Idealize.ShloMosaic.TcCoe
open Idealize.ShloMosaic.Tactic Idealize.SL.Sem Cert.Kernel9Ideal.Gen
open Idealize.ShloMosaic.Pipeline (Dat)
open Cert.Products

variable (m : (ℓ : Loc nD τ sig) → Buf (Elt Ideal) ℓ) (c : Dev nD)

/-- The branch. -/
abbrev branch : Mat 4096 1024 := m (c, main_arg0)

/-- Its weights. -/
abbrev weights : Mat 1024 1024 := m (c, main_arg1)

theorem idx_val : ∀ t : Fin cfg0.N,
    win0_0.index t = ![t.val / 2, 0] ∧ win0_1.index t = ![0, t.val % 2] ∧ win0_2.index t = ![t.val / 2, t.val % 2] :=
  (by decide +kernel : ∀ t : Fin grid0.N, _)

/-- The block of the result a point works on. -/
abbrev tile (t : Fin cfg0.N) : Fin 8 := t

/-- The left factor of an entry's terms. -/
abbrev left (p : Fin 8) (a : Fin 1024) (k : Fin 1024) : EReal := branch m c (ix2 ⟨p.val / 2 * 1024 + a.val, by omega⟩ k)

/-- The right factor of an entry's terms. -/
abbrev right (p : Fin 8) (b : Fin 512) (k : Fin 1024) : EReal := weights m c (ix2 k ⟨p.val % 2 * 512 + b.val, by omega⟩)

/-- The terms of an entry of a block. -/
abbrev terms (p : Fin 8) (a : Fin 1024) (b : Fin 512) (k : Fin 1024) : EReal := left m c p a k * right m c p b k

theorem left_read (t : Fin cfg0.N) (a : Fin 1024) (k : Fin 1024) : iblk m c 0 t (ix2 a k) = left m c (tile t) a k := by
  blk_ext [iblk, V, idx_val t]

theorem right_read (t : Fin cfg0.N) (b : Fin 512) (k : Fin 1024) : iblk m c 1 t (ix2 k b) = right m c (tile t) b k := by
  blk_ext [iblk, V, idx_val t]

theorem sum_of (t : Fin cfg0.N) (a : Fin 1024) (b : Fin 512) (L R : Fin 1024 → EReal) (hL : ∀ k, L k = left m c (tile t) a k)
    (hR : ∀ k, R k = right m c (tile t) b k) : ∑ k, L k * R k = ∑ k, terms m c (tile t) a b k :=
  Finset.sum_congr rfl fun k _ => by rw [hL, hR]

/-- What a point writes out. -/
theorem out_eq (t : Fin cfg0.N) (y : S1024x512.Idx) : out0_2 (iblk m c 0 t) (iblk m c 1 t) y = ∑ k, terms m c (tile t) (y 0) (y 1) k := by
  frame_out
  open_payloads
  pointwise
  exact sum_of m c t _ _ _ _ (fun k => left_read m c t _ k) (fun k => right_read m c t _ k)

/-- The array after the run. -/
theorem final : (dats m 0 c).arrAt 2 cfg0.N = rowsByCols (branch m c) (weights m c) := by
  refine (dats m 0 c).arrAt_eq_of_covers 2 _ (by decide +kernel) fun t _ y => ?_
  blk_simp
  rw [after0_2]
  refine (out_eq m c t y).trans (rowsByCols_at (branch m c) (weights m c) ?_ ?_)
  · blk_simp [idx_val t]
  · blk_simp [idx_val t]

end Cert.Kernel9Ideal.Value

end
-- ==== Proof.HgrnBranchReference.lean ====
/- The reference's product of the HGRN branch is the same sums. -/
module

public import proofs.«01_k».proof.Proof.Gen.Reference9Ideal.Run
public import proofs.«01_k».proof.Proof.Products

@[expose] public section

set_option maxRecDepth 16384

noncomputable section

namespace Cert.Reference9Ideal.Value

open Idealize.ShloMosaic Idealize.ShloMosaic.TcCoe Cert.Reference9Ideal.Gen
open Cert.Products

variable (U : FVec Ideal S4096x1024 .bf16) (W : FVec Ideal S1024x1024 .bf16)

theorem result : (Host.dotGeneral dot_S4096x1024_S1024x1024_S4096x1024_1_0_0_1_n_n none (extf .f32 U bitsLt_bf16_f32) (extf .f32 W bitsLt_bf16_f32) : FVec Ideal S4096x1024 .f32) = rowsByCols U W := by
  funext i
  pointwise
  rfl

end Cert.Reference9Ideal.Value

end
-- ==== Proof.GdnBranch.lean ====
/- The product of the gated delta rule's branch with its weights, accumulated over two blocks. -/
module

public import proofs.«01_k».proof.Proof.Gen.Kernel10Ideal.Frame
public import proofs.«01_k».proof.Proof.BlockSum
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel10Ideal.Value

open Idealize.ShloMosaic Idealize.ShloMosaic.TcCoe
open Idealize.ShloMosaic.Tactic Idealize.SL.Sem Cert.Kernel10Ideal.Gen
open Idealize.ShloMosaic.Pipeline (Dat)
open Cert.Blocks Cert.Products

variable (m : (ℓ : Loc nD τ sig) → Buf (Elt Ideal) ℓ) (c : Dev nD)

/-- The branch. -/
abbrev branch : Mat 4096 2048 := m (c, main_arg0)

/-- Its weights. -/
abbrev weights : Mat 2048 1024 := m (c, main_arg1)

theorem idx_val : ∀ t : Fin cfg0.N,
    win0_0.index t = ![t.val / 4, t.val % 2] ∧ win0_1.index t = ![t.val % 2, t.val / 2 % 2] ∧ win0_2.index t = ![t.val / 4, t.val / 2 % 2] :=
  (by decide +kernel : ∀ t : Fin grid0.N, _)

/-- The block of the result a point works on. -/
abbrev tile (t : Fin cfg0.N) : Fin 8 := ⟨t.val / 2, by have : t.val < 16 := t.isLt; omega⟩

/-- The long axis's coordinate of a block's. -/
abbrev long (t : Fin cfg0.N) (k : Fin 1024) : Fin 2048 := ⟨t.val % 2 * 1024 + k.val, by omega⟩

/-- The left factor of an entry's terms. -/
abbrev left (p : Fin 8) (a : Fin 1024) (k : Fin 2048) : EReal := branch m c (ix2 ⟨p.val / 2 * 1024 + a.val, by omega⟩ k)

/-- The right factor of an entry's terms. -/
abbrev right (p : Fin 8) (b : Fin 512) (k : Fin 2048) : EReal := weights m c (ix2 k ⟨p.val % 2 * 512 + b.val, by omega⟩)

/-- The terms of an entry of a block. -/
abbrev terms (p : Fin 8) (a : Fin 1024) (b : Fin 512) (k : Fin 2048) : EReal := left m c p a k * right m c p b k

theorem left_read (t : Fin cfg0.N) (a : Fin 1024) (k : Fin 1024) : iblk m c 0 t (ix2 a k) = left m c (tile t) a (long t k) := by
  blk_ext [iblk, V, idx_val t]

theorem right_read (t : Fin cfg0.N) (b : Fin 512) (k : Fin 1024) : iblk m c 1 t (ix2 k b) = right m c (tile t) b (long t k) := by
  blk_ext [iblk, V, idx_val t]

/-- What the point adds to an entry. -/
abbrev added (t : Fin cfg0.N) (a : Fin 1024) (b : Fin 512) : EReal := ∑ k : Fin 1024, term (terms m c (tile t) a b) (t.val % 2 * 1024 + k.val)

theorem added_of (t : Fin cfg0.N) (a : Fin 1024) (b : Fin 512) (L R : Fin 1024 → EReal) (hL : ∀ k, L k = left m c (tile t) a (long t k))
    (hR : ∀ k, R k = right m c (tile t) b (long t k)) : ∑ k, L k * R k = added m c t a b :=
  Finset.sum_congr rfl fun k _ => by rw [hL, hR, term_at _ (long t k) rfl]

/-- What the accumulator holds before a point. -/
abbrev accBefore (t : Fin cfg0.N) : Mat 1024 512 :=
  (outsAt0 m c (t.val - 1) (Nat.lt_of_le_of_lt (Nat.sub_le _ _) t.isLt)).2

/-- The first point of a block starts the accumulator. -/
theorem acc_A (t : Fin cfg0.N) (h0 : t.val % 2 = 0) (y : S1024x512.Idx) : (outsAt0 m c t.val t.isLt).2 y = added m c t (y 0) (y 1) := by
  rw [outsAt0_A m c t h0 (by omega) (by omega)]
  frame_out
  open_payloads
  pointwise
  exact added_of m c t _ _ _ _ (fun k => left_read m c t _ k) (fun k => right_read m c t _ k)

/-- The last writes it out, its own part added. -/
theorem out_C (t : Fin cfg0.N) (h2 : t.val % 2 = 1) (y : S1024x512.Idx) :
    (outsAt0 m c t.val t.isLt).1 y = accBefore m c t y + added m c t (y 0) (y 1) := by
  rw [outsAt0_B m c t (by omega) h2 h2]
  frame_out
  open_payloads
  pointwise
  rw [read_unread_whole]
  exact congrArg (_) (added_of m c t _ _ _ _ (fun k => left_read m c t _ k) (fun k => right_read m c t _ k))

/-- After a point that is not a block's last, the accumulator holds the terms so far. -/
theorem acc_eq (n : ℕ) (hn : n < cfg0.N) (h2 : ¬n % 2 = 1) (y : S1024x512.Idx) :
    (outsAt0 m c n hn).2 y = upTo (terms m c (tile ⟨n, hn⟩) (y 0) (y 1)) 1024 (n % 2 + 1) := by
  induction n with
  | zero => exact (acc_A m c ⟨0, hn⟩ rfl y).trans (upTo_one _ _).symm
  | succ n ih =>
    by_cases h0 : (n + 1) % 2 = 0
    · refine (acc_A m c ⟨n + 1, hn⟩ h0 y).trans ?_
      dsimp only [added]
      rw [h0, upTo_one]
    · exact absurd (by omega) h2

/-- A block's last point writes out the whole sums. -/
theorem out_eq (t : Fin cfg0.N) (h2 : t.val % 2 = 1) (y : S1024x512.Idx) :
    (outsAt0 m c t.val t.isLt).1 y = ∑ k, terms m c (tile t) (y 0) (y 1) k := by
  have ht : t.val < 16 := t.isLt
  refine (out_C m c t h2 y).trans (Eq.trans ?_ (upTo_all (w := 1024) (n := 2) _ rfl))
  dsimp only [added]
  rw [upTo_succ _ _ 1, h2]
  refine congrArg (· + _) ((acc_eq m c (t.val - 1) (by omega) (by omega) y).trans ?_)
  rw [show (t.val - 1) % 2 + 1 = 1 by omega]
  exact congrArg (fun p => upTo (terms m c p (y 0) (y 1)) 1024 1) (Fin.ext (by show (t.val - 1) / 2 = t.val / 2; omega))

/-- The array after the run. -/
theorem final : (dats m 0 c).arrAt 2 cfg0.N = rowsByCols (branch m c) (weights m c) := by
  refine (dats m 0 c).arrAt_eq_of_covers 2 _ (by decide +kernel) fun t hf y => ?_
  have h2 : t.val % 2 = 1 := (flush0_2 t).mp hf
  blk_simp
  rw [after0_2]
  refine (out_eq m c t h2 y).trans (rowsByCols_at (branch m c) (weights m c) ?_ ?_)
  · blk_simp [idx_val t]
    exact congrArg (· * 1024 + _) (show t.val / 4 = t.val / 2 / 2 by omega)
  · blk_simp [idx_val t]

end Cert.Kernel10Ideal.Value

end
-- ==== Proof.GdnBranchReference.lean ====
/- The reference's product of the gated delta rule's branch is the same sums. -/
module

public import proofs.«01_k».proof.Proof.Gen.Reference10Ideal.Run
public import proofs.«01_k».proof.Proof.Products

@[expose] public section

set_option maxRecDepth 16384

noncomputable section

namespace Cert.Reference10Ideal.Value

open Idealize.ShloMosaic Idealize.ShloMosaic.TcCoe Cert.Reference10Ideal.Gen
open Cert.Products

variable (U : FVec Ideal S4096x2048 .bf16) (W : FVec Ideal S2048x1024 .bf16)

theorem result : (Host.dotGeneral dot_S4096x2048_S2048x1024_S4096x1024_1_0_0_1_n_n none (extf .f32 U bitsLt_bf16_f32) (extf .f32 W bitsLt_bf16_f32) : FVec Ideal S4096x1024 .f32) = rowsByCols U W := by
  funext i
  pointwise
  rfl

end Cert.Reference10Ideal.Value

end
-- ==== Proof.HgrnDx.lean ====
/- The gradient of the HGRN branch. -/
module

public import proofs.«01_k».proof.Proof.Gen.Kernel11Ideal.Frame
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel11Ideal.Value

open Idealize.ShloMosaic Idealize.ShloMosaic.TcCoe
open Idealize.ShloMosaic.Tactic Idealize.SL.Sem Cert.Kernel11Ideal.Gen
open Idealize.ShloMosaic.Pipeline (Dat)
open Cert.Products

variable (m : (ℓ : Loc nD τ sig) → Buf (Elt Ideal) ℓ) (c : Dev nD)

/-- The gradient of the branch's product. -/
abbrev dbranch : Mat 4096 1024 := m (c, main_arg0)

/-- Its weights. -/
abbrev weights : Mat 1024 1024 := m (c, main_arg1)

theorem idx_val : ∀ t : Fin cfg0.N,
    win0_0.index t = ![t.val / 2, 0] ∧ win0_1.index t = ![t.val % 2, 0] ∧ win0_2.index t = ![t.val / 2, t.val % 2] :=
  (by decide +kernel : ∀ t : Fin grid0.N, _)

/-- The block of the result a point works on. -/
abbrev tile (t : Fin cfg0.N) : Fin 8 := t

/-- The left factor of an entry's terms. -/
abbrev left (p : Fin 8) (a : Fin 1024) (k : Fin 1024) : EReal := dbranch m c (ix2 ⟨p.val / 2 * 1024 + a.val, by omega⟩ k)

/-- The right factor of an entry's terms. -/
abbrev right (p : Fin 8) (b : Fin 512) (k : Fin 1024) : EReal := weights m c (ix2 ⟨p.val % 2 * 512 + b.val, by omega⟩ k)

/-- The terms of an entry of a block. -/
abbrev terms (p : Fin 8) (a : Fin 1024) (b : Fin 512) (k : Fin 1024) : EReal := left m c p a k * right m c p b k

theorem left_read (t : Fin cfg0.N) (a : Fin 1024) (k : Fin 1024) : iblk m c 0 t (ix2 a k) = left m c (tile t) a k := by
  blk_ext [iblk, V, idx_val t]

theorem right_read (t : Fin cfg0.N) (b : Fin 512) (k : Fin 1024) : iblk m c 1 t (ix2 b k) = right m c (tile t) b k := by
  blk_ext [iblk, V, idx_val t]

theorem sum_of (t : Fin cfg0.N) (a : Fin 1024) (b : Fin 512) (L R : Fin 1024 → EReal) (hL : ∀ k, L k = left m c (tile t) a k)
    (hR : ∀ k, R k = right m c (tile t) b k) : ∑ k, L k * R k = ∑ k, terms m c (tile t) a b k :=
  Finset.sum_congr rfl fun k _ => by rw [hL, hR]

/-- What a point writes out. -/
theorem out_eq (t : Fin cfg0.N) (y : S1024x512.Idx) : out0_2 (iblk m c 0 t) (iblk m c 1 t) y = ∑ k, terms m c (tile t) (y 0) (y 1) k := by
  frame_out
  open_payloads
  pointwise
  exact sum_of m c t _ _ _ _ (fun k => left_read m c t _ k) (fun k => right_read m c t _ k)

/-- The array after the run. -/
theorem final : (dats m 0 c).arrAt 2 cfg0.N = rowsByRows (dbranch m c) (weights m c) := by
  refine (dats m 0 c).arrAt_eq_of_covers 2 _ (by decide +kernel) fun t _ y => ?_
  blk_simp
  rw [after0_2]
  refine (out_eq m c t y).trans (rowsByRows_at (dbranch m c) (weights m c) ?_ ?_)
  · blk_simp [idx_val t]
  · blk_simp [idx_val t]

end Cert.Kernel11Ideal.Value

end
-- ==== Proof.HgrnDxReference.lean ====
/- The reference's gradient of the HGRN branch is the same sums. -/
module

public import proofs.«01_k».proof.Proof.Gen.Reference11Ideal.Run
public import proofs.«01_k».proof.Proof.Products

@[expose] public section

set_option maxRecDepth 16384

noncomputable section

namespace Cert.Reference11Ideal.Value

open Idealize.ShloMosaic Idealize.ShloMosaic.TcCoe Cert.Reference11Ideal.Gen
open Cert.Products

variable (G : FVec Ideal S4096x1024 .bf16) (W : FVec Ideal S1024x1024 .bf16)

theorem result : (Host.dotGeneral dot_S4096x1024_S1024x1024_S4096x1024_1_1_0_0_n_n none (extf .f32 G bitsLt_bf16_f32) (extf .f32 W bitsLt_bf16_f32) : FVec Ideal S4096x1024 .f32) = rowsByRows G W := by
  funext i
  pointwise
  rfl

end Cert.Reference11Ideal.Value

end
-- ==== Proof.HgrnDw.lean ====
/- The gradient of the HGRN branch's weights. -/
module

public import proofs.«01_k».proof.Proof.Gen.Kernel12Ideal.Frame
public import proofs.«01_k».proof.Proof.BlockSum
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel12Ideal.Value

open Idealize.ShloMosaic Idealize.ShloMosaic.TcCoe
open Idealize.ShloMosaic.Tactic Idealize.SL.Sem Cert.Kernel12Ideal.Gen
open Idealize.ShloMosaic.Pipeline (Dat)
open Cert.Blocks Cert.Products

variable (m : (ℓ : Loc nD τ sig) → Buf (Elt Ideal) ℓ) (c : Dev nD)

/-- The branch. -/
abbrev branch : Mat 4096 1024 := m (c, main_arg0)

/-- The gradient of its product. -/
abbrev dproduct : Mat 4096 1024 := m (c, main_arg1)

theorem idx_val : ∀ t : Fin cfg0.N,
    win0_0.index t = ![t.val / 8, t.val % 4] ∧ win0_1.index t = ![t.val % 4, t.val / 4 % 2] ∧ win0_2.index t = ![t.val / 8, t.val / 4 % 2] :=
  (by decide +kernel : ∀ t : Fin grid0.N, _)

/-- The block of the result a point works on. -/
abbrev tile (t : Fin cfg0.N) : Fin 2 := ⟨t.val / 4, by have : t.val < 8 := t.isLt; omega⟩

/-- The long axis's coordinate of a block's. -/
abbrev long (t : Fin cfg0.N) (k : Fin 1024) : Fin 4096 := ⟨t.val % 4 * 1024 + k.val, by omega⟩

/-- The left factor of an entry's terms. -/
abbrev left (p : Fin 2) (a : Fin 1024) (k : Fin 4096) : EReal := branch m c (ix2 k ⟨p.val / 2 * 1024 + a.val, by omega⟩)

/-- The right factor of an entry's terms. -/
abbrev right (p : Fin 2) (b : Fin 512) (k : Fin 4096) : EReal := dproduct m c (ix2 k ⟨p.val % 2 * 512 + b.val, by omega⟩)

/-- The terms of an entry of a block. -/
abbrev terms (p : Fin 2) (a : Fin 1024) (b : Fin 512) (k : Fin 4096) : EReal := left m c p a k * right m c p b k

theorem left_read (t : Fin cfg0.N) (a : Fin 1024) (k : Fin 1024) : iblk m c 0 t (ix2 a k) = left m c (tile t) a (long t k) := by
  unfold iblk
  blk_simp [V, idx_val t]
  entry_read
  pointwise
  blk_ext [V, idx_val t]

theorem right_read (t : Fin cfg0.N) (b : Fin 512) (k : Fin 1024) : iblk m c 1 t (ix2 k b) = right m c (tile t) b (long t k) := by
  blk_ext [iblk, V, idx_val t]

/-- What the point adds to an entry. -/
abbrev added (t : Fin cfg0.N) (a : Fin 1024) (b : Fin 512) : EReal := ∑ k : Fin 1024, term (terms m c (tile t) a b) (t.val % 4 * 1024 + k.val)

theorem added_of (t : Fin cfg0.N) (a : Fin 1024) (b : Fin 512) (L R : Fin 1024 → EReal) (hL : ∀ k, L k = left m c (tile t) a (long t k))
    (hR : ∀ k, R k = right m c (tile t) b (long t k)) : ∑ k, L k * R k = added m c t a b :=
  Finset.sum_congr rfl fun k _ => by rw [hL, hR, term_at _ (long t k) rfl]

/-- What the accumulator holds before a point. -/
abbrev accBefore (t : Fin cfg0.N) : Mat 1024 512 :=
  (outsAt0 m c (t.val - 1) (Nat.lt_of_le_of_lt (Nat.sub_le _ _) t.isLt)).2

/-- The first point of a block starts the accumulator. -/
theorem acc_A (t : Fin cfg0.N) (h0 : t.val % 4 = 0) (y : S1024x512.Idx) : (outsAt0 m c t.val t.isLt).2 y = added m c t (y 0) (y 1) := by
  rw [outsAt0_A m c t h0 (by omega) (by omega)]
  frame_out
  open_payloads
  pointwise
  exact added_of m c t _ _ _ _ (fun k => left_read m c t _ k) (fun k => right_read m c t _ k)

/-- A later one adds to it. -/
theorem acc_B (t : Fin cfg0.N) (h0 : ¬t.val % 4 = 0) (h2 : ¬t.val % 4 = 3) (y : S1024x512.Idx) :
    (outsAt0 m c t.val t.isLt).2 y = accBefore m c t y + added m c t (y 0) (y 1) := by
  rw [outsAt0_B m c t h0 (by omega) h2]
  frame_out
  open_payloads
  pointwise
  rw [read_unread_whole]
  exact congrArg _ (added_of m c t _ _ _ _ (fun k => left_read m c t _ k) (fun k => right_read m c t _ k))

/-- The last writes it out, its own part added. -/
theorem out_C (t : Fin cfg0.N) (h2 : t.val % 4 = 3) (y : S1024x512.Idx) :
    (outsAt0 m c t.val t.isLt).1 y = accBefore m c t y + added m c t (y 0) (y 1) := by
  rw [outsAt0_C m c t (by omega) (by omega) h2]
  frame_out
  open_payloads
  pointwise
  rw [read_unread_whole]
  exact congrArg (_) (added_of m c t _ _ _ _ (fun k => left_read m c t _ k) (fun k => right_read m c t _ k))

/-- After a point that is not a block's last, the accumulator holds the terms so far. -/
theorem acc_eq (n : ℕ) (hn : n < cfg0.N) (h2 : ¬n % 4 = 3) (y : S1024x512.Idx) :
    (outsAt0 m c n hn).2 y = upTo (terms m c (tile ⟨n, hn⟩) (y 0) (y 1)) 1024 (n % 4 + 1) := by
  induction n with
  | zero => exact (acc_A m c ⟨0, hn⟩ rfl y).trans (upTo_one _ _).symm
  | succ n ih =>
    by_cases h0 : (n + 1) % 4 = 0
    · refine (acc_A m c ⟨n + 1, hn⟩ h0 y).trans ?_
      dsimp only [added]
      rw [h0, upTo_one]
    · refine (acc_B m c ⟨n + 1, hn⟩ h0 h2 y).trans ?_
      rw [upTo_succ]
      refine congrArg (· + _) ((ih (by omega) (by omega)).trans ?_)
      rw [show n % 4 + 1 = (n + 1) % 4 by omega]
      exact congrArg (fun p => upTo (terms m c p (y 0) (y 1)) 1024 ((n + 1) % 4)) (Fin.ext (by show n / 4 = (n + 1) / 4; omega))

/-- A block's last point writes out the whole sums. -/
theorem out_eq (t : Fin cfg0.N) (h2 : t.val % 4 = 3) (y : S1024x512.Idx) :
    (outsAt0 m c t.val t.isLt).1 y = ∑ k, terms m c (tile t) (y 0) (y 1) k := by
  have ht : t.val < 8 := t.isLt
  refine (out_C m c t h2 y).trans (Eq.trans ?_ (upTo_all (w := 1024) (n := 4) _ rfl))
  dsimp only [added]
  rw [upTo_succ _ _ 3, h2]
  refine congrArg (· + _) ((acc_eq m c (t.val - 1) (by omega) (by omega) y).trans ?_)
  rw [show (t.val - 1) % 4 + 1 = 3 by omega]
  exact congrArg (fun p => upTo (terms m c p (y 0) (y 1)) 1024 3) (Fin.ext (by show (t.val - 1) / 4 = t.val / 4; omega))

/-- The array after the run. -/
theorem final : (dats m 0 c).arrAt 2 cfg0.N = colsByCols (branch m c) (dproduct m c) := by
  refine (dats m 0 c).arrAt_eq_of_covers 2 _ (by decide +kernel) fun t hf y => ?_
  have h2 : t.val % 4 = 3 := (flush0_2 t).mp hf
  blk_simp
  rw [after0_2]
  refine (out_eq m c t h2 y).trans (colsByCols_at (branch m c) (dproduct m c) ?_ ?_)
  · blk_simp [idx_val t]
    exact congrArg (· * 1024 + _) (show t.val / 8 = t.val / 4 / 2 by omega)
  · blk_simp [idx_val t]

end Cert.Kernel12Ideal.Value

end
-- ==== Proof.HgrnDwReference.lean ====
/- The reference's gradient of the HGRN branch's weights is the same sums. -/
module

public import proofs.«01_k».proof.Proof.Gen.Reference12Ideal.Run
public import proofs.«01_k».proof.Proof.Products

@[expose] public section

set_option maxRecDepth 16384

noncomputable section

namespace Cert.Reference12Ideal.Value

open Idealize.ShloMosaic Idealize.ShloMosaic.TcCoe Cert.Reference12Ideal.Gen
open Cert.Products

variable (U : FVec Ideal S4096x1024 .bf16) (G : FVec Ideal S4096x1024 .bf16)

theorem result : (truncf .bf16 (transpose S1024x1024 [1, 0] (Host.dotGeneral dot_S4096x1024_S4096x1024_S1024x1024_0_0_1_1_n_n none (extf .f32 G bitsLt_bf16_f32) (extf .f32 U bitsLt_bf16_f32)) transposes_S1024x1024_S1024x1024_1_0) bitsLt_bf16_f32 : FVec Ideal S1024x1024 .bf16) = colsByCols U G := by
  funext i
  pointwise
  exact Finset.sum_congr rfl fun k _ => mul_comm _ _

end Cert.Reference12Ideal.Value

end
-- ==== Proof.GdnDx.lean ====
/- The gradient of the gated delta rule's branch. -/
module

public import proofs.«01_k».proof.Proof.Gen.Kernel13Ideal.Frame
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel13Ideal.Value

open Idealize.ShloMosaic Idealize.ShloMosaic.TcCoe
open Idealize.ShloMosaic.Tactic Idealize.SL.Sem Cert.Kernel13Ideal.Gen
open Idealize.ShloMosaic.Pipeline (Dat)
open Cert.Products

variable (m : (ℓ : Loc nD τ sig) → Buf (Elt Ideal) ℓ) (c : Dev nD)

/-- The gradient of the branch's product. -/
abbrev dbranch : Mat 4096 1024 := m (c, main_arg0)

/-- Its weights. -/
abbrev weights : Mat 2048 1024 := m (c, main_arg1)

theorem idx_val : ∀ t : Fin cfg0.N,
    win0_0.index t = ![t.val / 4, 0] ∧ win0_1.index t = ![t.val % 4, 0] ∧ win0_2.index t = ![t.val / 4, t.val % 4] :=
  (by decide +kernel : ∀ t : Fin grid0.N, _)

/-- The block of the result a point works on. -/
abbrev tile (t : Fin cfg0.N) : Fin 16 := t

/-- The left factor of an entry's terms. -/
abbrev left (p : Fin 16) (a : Fin 1024) (k : Fin 1024) : EReal := dbranch m c (ix2 ⟨p.val / 4 * 1024 + a.val, by omega⟩ k)

/-- The right factor of an entry's terms. -/
abbrev right (p : Fin 16) (b : Fin 512) (k : Fin 1024) : EReal := weights m c (ix2 ⟨p.val % 4 * 512 + b.val, by omega⟩ k)

/-- The terms of an entry of a block. -/
abbrev terms (p : Fin 16) (a : Fin 1024) (b : Fin 512) (k : Fin 1024) : EReal := left m c p a k * right m c p b k

theorem left_read (t : Fin cfg0.N) (a : Fin 1024) (k : Fin 1024) : iblk m c 0 t (ix2 a k) = left m c (tile t) a k := by
  blk_ext [iblk, V, idx_val t]

theorem right_read (t : Fin cfg0.N) (b : Fin 512) (k : Fin 1024) : iblk m c 1 t (ix2 b k) = right m c (tile t) b k := by
  blk_ext [iblk, V, idx_val t]

theorem sum_of (t : Fin cfg0.N) (a : Fin 1024) (b : Fin 512) (L R : Fin 1024 → EReal) (hL : ∀ k, L k = left m c (tile t) a k)
    (hR : ∀ k, R k = right m c (tile t) b k) : ∑ k, L k * R k = ∑ k, terms m c (tile t) a b k :=
  Finset.sum_congr rfl fun k _ => by rw [hL, hR]

/-- What a point writes out. -/
theorem out_eq (t : Fin cfg0.N) (y : S1024x512.Idx) : out0_2 (iblk m c 0 t) (iblk m c 1 t) y = ∑ k, terms m c (tile t) (y 0) (y 1) k := by
  frame_out
  open_payloads
  pointwise
  exact sum_of m c t _ _ _ _ (fun k => left_read m c t _ k) (fun k => right_read m c t _ k)

/-- The array after the run. -/
theorem final : (dats m 0 c).arrAt 2 cfg0.N = rowsByRows (dbranch m c) (weights m c) := by
  refine (dats m 0 c).arrAt_eq_of_covers 2 _ (by decide +kernel) fun t _ y => ?_
  blk_simp
  rw [after0_2]
  refine (out_eq m c t y).trans (rowsByRows_at (dbranch m c) (weights m c) ?_ ?_)
  · blk_simp [idx_val t]
  · blk_simp [idx_val t]

end Cert.Kernel13Ideal.Value

end
-- ==== Proof.GdnDxReference.lean ====
/- The reference's gradient of the gated delta rule's branch is the same sums. -/
module

public import proofs.«01_k».proof.Proof.Gen.Reference13Ideal.Run
public import proofs.«01_k».proof.Proof.Products

@[expose] public section

set_option maxRecDepth 16384

noncomputable section

namespace Cert.Reference13Ideal.Value

open Idealize.ShloMosaic Idealize.ShloMosaic.TcCoe Cert.Reference13Ideal.Gen
open Cert.Products

variable (G : FVec Ideal S4096x1024 .bf16) (W : FVec Ideal S2048x1024 .bf16)

theorem result : (Host.dotGeneral dot_S4096x1024_S2048x1024_S4096x2048_1_1_0_0_n_n none (extf .f32 G bitsLt_bf16_f32) (extf .f32 W bitsLt_bf16_f32) : FVec Ideal S4096x2048 .f32) = rowsByRows G W := by
  funext i
  pointwise
  rfl

end Cert.Reference13Ideal.Value

end
-- ==== Proof.GdnDw.lean ====
/- The gradient of the weights of the gated delta rule's branch. -/
module

public import proofs.«01_k».proof.Proof.Gen.Kernel14Ideal.Frame
public import proofs.«01_k».proof.Proof.BlockSum
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel14Ideal.Value

open Idealize.ShloMosaic Idealize.ShloMosaic.TcCoe
open Idealize.ShloMosaic.Tactic Idealize.SL.Sem Cert.Kernel14Ideal.Gen
open Idealize.ShloMosaic.Pipeline (Dat)
open Cert.Blocks Cert.Products

variable (m : (ℓ : Loc nD τ sig) → Buf (Elt Ideal) ℓ) (c : Dev nD)

/-- The branch. -/
abbrev branch : Mat 4096 2048 := m (c, main_arg0)

/-- The gradient of its product. -/
abbrev dproduct : Mat 4096 1024 := m (c, main_arg1)

theorem idx_val : ∀ t : Fin cfg0.N,
    win0_0.index t = ![t.val / 8, t.val % 4] ∧ win0_1.index t = ![t.val % 4, t.val / 4 % 2] ∧ win0_2.index t = ![t.val / 8, t.val / 4 % 2] :=
  (by decide +kernel : ∀ t : Fin grid0.N, _)

/-- The block of the result a point works on. -/
abbrev tile (t : Fin cfg0.N) : Fin 4 := ⟨t.val / 4, by have : t.val < 16 := t.isLt; omega⟩

/-- The long axis's coordinate of a block's. -/
abbrev long (t : Fin cfg0.N) (k : Fin 1024) : Fin 4096 := ⟨t.val % 4 * 1024 + k.val, by omega⟩

/-- The left factor of an entry's terms. -/
abbrev left (p : Fin 4) (a : Fin 1024) (k : Fin 4096) : EReal := branch m c (ix2 k ⟨p.val / 2 * 1024 + a.val, by omega⟩)

/-- The right factor of an entry's terms. -/
abbrev right (p : Fin 4) (b : Fin 512) (k : Fin 4096) : EReal := dproduct m c (ix2 k ⟨p.val % 2 * 512 + b.val, by omega⟩)

/-- The terms of an entry of a block. -/
abbrev terms (p : Fin 4) (a : Fin 1024) (b : Fin 512) (k : Fin 4096) : EReal := left m c p a k * right m c p b k

theorem left_read (t : Fin cfg0.N) (a : Fin 1024) (k : Fin 1024) : iblk m c 0 t (ix2 a k) = left m c (tile t) a (long t k) := by
  unfold iblk
  blk_simp [V, idx_val t]
  entry_read
  pointwise
  blk_ext [V, idx_val t]

theorem right_read (t : Fin cfg0.N) (b : Fin 512) (k : Fin 1024) : iblk m c 1 t (ix2 k b) = right m c (tile t) b (long t k) := by
  blk_ext [iblk, V, idx_val t]

/-- What the point adds to an entry. -/
abbrev added (t : Fin cfg0.N) (a : Fin 1024) (b : Fin 512) : EReal := ∑ k : Fin 1024, term (terms m c (tile t) a b) (t.val % 4 * 1024 + k.val)

theorem added_of (t : Fin cfg0.N) (a : Fin 1024) (b : Fin 512) (L R : Fin 1024 → EReal) (hL : ∀ k, L k = left m c (tile t) a (long t k))
    (hR : ∀ k, R k = right m c (tile t) b (long t k)) : ∑ k, L k * R k = added m c t a b :=
  Finset.sum_congr rfl fun k _ => by rw [hL, hR, term_at _ (long t k) rfl]

/-- What the accumulator holds before a point. -/
abbrev accBefore (t : Fin cfg0.N) : Mat 1024 512 :=
  (outsAt0 m c (t.val - 1) (Nat.lt_of_le_of_lt (Nat.sub_le _ _) t.isLt)).2

/-- The first point of a block starts the accumulator. -/
theorem acc_A (t : Fin cfg0.N) (h0 : t.val % 4 = 0) (y : S1024x512.Idx) : (outsAt0 m c t.val t.isLt).2 y = added m c t (y 0) (y 1) := by
  rw [outsAt0_A m c t h0 (by omega) (by omega)]
  frame_out
  open_payloads
  pointwise
  exact added_of m c t _ _ _ _ (fun k => left_read m c t _ k) (fun k => right_read m c t _ k)

/-- A later one adds to it. -/
theorem acc_B (t : Fin cfg0.N) (h0 : ¬t.val % 4 = 0) (h2 : ¬t.val % 4 = 3) (y : S1024x512.Idx) :
    (outsAt0 m c t.val t.isLt).2 y = accBefore m c t y + added m c t (y 0) (y 1) := by
  rw [outsAt0_B m c t h0 (by omega) h2]
  frame_out
  open_payloads
  pointwise
  rw [read_unread_whole]
  exact congrArg _ (added_of m c t _ _ _ _ (fun k => left_read m c t _ k) (fun k => right_read m c t _ k))

/-- The last writes it out, its own part added. -/
theorem out_C (t : Fin cfg0.N) (h2 : t.val % 4 = 3) (y : S1024x512.Idx) :
    (outsAt0 m c t.val t.isLt).1 y = accBefore m c t y + added m c t (y 0) (y 1) := by
  rw [outsAt0_C m c t (by omega) (by omega) h2]
  frame_out
  open_payloads
  pointwise
  rw [read_unread_whole]
  exact congrArg (_) (added_of m c t _ _ _ _ (fun k => left_read m c t _ k) (fun k => right_read m c t _ k))

/-- After a point that is not a block's last, the accumulator holds the terms so far. -/
theorem acc_eq (n : ℕ) (hn : n < cfg0.N) (h2 : ¬n % 4 = 3) (y : S1024x512.Idx) :
    (outsAt0 m c n hn).2 y = upTo (terms m c (tile ⟨n, hn⟩) (y 0) (y 1)) 1024 (n % 4 + 1) := by
  induction n with
  | zero => exact (acc_A m c ⟨0, hn⟩ rfl y).trans (upTo_one _ _).symm
  | succ n ih =>
    by_cases h0 : (n + 1) % 4 = 0
    · refine (acc_A m c ⟨n + 1, hn⟩ h0 y).trans ?_
      dsimp only [added]
      rw [h0, upTo_one]
    · refine (acc_B m c ⟨n + 1, hn⟩ h0 h2 y).trans ?_
      rw [upTo_succ]
      refine congrArg (· + _) ((ih (by omega) (by omega)).trans ?_)
      rw [show n % 4 + 1 = (n + 1) % 4 by omega]
      exact congrArg (fun p => upTo (terms m c p (y 0) (y 1)) 1024 ((n + 1) % 4)) (Fin.ext (by show n / 4 = (n + 1) / 4; omega))

/-- A block's last point writes out the whole sums. -/
theorem out_eq (t : Fin cfg0.N) (h2 : t.val % 4 = 3) (y : S1024x512.Idx) :
    (outsAt0 m c t.val t.isLt).1 y = ∑ k, terms m c (tile t) (y 0) (y 1) k := by
  have ht : t.val < 16 := t.isLt
  refine (out_C m c t h2 y).trans (Eq.trans ?_ (upTo_all (w := 1024) (n := 4) _ rfl))
  dsimp only [added]
  rw [upTo_succ _ _ 3, h2]
  refine congrArg (· + _) ((acc_eq m c (t.val - 1) (by omega) (by omega) y).trans ?_)
  rw [show (t.val - 1) % 4 + 1 = 3 by omega]
  exact congrArg (fun p => upTo (terms m c p (y 0) (y 1)) 1024 3) (Fin.ext (by show (t.val - 1) / 4 = t.val / 4; omega))

/-- The array after the run. -/
theorem final : (dats m 0 c).arrAt 2 cfg0.N = colsByCols (branch m c) (dproduct m c) := by
  refine (dats m 0 c).arrAt_eq_of_covers 2 _ (by decide +kernel) fun t hf y => ?_
  have h2 : t.val % 4 = 3 := (flush0_2 t).mp hf
  blk_simp
  rw [after0_2]
  refine (out_eq m c t h2 y).trans (colsByCols_at (branch m c) (dproduct m c) ?_ ?_)
  · blk_simp [idx_val t]
    exact congrArg (· * 1024 + _) (show t.val / 8 = t.val / 4 / 2 by omega)
  · blk_simp [idx_val t]

end Cert.Kernel14Ideal.Value

end
-- ==== Proof.GdnDwReference.lean ====
/- The reference's gradient of the weights of the gated delta rule's branch is the same sums. -/
module

public import proofs.«01_k».proof.Proof.Gen.Reference14Ideal.Run
public import proofs.«01_k».proof.Proof.Products

@[expose] public section

set_option maxRecDepth 16384

noncomputable section

namespace Cert.Reference14Ideal.Value

open Idealize.ShloMosaic Idealize.ShloMosaic.TcCoe Cert.Reference14Ideal.Gen
open Cert.Products

variable (U : FVec Ideal S4096x2048 .bf16) (G : FVec Ideal S4096x1024 .bf16)

theorem result : (truncf .bf16 (transpose S2048x1024 [1, 0] (Host.dotGeneral dot_S4096x1024_S4096x2048_S1024x2048_0_0_1_1_n_n none (extf .f32 G bitsLt_bf16_f32) (extf .f32 U bitsLt_bf16_f32)) transposes_S1024x2048_S2048x1024_1_0) bitsLt_bf16_f32 : FVec Ideal S2048x1024 .bf16) = colsByCols U G := by
  funext i
  pointwise
  exact Finset.sum_congr rfl fun k _ => mul_comm _ _

end Cert.Reference14Ideal.Value

end
-- ==== Proof.MixOut.lean ====
/- The mixer's output, added to its input. -/
module

public import proofs.«01_k».proof.Proof.Gen.Kernel15Ideal.Frame
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel15Ideal.Value

open Idealize.ShloMosaic Idealize.ShloMosaic.TcCoe
open Idealize.ShloMosaic.Tactic Idealize.SL.Sem Cert.Kernel15Ideal.Gen
open Idealize.ShloMosaic.Pipeline (Dat)
open Cert.Products

variable (m : (ℓ : Loc nD τ sig) → Buf (Elt Ideal) ℓ) (c : Dev nD)

/-- The merged branches. -/
abbrev merged : Mat 4096 1024 := m (c, main_arg0)

/-- The output's weights. -/
abbrev weights : Mat 1024 1024 := m (c, main_arg1)

/-- The mixer's input. -/
abbrev residual : Mat 4096 1024 := m (c, main_arg2)

theorem idx_val : ∀ t : Fin cfg0.N,
    win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The block of the result a point works on. -/
abbrev tile (t : Fin cfg0.N) : Fin 8 := t

/-- The left factor of an entry's terms. -/
abbrev left (p : Fin 8) (a : Fin 1024) (k : Fin 1024) : EReal := merged m c (ix2 ⟨p.val / 2 * 1024 + a.val, by omega⟩ k)

/-- The right factor of an entry's terms. -/
abbrev right (p : Fin 8) (b : Fin 512) (k : Fin 1024) : EReal := weights m c (ix2 k ⟨p.val % 2 * 512 + b.val, by omega⟩)

/-- The terms of an entry of a block. -/
abbrev terms (p : Fin 8) (a : Fin 1024) (b : Fin 512) (k : Fin 1024) : EReal := left m c p a k * right m c p b k

theorem left_read (t : Fin cfg0.N) (a : Fin 1024) (k : Fin 1024) : iblk m c 0 t (ix2 a k) = left m c (tile t) a k := by
  blk_ext [iblk, V, idx_val t]

theorem right_read (t : Fin cfg0.N) (b : Fin 512) (k : Fin 1024) : iblk m c 1 t (ix2 k b) = right m c (tile t) b k := by
  blk_ext [iblk, V, idx_val t]

theorem res_read (t : Fin cfg0.N) (a : Fin 1024) (b : Fin 512) : iblk m c 2 t (ix2 a b) = residual m c (ix2 ⟨t.val / 2 * 1024 + a.val, by have : t.val < 8 := t.isLt; omega⟩ ⟨t.val % 2 * 512 + b.val, by omega⟩) := by
  blk_ext [iblk, V, idx_val t]

theorem sum_of (t : Fin cfg0.N) (a : Fin 1024) (b : Fin 512) (L R : Fin 1024 → EReal) (hL : ∀ k, L k = left m c (tile t) a k)
    (hR : ∀ k, R k = right m c (tile t) b k) : ∑ k, L k * R k = ∑ k, terms m c (tile t) a b k :=
  Finset.sum_congr rfl fun k _ => by rw [hL, hR]

/-- What a point writes out. -/
theorem out_eq (t : Fin cfg0.N) (y : S1024x512.Idx) : out0_3 (iblk m c 0 t) (iblk m c 1 t) (iblk m c 2 t) y = residual m c (ix2 ⟨t.val / 2 * 1024 + (y 0).val, by have : t.val < 8 := t.isLt; have : (y 0).val < 1024 := (y 0).isLt; omega⟩ ⟨t.val % 2 * 512 + (y 1).val, by have : (y 1).val < 512 := (y 1).isLt; omega⟩) + ∑ k, terms m c (tile t) (y 0) (y 1) k := by
  frame_out
  open_payloads
  pointwise
  exact (add_comm _ _).trans (congrArg₂ (· + ·) ((congrArg (iblk m c 2 t) (ix2_eta y).symm).trans (res_read m c t (y 0) (y 1))) (sum_of m c t _ _ _ _ (fun k => left_read m c t _ k) (fun k => right_read m c t _ k)))

/-- The array after the run. -/
theorem final : (dats m 0 c).arrAt 3 cfg0.N = plusProduct (residual m c) (merged m c) (weights m c) := by
  refine (dats m 0 c).arrAt_eq_of_covers 3 _ (by decide +kernel) fun t _ y => ?_
  blk_simp
  rw [after0_3]
  refine (out_eq m c t y).trans (plusProduct_at (residual m c) (merged m c) (weights m c) ?_ ?_)
  · blk_simp [idx_val t]
  · blk_simp [idx_val t]

end Cert.Kernel15Ideal.Value

end
-- ==== Proof.MixOutReference.lean ====
/- The reference's mixer output is the same sums. -/
module

public import proofs.«01_k».proof.Proof.Gen.Reference15Ideal.Run
public import proofs.«01_k».proof.Proof.Products

@[expose] public section

set_option maxRecDepth 16384

noncomputable section

namespace Cert.Reference15Ideal.Value

open Idealize.ShloMosaic Idealize.ShloMosaic.TcCoe Cert.Reference15Ideal.Gen
open Cert.Products

variable (U : FVec Ideal S4096x1024 .bf16) (W : FVec Ideal S1024x1024 .bf16)

variable (R : FVec Ideal S4096x1024 .f32)

theorem result : (addf R (Host.dotGeneral dot_S4096x1024_S1024x1024_S4096x1024_1_0_0_1_n_n none (extf .f32 U bitsLt_bf16_f32) (extf .f32 W bitsLt_bf16_f32)) : FVec Ideal S4096x1024 .f32) = plusProduct R U W := by
  funext i
  pointwise
  rfl

end Cert.Reference15Ideal.Value

end
-- ==== Proof.MixOutDw.lean ====
/- The gradient of the mixer's output's weights. -/
module

public import proofs.«01_k».proof.Proof.Gen.Kernel16Ideal.Frame
public import proofs.«01_k».proof.Proof.BlockSum
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel16Ideal.Value

open Idealize.ShloMosaic Idealize.ShloMosaic.TcCoe
open Idealize.ShloMosaic.Tactic Idealize.SL.Sem Cert.Kernel16Ideal.Gen
open Idealize.ShloMosaic.Pipeline (Dat)
open Cert.Blocks Cert.Products

variable (m : (ℓ : Loc nD τ sig) → Buf (Elt Ideal) ℓ) (c : Dev nD)

/-- The merged branches. -/
abbrev merged : Mat 4096 1024 := m (c, main_arg0)

/-- The gradient of the mixer's output. -/
abbrev dh : Mat 4096 1024 := m (c, main_arg1)

theorem idx_val : ∀ t : Fin cfg0.N,
    win0_0.index t = ![t.val / 8, t.val % 4] ∧ win0_1.index t = ![t.val % 4, t.val / 4 % 2] ∧ win0_2.index t = ![t.val / 8, t.val / 4 % 2] :=
  (by decide +kernel : ∀ t : Fin grid0.N, _)

/-- The block of the result a point works on. -/
abbrev tile (t : Fin cfg0.N) : Fin 2 := ⟨t.val / 4, by have : t.val < 8 := t.isLt; omega⟩

/-- The long axis's coordinate of a block's. -/
abbrev long (t : Fin cfg0.N) (k : Fin 1024) : Fin 4096 := ⟨t.val % 4 * 1024 + k.val, by omega⟩

/-- The left factor of an entry's terms. -/
abbrev left (p : Fin 2) (a : Fin 1024) (k : Fin 4096) : EReal := merged m c (ix2 k ⟨p.val / 2 * 1024 + a.val, by omega⟩)

/-- The right factor of an entry's terms. -/
abbrev right (p : Fin 2) (b : Fin 512) (k : Fin 4096) : EReal := dh m c (ix2 k ⟨p.val % 2 * 512 + b.val, by omega⟩)

/-- The terms of an entry of a block. -/
abbrev terms (p : Fin 2) (a : Fin 1024) (b : Fin 512) (k : Fin 4096) : EReal := left m c p a k * right m c p b k

theorem left_read (t : Fin cfg0.N) (a : Fin 1024) (k : Fin 1024) : iblk m c 0 t (ix2 a k) = left m c (tile t) a (long t k) := by
  unfold iblk
  blk_simp [V, idx_val t]
  entry_read
  pointwise
  blk_ext [V, idx_val t]

theorem right_read (t : Fin cfg0.N) (b : Fin 512) (k : Fin 1024) : iblk m c 1 t (ix2 k b) = right m c (tile t) b (long t k) := by
  blk_ext [iblk, V, idx_val t]

/-- What the point adds to an entry. -/
abbrev added (t : Fin cfg0.N) (a : Fin 1024) (b : Fin 512) : EReal := ∑ k : Fin 1024, term (terms m c (tile t) a b) (t.val % 4 * 1024 + k.val)

theorem added_of (t : Fin cfg0.N) (a : Fin 1024) (b : Fin 512) (L R : Fin 1024 → EReal) (hL : ∀ k, L k = left m c (tile t) a (long t k))
    (hR : ∀ k, R k = right m c (tile t) b (long t k)) : ∑ k, L k * R k = added m c t a b :=
  Finset.sum_congr rfl fun k _ => by rw [hL, hR, term_at _ (long t k) rfl]

/-- What the accumulator holds before a point. -/
abbrev accBefore (t : Fin cfg0.N) : Mat 1024 512 :=
  (outsAt0 m c (t.val - 1) (Nat.lt_of_le_of_lt (Nat.sub_le _ _) t.isLt)).2

/-- The first point of a block starts the accumulator. -/
theorem acc_A (t : Fin cfg0.N) (h0 : t.val % 4 = 0) (y : S1024x512.Idx) : (outsAt0 m c t.val t.isLt).2 y = added m c t (y 0) (y 1) := by
  rw [outsAt0_A m c t h0 (by omega) (by omega)]
  frame_out
  open_payloads
  pointwise
  exact added_of m c t _ _ _ _ (fun k => left_read m c t _ k) (fun k => right_read m c t _ k)

/-- A later one adds to it. -/
theorem acc_B (t : Fin cfg0.N) (h0 : ¬t.val % 4 = 0) (h2 : ¬t.val % 4 = 3) (y : S1024x512.Idx) :
    (outsAt0 m c t.val t.isLt).2 y = accBefore m c t y + added m c t (y 0) (y 1) := by
  rw [outsAt0_B m c t h0 (by omega) h2]
  frame_out
  open_payloads
  pointwise
  rw [read_unread_whole]
  exact congrArg _ (added_of m c t _ _ _ _ (fun k => left_read m c t _ k) (fun k => right_read m c t _ k))

/-- The last writes it out, its own part added. -/
theorem out_C (t : Fin cfg0.N) (h2 : t.val % 4 = 3) (y : S1024x512.Idx) :
    (outsAt0 m c t.val t.isLt).1 y = accBefore m c t y + added m c t (y 0) (y 1) := by
  rw [outsAt0_C m c t (by omega) (by omega) h2]
  frame_out
  open_payloads
  pointwise
  rw [read_unread_whole]
  exact congrArg (_) (added_of m c t _ _ _ _ (fun k => left_read m c t _ k) (fun k => right_read m c t _ k))

/-- After a point that is not a block's last, the accumulator holds the terms so far. -/
theorem acc_eq (n : ℕ) (hn : n < cfg0.N) (h2 : ¬n % 4 = 3) (y : S1024x512.Idx) :
    (outsAt0 m c n hn).2 y = upTo (terms m c (tile ⟨n, hn⟩) (y 0) (y 1)) 1024 (n % 4 + 1) := by
  induction n with
  | zero => exact (acc_A m c ⟨0, hn⟩ rfl y).trans (upTo_one _ _).symm
  | succ n ih =>
    by_cases h0 : (n + 1) % 4 = 0
    · refine (acc_A m c ⟨n + 1, hn⟩ h0 y).trans ?_
      dsimp only [added]
      rw [h0, upTo_one]
    · refine (acc_B m c ⟨n + 1, hn⟩ h0 h2 y).trans ?_
      rw [upTo_succ]
      refine congrArg (· + _) ((ih (by omega) (by omega)).trans ?_)
      rw [show n % 4 + 1 = (n + 1) % 4 by omega]
      exact congrArg (fun p => upTo (terms m c p (y 0) (y 1)) 1024 ((n + 1) % 4)) (Fin.ext (by show n / 4 = (n + 1) / 4; omega))

/-- A block's last point writes out the whole sums. -/
theorem out_eq (t : Fin cfg0.N) (h2 : t.val % 4 = 3) (y : S1024x512.Idx) :
    (outsAt0 m c t.val t.isLt).1 y = ∑ k, terms m c (tile t) (y 0) (y 1) k := by
  have ht : t.val < 8 := t.isLt
  refine (out_C m c t h2 y).trans (Eq.trans ?_ (upTo_all (w := 1024) (n := 4) _ rfl))
  dsimp only [added]
  rw [upTo_succ _ _ 3, h2]
  refine congrArg (· + _) ((acc_eq m c (t.val - 1) (by omega) (by omega) y).trans ?_)
  rw [show (t.val - 1) % 4 + 1 = 3 by omega]
  exact congrArg (fun p => upTo (terms m c p (y 0) (y 1)) 1024 3) (Fin.ext (by show (t.val - 1) / 4 = t.val / 4; omega))

/-- The array after the run. -/
theorem final : (dats m 0 c).arrAt 2 cfg0.N = colsByCols (merged m c) (dh m c) := by
  refine (dats m 0 c).arrAt_eq_of_covers 2 _ (by decide +kernel) fun t hf y => ?_
  have h2 : t.val % 4 = 3 := (flush0_2 t).mp hf
  blk_simp
  rw [after0_2]
  refine (out_eq m c t h2 y).trans (colsByCols_at (merged m c) (dh m c) ?_ ?_)
  · blk_simp [idx_val t]
    exact congrArg (· * 1024 + _) (show t.val / 8 = t.val / 4 / 2 by omega)
  · blk_simp [idx_val t]

end Cert.Kernel16Ideal.Value

end
-- ==== Proof.MixOutDwReference.lean ====
/- The reference's gradient of the mixer's output's weights is the same sums. -/
module

public import proofs.«01_k».proof.Proof.Gen.Reference16Ideal.Run
public import proofs.«01_k».proof.Proof.Products

@[expose] public section

set_option maxRecDepth 16384

noncomputable section

namespace Cert.Reference16Ideal.Value

open Idealize.ShloMosaic Idealize.ShloMosaic.TcCoe Cert.Reference16Ideal.Gen
open Cert.Products

variable (U : FVec Ideal S4096x1024 .bf16) (G : FVec Ideal S4096x1024 .f32)

theorem result : (truncf .bf16 (transpose S1024x1024 [1, 0] (Host.dotGeneral dot_S4096x1024_S4096x1024_S1024x1024_0_0_1_1_n_n none G (extf .f32 U bitsLt_bf16_f32)) transposes_S1024x1024_S1024x1024_1_0) bitsLt_bf16_f32 : FVec Ideal S1024x1024 .bf16) = colsByCols U G := by
  funext i
  pointwise
  exact Finset.sum_congr rfl fun k _ => mul_comm _ _

end Cert.Reference16Ideal.Value

end
-- ==== Proof.FfnDown.lean ====
/- The feed-forward part's second product, halved and added to its input, accumulated over two blocks. -/
module

public import proofs.«01_k».proof.Proof.Gen.Kernel17Ideal.Frame
public import proofs.«01_k».proof.Proof.BlockSum
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel17Ideal.Value

open Idealize.ShloMosaic Idealize.ShloMosaic.TcCoe
open Idealize.ShloMosaic.Tactic Idealize.SL.Sem Cert.Kernel17Ideal.Gen
open Idealize.ShloMosaic.Pipeline (Dat)
open Cert.Blocks Cert.Products

variable (m : (ℓ : Loc nD τ sig) → Buf (Elt Ideal) ℓ) (c : Dev nD)

/-- The activations. -/
abbrev act : Mat 4096 2816 := m (c, main_arg0)

/-- The second weights. -/
abbrev weights : Mat 2816 1024 := m (c, main_arg1)

/-- The part's input. -/
abbrev residual : Mat 4096 1024 := m (c, main_arg2)

theorem idx_val : ∀ t : Fin cfg0.N,
    win0_0.index t = ![t.val / 2 / 2, t.val % 2] ∧ win0_1.index t = ![t.val % 2, t.val / 2 % 2] ∧ win0_2.index t = ![t.val / 2 / 2, t.val / 2 % 2] ∧ win0_3.index t = ![t.val / 2 / 2, t.val / 2 % 2] :=
  (by decide +kernel : ∀ t : Fin grid0.N, _)

/-- The block of the result a point works on. -/
abbrev tile (t : Fin cfg0.N) : Fin 8 := ⟨t.val / 2, by have : t.val < 16 := t.isLt; omega⟩

/-- The long axis's coordinate of a block's. -/
abbrev long (t : Fin cfg0.N) (k : Fin 1408) : Fin 2816 := ⟨t.val % 2 * 1408 + k.val, by omega⟩

/-- The left factor of an entry's terms. -/
abbrev left (p : Fin 8) (a : Fin 1024) (k : Fin 2816) : EReal := act m c (ix2 ⟨p.val / 2 * 1024 + a.val, by omega⟩ k)

/-- The right factor of an entry's terms. -/
abbrev right (p : Fin 8) (b : Fin 512) (k : Fin 2816) : EReal := weights m c (ix2 k ⟨p.val % 2 * 512 + b.val, by omega⟩)

/-- The terms of an entry of a block. -/
abbrev terms (p : Fin 8) (a : Fin 1024) (b : Fin 512) (k : Fin 2816) : EReal := left m c p a k * right m c p b k

theorem left_read (t : Fin cfg0.N) (a : Fin 1024) (k : Fin 1408) : iblk m c 0 t (ix2 a k) = left m c (tile t) a (long t k) := by
  blk_ext [iblk, V, idx_val t]

theorem right_read (t : Fin cfg0.N) (b : Fin 512) (k : Fin 1408) : iblk m c 1 t (ix2 k b) = right m c (tile t) b (long t k) := by
  blk_ext [iblk, V, idx_val t]

theorem res_read (t : Fin cfg0.N) (a : Fin 1024) (b : Fin 512) : iblk m c 2 t (ix2 a b) = residual m c (ix2 ⟨t.val / 2 / 2 * 1024 + a.val, by have : t.val < 16 := t.isLt; omega⟩ ⟨t.val / 2 % 2 * 512 + b.val, by omega⟩) := by
  blk_ext [iblk, V, idx_val t]

/-- What the point adds to an entry. -/
abbrev added (t : Fin cfg0.N) (a : Fin 1024) (b : Fin 512) : EReal := ∑ k : Fin 1408, term (terms m c (tile t) a b) (t.val % 2 * 1408 + k.val)

theorem added_of (t : Fin cfg0.N) (a : Fin 1024) (b : Fin 512) (L R : Fin 1408 → EReal) (hL : ∀ k, L k = left m c (tile t) a (long t k))
    (hR : ∀ k, R k = right m c (tile t) b (long t k)) : ∑ k, L k * R k = added m c t a b :=
  Finset.sum_congr rfl fun k _ => by rw [hL, hR, term_at _ (long t k) rfl]

/-- What the accumulator holds before a point. -/
abbrev accBefore (t : Fin cfg0.N) : Mat 1024 512 :=
  (outsAt0 m c (t.val - 1) (Nat.lt_of_le_of_lt (Nat.sub_le _ _) t.isLt)).2

/-- The first point of a block starts the accumulator. -/
theorem acc_A (t : Fin cfg0.N) (h0 : t.val % 2 = 0) (y : S1024x512.Idx) : (outsAt0 m c t.val t.isLt).2 y = added m c t (y 0) (y 1) := by
  rw [outsAt0_A m c t h0 (by omega) (by omega)]
  frame_out
  open_payloads
  pointwise
  exact added_of m c t _ _ _ _ (fun k => left_read m c t _ k) (fun k => right_read m c t _ k)

/-- The last writes it out, its own part added, halved, with the input added. -/
theorem out_C (t : Fin cfg0.N) (h2 : t.val % 2 = 1) (y : S1024x512.Idx) :
    (outsAt0 m c t.val t.isLt).1 y = residual m c (ix2 ⟨t.val / 2 / 2 * 1024 + (y 0).val, by have : t.val < 16 := t.isLt; have : (y 0).val < 1024 := (y 0).isLt; omega⟩ ⟨t.val / 2 % 2 * 512 + (y 1).val, by have : (y 1).val < 512 := (y 1).isLt; omega⟩) + (accBefore m c t y + added m c t (y 0) (y 1)) * half := by
  rw [outsAt0_B m c t (by omega) h2 h2]
  frame_out
  open_payloads
  pointwise
  rw [read_unread_whole]
  exact (add_comm _ _).trans (congrArg₂ (· + ·) ((congrArg (iblk m c 2 t) (ix2_eta y).symm).trans (res_read m c t (y 0) (y 1))) (congrArg (fun e => (accBefore m c t y + e) * half) (added_of m c t _ _ _ _ (fun k => left_read m c t _ k) (fun k => right_read m c t _ k))))

/-- After a point that is not a block's last, the accumulator holds the terms so far. -/
theorem acc_eq (n : ℕ) (hn : n < cfg0.N) (h2 : ¬n % 2 = 1) (y : S1024x512.Idx) :
    (outsAt0 m c n hn).2 y = upTo (terms m c (tile ⟨n, hn⟩) (y 0) (y 1)) 1408 (n % 2 + 1) := by
  induction n with
  | zero => exact (acc_A m c ⟨0, hn⟩ rfl y).trans (upTo_one _ _).symm
  | succ n ih =>
    by_cases h0 : (n + 1) % 2 = 0
    · refine (acc_A m c ⟨n + 1, hn⟩ h0 y).trans ?_
      dsimp only [added]
      rw [h0, upTo_one]
    · exact absurd (by omega) h2

/-- A block's last point writes out the whole sums, halved, with the input added. -/
theorem out_eq (t : Fin cfg0.N) (h2 : t.val % 2 = 1) (y : S1024x512.Idx) :
    (outsAt0 m c t.val t.isLt).1 y = residual m c (ix2 ⟨t.val / 2 / 2 * 1024 + (y 0).val, by have : t.val < 16 := t.isLt; have : (y 0).val < 1024 := (y 0).isLt; omega⟩ ⟨t.val / 2 % 2 * 512 + (y 1).val, by have : (y 1).val < 512 := (y 1).isLt; omega⟩) + (∑ k, terms m c (tile t) (y 0) (y 1) k) * half := by
  have ht : t.val < 16 := t.isLt
  refine (out_C m c t h2 y).trans (congrArg (_ + · * half) (Eq.trans ?_ (upTo_all (w := 1408) (n := 2) _ rfl)))
  dsimp only [added]
  rw [upTo_succ _ _ 1, h2]
  refine congrArg (· + _) ((acc_eq m c (t.val - 1) (by omega) (by omega) y).trans ?_)
  rw [show (t.val - 1) % 2 + 1 = 1 by omega]
  exact congrArg (fun p => upTo (terms m c p (y 0) (y 1)) 1408 1) (Fin.ext (by show (t.val - 1) / 2 = t.val / 2; omega))

/-- The array after the run. -/
theorem final : (dats m 0 c).arrAt 3 cfg0.N = plusHalf (residual m c) (act m c) (weights m c) := by
  refine (dats m 0 c).arrAt_eq_of_covers 3 _ (by decide +kernel) fun t hf y => ?_
  have h2 : t.val % 2 = 1 := (flush0_3 t).mp hf
  blk_simp
  rw [after0_3]
  refine (out_eq m c t h2 y).trans (plusHalf_at (residual m c) (act m c) (weights m c) ?_ ?_)
  · blk_simp [idx_val t]
  · blk_simp [idx_val t]

end Cert.Kernel17Ideal.Value

end
-- ==== Proof.FfnDownReference.lean ====
/- The reference's second product of the feed-forward part is the same sums. -/
module

public import proofs.«01_k».proof.Proof.Gen.Reference17Ideal.Run
public import proofs.«01_k».proof.Proof.Products

@[expose] public section

set_option maxRecDepth 16384

noncomputable section

namespace Cert.Reference17Ideal.Value

open Idealize.ShloMosaic Idealize.ShloMosaic.TcCoe Cert.Reference17Ideal.Gen
open Cert.Products

variable (U : FVec Ideal S4096x2816 .bf16) (W : FVec Ideal S2816x1024 .bf16)

variable (R : FVec Ideal S4096x1024 .f32)

theorem result : (addf R (mulf (broadcastInDim S4096x1024 ![] bcast_S_S4096x1024 (constant S_ .f32 0x3F000000#32)) (Host.dotGeneral dot_S4096x2816_S2816x1024_S4096x1024_1_0_0_1_n_n none (extf .f32 U bitsLt_bf16_f32) (extf .f32 W bitsLt_bf16_f32))) : FVec Ideal S4096x1024 .f32) = plusHalf R U W := by
  funext i
  pointwise
  exact congrArg (R i + ·) (mul_comm half _)

end Cert.Reference17Ideal.Value

end
-- ==== Proof.GatedSides.lean ====
/- The feed-forward part's first two products, side by side, and the activations made of them. -/
module

public import proofs.«01_k».proof.Proof.Products

@[expose] public section

noncomputable section

namespace Cert.Products

open Idealize.ShloMosaic

/-- An entry of a side: the weights' columns stand in four blocks, two to a side. -/
def sideAt (A : Mat 4096 1024) (B : Cube 4 1024 1408) (s : Fin 2) (r : Fin 4096) (f : Fin 2816) : EReal :=
  ∑ k, A (ix2 r k) * B (ix3 ⟨s.val * 2 + f.val / 1408, by omega⟩ k ⟨f.val % 1408, by omega⟩)

theorem sideAt_first (A : Mat 4096 1024) (B : Cube 4 1024 1408) (s : Fin 2) (hs : s.val < 1) (r : Fin 4096) (f : Fin 2816) :
    ∑ k, A (ix2 r k) * B (ix3 ⟨f.val / 1408, by omega⟩ k ⟨f.val % 1408, by omega⟩) = sideAt A B s r f :=
  Finset.sum_congr rfl fun k _ => congrArg (fun x => A (ix2 r k) * B x) (ix3_at (by show f.val / 1408 = s.val * 2 + f.val / 1408; omega) rfl)

theorem sideAt_second (A : Mat 4096 1024) (B : Cube 4 1024 1408) (s : Fin 2) (hs : ¬s.val < 1) (r : Fin 4096) (f : Fin 2816) :
    ∑ k, A (ix2 r k) * B (ix3 ⟨(2816 + f.val) / 1408, by omega⟩ k ⟨(2816 + f.val) % 1408, by omega⟩) = sideAt A B s r f :=
  Finset.sum_congr rfl fun k _ => congrArg (fun x => A (ix2 r k) * B x)
    (ix3_at (by show (2816 + f.val) / 1408 = s.val * 2 + f.val / 1408; omega) (by show (2816 + f.val) % 1408 = f.val % 1408; omega))

/-- The two sides, one behind the other. -/
def bothSides (A : Mat 4096 1024) (B : Cube 4 1024 1408) : Cube 2 4096 2816 := fun i => sideAt A B (i 0) (i 1) (i 2)

theorem bothSides_at (A : Mat 4096 1024) (B : Cube 4 1024 1408) {i : (⟨3, ![2, 4096, 2816]⟩ : Shape).Idx} {s : Fin 2} {r : Fin 4096} {f : Fin 2816}
    (h0 : (i 0).val = s.val) (h1 : (i 1).val = r.val) (h2 : (i 2).val = f.val) : sideAt A B s r f = bothSides A B i := by
  obtain rfl : i 0 = s := Fin.ext h0
  obtain rfl : i 1 = r := Fin.ext h1
  obtain rfl : i 2 = f := Fin.ext h2
  rfl

/-- A value times its logistic, times the other. -/
def gated (x y : EReal) : EReal := x * Ideal.div 1 (1 + Ideal.exp (-x)) * y

theorem gated_of (x y : EReal) : x * Ideal.div 1 (1 + Ideal.exp (0 - x)) * y = gated x y := by
  rw [gated, sub_eq_add_neg, zero_add]

/-- The activations. -/
def activated (A : Mat 4096 1024) (B : Cube 4 1024 1408) : Mat 4096 2816 := fun i => gated (sideAt A B 0 (i 0) (i 1)) (sideAt A B 1 (i 0) (i 1))

theorem activated_at (A : Mat 4096 1024) (B : Cube 4 1024 1408) {i : (⟨2, ![4096, 2816]⟩ : Shape).Idx} {r : Fin 4096} {f : Fin 2816}
    (h0 : (i 0).val = r.val) (h1 : (i 1).val = f.val) : gated (sideAt A B 0 r f) (sideAt A B 1 r f) = activated A B i := by
  obtain rfl : i 0 = r := Fin.ext h0
  obtain rfl : i 1 = f := Fin.ext h1
  rfl

/-- The activations, transposed. -/
def activatedT (A : Mat 4096 1024) (B : Cube 4 1024 1408) : Mat 2816 4096 := fun i => gated (sideAt A B 0 (i 1) (i 0)) (sideAt A B 1 (i 1) (i 0))

theorem activatedT_at (A : Mat 4096 1024) (B : Cube 4 1024 1408) {i : (⟨2, ![2816, 4096]⟩ : Shape).Idx} {r : Fin 4096} {f : Fin 2816}
    (h0 : (i 0).val = f.val) (h1 : (i 1).val = r.val) : gated (sideAt A B 0 r f) (sideAt A B 1 r f) = activatedT A B i := by
  obtain rfl : i 0 = f := Fin.ext h0
  obtain rfl : i 1 = r := Fin.ext h1
  rfl

end Cert.Products

end
-- ==== Proof.FfnUp.lean ====
/- The feed-forward part's first two products and its activations, block by block. -/
module

public import proofs.«01_k».proof.Proof.Gen.Kernel18Ideal.Frame
public import proofs.«01_k».proof.Proof.GatedSides
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel18Ideal.Value

open Idealize.ShloMosaic Idealize.ShloMosaic.TcCoe
open Idealize.ShloMosaic.Tactic Idealize.SL.Sem Cert.Kernel18Ideal.Gen
open Idealize.ShloMosaic.Pipeline (Dat)
open Cert.Products

variable (m : (ℓ : Loc nD τ sig) → Buf (Elt Ideal) ℓ) (c : Dev nD)

/-- The normed rows. -/
abbrev rows : Mat 4096 1024 := m (c, main_arg0)

/-- The two sides' weights, in four blocks of columns. -/
abbrev weights : Cube 4 1024 1408 := m (c, main_arg1)

theorem idx_val : ∀ t : Fin cfg0.N,
    win0_0.index t = ![t.val / 2, 0] ∧ win0_1.index t = ![t.val % 2, 0, 0] ∧ win0_2.index t = ![2 + t.val % 2, 0, 0] ∧ win0_3.index t = ![0, t.val / 2, t.val % 2] ∧ win0_4.index t = ![t.val / 2, t.val % 2] ∧ win0_5.index t = ![t.val % 2, t.val / 2] :=
  (by decide +kernel : ∀ t : Fin grid0.N, _)

/-- A row of a point's block. -/
abbrev row (t : Fin cfg0.N) (a : Fin 512) : Fin 4096 := ⟨t.val / 2 * 512 + a.val, by have : t.val < 16 := t.isLt; omega⟩

/-- A column of a point's block. -/
abbrev col (t : Fin cfg0.N) (b : Fin 1408) : Fin 2816 := ⟨t.val % 2 * 1408 + b.val, by omega⟩

theorem rows_read (t : Fin cfg0.N) (a : Fin 512) (k : Fin 1024) : iblk m c 0 t (ix2 a k) = rows m c (ix2 (row t a) k) := by
  blk_ext [iblk, V, idx_val t]

theorem first_read (t : Fin cfg0.N) (k : Fin 1024) (b : Fin 1408) : iblk m c 1 t (ix3 0 k b) = weights m c (ix3 ⟨t.val % 2, by omega⟩ k b) := by
  blk_ext [iblk, V, idx_val t]

theorem second_read (t : Fin cfg0.N) (k : Fin 1024) (b : Fin 1408) : iblk m c 2 t (ix3 0 k b) = weights m c (ix3 ⟨2 + t.val % 2, by omega⟩ k b) := by
  blk_ext [iblk, V, idx_val t]

/-- The first factor of a block's terms. -/
abbrev blockRow (t : Fin cfg0.N) (a : Fin 512) (k : Fin 1024) : EReal := iblk m c 0 t (ix2 a k)

/-- The second factor of the first side's terms. -/
abbrev blockFirst (t : Fin cfg0.N) (b : Fin 1408) (k : Fin 1024) : EReal := iblk m c 1 t (ix3 0 k b)

/-- The second factor of the second side's terms. -/
abbrev blockSecond (t : Fin cfg0.N) (b : Fin 1408) (k : Fin 1024) : EReal := iblk m c 2 t (ix3 0 k b)

/-- An entry of the first side, by the blocks. -/
theorem first_of (t : Fin cfg0.N) (a : Fin 512) (b : Fin 1408) :
    ∑ k : Fin 1024, blockRow m c t a k * blockFirst m c t b k = sideAt (rows m c) (weights m c) 0 (row t a) (col t b) :=
  Finset.sum_congr rfl fun k _ => congrArg₂ (· * ·) (rows_read m c t a k) ((first_read m c t k b).trans (congrArg (weights m c)
    (ix3_at (by show t.val % 2 = 0 * 2 + (t.val % 2 * 1408 + b.val) / 1408; omega) (by show b.val = (t.val % 2 * 1408 + b.val) % 1408; omega))))

/-- An entry of the second side, by the blocks. -/
theorem second_of (t : Fin cfg0.N) (a : Fin 512) (b : Fin 1408) :
    ∑ k : Fin 1024, blockRow m c t a k * blockSecond m c t b k = sideAt (rows m c) (weights m c) 1 (row t a) (col t b) :=
  Finset.sum_congr rfl fun k _ => congrArg₂ (· * ·) (rows_read m c t a k) ((second_read m c t k b).trans (congrArg (weights m c)
    (ix3_at (by show 2 + t.val % 2 = 1 * 2 + (t.val % 2 * 1408 + b.val) / 1408; omega) (by show b.val = (t.val % 2 * 1408 + b.val) % 1408; omega))))

theorem sideAt_at {s s' : Fin 2} {a a' : Fin 512} {b b' : Fin 1408} (t : Fin cfg0.N) (hs : s.val = s'.val) (ha : a.val = a'.val) (hb : b.val = b'.val) :
    sideAt (rows m c) (weights m c) s (row t a) (col t b) = sideAt (rows m c) (weights m c) s' (row t a') (col t b') := by
  rw [Fin.ext hs, Fin.ext ha, Fin.ext hb]

/-- The sides a point writes out. -/
theorem sides_eq (t : Fin cfg0.N) (y : S2x512x1408.Idx) : out0_3 (iblk m c 0 t) (iblk m c 1 t) (iblk m c 2 t) y = sideAt (rows m c) (weights m c) (y 0) (row t (y 1)) (col t (y 2)) := by
  unfold out0_3
  canon_tiles x h
  all_goals
    open_payloads
    pointwise
  · exact (second_of m c t _ _).trans (sideAt_at m c t (by show 1 = (y 0).val; omega) h1.symm h2.symm)
  · exact (first_of m c t _ _).trans (sideAt_at m c t (by show 0 = (y 0).val; omega) h1.symm h2.symm)

/-- The activations a point writes out. -/
theorem act_eq (t : Fin cfg0.N) (y : S512x1408.Idx) : out0_4 (iblk m c 0 t) (iblk m c 1 t) (iblk m c 2 t) y = gated (sideAt (rows m c) (weights m c) 0 (row t (y 0)) (col t (y 1))) (sideAt (rows m c) (weights m c) 1 (row t (y 0)) (col t (y 1))) := by
  frame_out
  open_payloads
  pointwise
  exact (gated_of _ _).trans (congrArg₂ gated (first_of m c t _ _) (second_of m c t _ _))

/-- The transposed activations a point writes out. -/
theorem actT_eq (t : Fin cfg0.N) (y : S1408x512.Idx) : out0_5 (iblk m c 0 t) (iblk m c 1 t) (iblk m c 2 t) y = gated (sideAt (rows m c) (weights m c) 0 (row t (y 1)) (col t (y 0))) (sideAt (rows m c) (weights m c) 1 (row t (y 1)) (col t (y 0))) := by
  frame_out
  open_payloads
  pointwise
  exact (gated_of _ _).trans (congrArg₂ gated (first_of m c t _ _) (second_of m c t _ _))

/-- The sides after the run. -/
theorem final_sides : (dats m 0 c).arrAt 3 cfg0.N = bothSides (rows m c) (weights m c) := by
  refine (dats m 0 c).arrAt_eq_of_covers 3 _ (by decide +kernel) fun t _ y => ?_
  blk_simp
  rw [after0_3]
  refine (sides_eq m c t y).trans (bothSides_at (rows m c) (weights m c) ?_ ?_ ?_) <;> blk_simp [idx_val t]

/-- The activations after the run. -/
theorem final_act : (dats m 0 c).arrAt 4 cfg0.N = activated (rows m c) (weights m c) := by
  refine (dats m 0 c).arrAt_eq_of_covers 4 _ (by decide +kernel) fun t _ y => ?_
  blk_simp
  rw [after0_4]
  refine (act_eq m c t y).trans (activated_at (rows m c) (weights m c) ?_ ?_) <;> blk_simp [idx_val t]

/-- The transposed activations after the run. -/
theorem final_actT : (dats m 0 c).arrAt 5 cfg0.N = activatedT (rows m c) (weights m c) := by
  refine (dats m 0 c).arrAt_eq_of_covers 5 _ (by decide +kernel) fun t _ y => ?_
  blk_simp
  rw [after0_5]
  refine (actT_eq m c t y).trans (activatedT_at (rows m c) (weights m c) ?_ ?_) <;> blk_simp [idx_val t]

end Cert.Kernel18Ideal.Value

end
-- ==== Proof.FfnUpReference.lean ====
/- The reference's two sides and their activations are the same sums. -/
module

public import proofs.«01_k».proof.Proof.Gen.Reference18Ideal.Run
public import proofs.«01_k».proof.Proof.GatedSides

@[expose] public section

set_option maxRecDepth 16384

noncomputable section

namespace Cert.Reference18Ideal.Value

open Idealize.ShloMosaic Idealize.ShloMosaic.TcCoe Cert.Reference18Ideal.Gen
open Cert.Products

variable (X : FVec Ideal S4096x1024 .bf16) (W : FVec Ideal S4x1024x1408 .bf16)

theorem sides : (truncf .bf16 (concatenate S2x4096x2816 0 [⟨S1x4096x2816, (broadcastInDim S1x4096x2816 ![1, 2] bcast_S4096x2816_S1x4096x2816_1_2 (extractStridedSlice S4096x2816 ![0, 0] (Host.dotGeneral dot_S4096x1024_S1024x5632_S4096x5632_1_0_0_1_n_n none (extf .f32 X bitsLt_bf16_f32) (extf .f32 (shapeCast _ (transpose S1024x4x1408 [1, 0, 2] W transposes_S4x1024x1408_S1024x4x1408_1_0_2) shapeCasts_S1024x4x1408_S1024x5632) bitsLt_bf16_f32)) slices_S4096x5632_S4096x2816_0_0))⟩, ⟨S1x4096x2816, (broadcastInDim S1x4096x2816 ![1, 2] bcast_S4096x2816_S1x4096x2816_1_2 (extractStridedSlice S4096x2816 ![0, 2816] (Host.dotGeneral dot_S4096x1024_S1024x5632_S4096x5632_1_0_0_1_n_n none (extf .f32 X bitsLt_bf16_f32) (extf .f32 (shapeCast _ (transpose S1024x4x1408 [1, 0, 2] W transposes_S4x1024x1408_S1024x4x1408_1_0_2) shapeCasts_S1024x4x1408_S1024x5632) bitsLt_bf16_f32)) slices_S4096x5632_S4096x2816_0_2816))⟩] concatenates_S1x4096x2816_S1x4096x2816_S2x4096x2816_d0) bitsLt_bf16_f32 : FVec Ideal S2x4096x2816 .bf16) = bothSides X W := by
  funext i
  pointwise
  split
  · exact sideAt_first X W (i 0) (by assumption) (i 1) (i 2)
  · exact sideAt_second X W (i 0) (by assumption) (i 1) (i 2)

theorem act : (truncf .bf16 (mulf (mulf (extractStridedSlice S4096x2816 ![0, 0] (Host.dotGeneral dot_S4096x1024_S1024x5632_S4096x5632_1_0_0_1_n_n none (extf .f32 X bitsLt_bf16_f32) (extf .f32 (shapeCast _ (transpose S1024x4x1408 [1, 0, 2] W transposes_S4x1024x1408_S1024x4x1408_1_0_2) shapeCasts_S1024x4x1408_S1024x5632) bitsLt_bf16_f32)) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (Host.dotGeneral dot_S4096x1024_S1024x5632_S4096x5632_1_0_0_1_n_n none (extf .f32 X bitsLt_bf16_f32) (extf .f32 (shapeCast _ (transpose S1024x4x1408 [1, 0, 2] W transposes_S4x1024x1408_S1024x4x1408_1_0_2) shapeCasts_S1024x4x1408_S1024x5632) bitsLt_bf16_f32)) slices_S4096x5632_S4096x2816_0_0)))))) (extractStridedSlice S4096x2816 ![0, 2816] (Host.dotGeneral dot_S4096x1024_S1024x5632_S4096x5632_1_0_0_1_n_n none (extf .f32 X bitsLt_bf16_f32) (extf .f32 (shapeCast _ (transpose S1024x4x1408 [1, 0, 2] W transposes_S4x1024x1408_S1024x4x1408_1_0_2) shapeCasts_S1024x4x1408_S1024x5632) bitsLt_bf16_f32)) slices_S4096x5632_S4096x2816_0_2816)) bitsLt_bf16_f32 : FVec Ideal S4096x2816 .bf16) = activated X W := by
  funext i
  pointwise
  exact congrArg₂ gated (sideAt_first X W 0 (by decide) (i 0) (i 1)) (sideAt_second X W 1 (by decide) (i 0) (i 1))

theorem actT : (transpose S2816x4096 [1, 0] (truncf .bf16 (mulf (mulf (extractStridedSlice S4096x2816 ![0, 0] (Host.dotGeneral dot_S4096x1024_S1024x5632_S4096x5632_1_0_0_1_n_n none (extf .f32 X bitsLt_bf16_f32) (extf .f32 (shapeCast _ (transpose S1024x4x1408 [1, 0, 2] W transposes_S4x1024x1408_S1024x4x1408_1_0_2) shapeCasts_S1024x4x1408_S1024x5632) bitsLt_bf16_f32)) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (Host.dotGeneral dot_S4096x1024_S1024x5632_S4096x5632_1_0_0_1_n_n none (extf .f32 X bitsLt_bf16_f32) (extf .f32 (shapeCast _ (transpose S1024x4x1408 [1, 0, 2] W transposes_S4x1024x1408_S1024x4x1408_1_0_2) shapeCasts_S1024x4x1408_S1024x5632) bitsLt_bf16_f32)) slices_S4096x5632_S4096x2816_0_0)))))) (extractStridedSlice S4096x2816 ![0, 2816] (Host.dotGeneral dot_S4096x1024_S1024x5632_S4096x5632_1_0_0_1_n_n none (extf .f32 X bitsLt_bf16_f32) (extf .f32 (shapeCast _ (transpose S1024x4x1408 [1, 0, 2] W transposes_S4x1024x1408_S1024x4x1408_1_0_2) shapeCasts_S1024x4x1408_S1024x5632) bitsLt_bf16_f32)) slices_S4096x5632_S4096x2816_0_2816)) bitsLt_bf16_f32) transposes_S4096x2816_S2816x4096_1_0 : FVec Ideal S2816x4096 .bf16) = activatedT X W := by
  funext i
  pointwise
  exact congrArg₂ gated (sideAt_first X W 0 (by decide) (i 1) (i 0)) (sideAt_second X W 1 (by decide) (i 1) (i 0))

end Cert.Reference18Ideal.Value

end
-- ==== Proof.lean ====
/- The proof of the claims: the scan of the gated delta rule, forward and backward, and the products of the step, each with its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.BackKernel
public import proofs.«01_k».proof.Proof.BackReference
public import proofs.«01_k».proof.Proof.BackFinite
public import proofs.«01_k».proof.Proof.FwdKernel
public import proofs.«01_k».proof.Proof.FwdReference
public import Idealize.ShloMosaic.Lib.Claim
public import Idealize.ShloMosaic.Adequacy
public import Idealize.ShloMosaic.Init
public import proofs.«01_k».proof.Proof.ProjDu
public import proofs.«01_k».proof.Proof.ProjDuReference
public import proofs.«01_k».proof.Proof.ProjDw
public import proofs.«01_k».proof.Proof.ProjDwReference
public import proofs.«01_k».proof.Proof.FfnDwin
public import proofs.«01_k».proof.Proof.FfnDwinReference
public import proofs.«01_k».proof.Proof.FfnDxn
public import proofs.«01_k».proof.Proof.FfnDxnReference
public import proofs.«01_k».proof.Proof.FfnDwout
public import proofs.«01_k».proof.Proof.FfnDwoutReference
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Proj
public import proofs.«01_k».proof.Proof.ProjReference
public import proofs.«01_k».proof.Proof.HgrnBranch
public import proofs.«01_k».proof.Proof.HgrnBranchReference
public import proofs.«01_k».proof.Proof.GdnBranch
public import proofs.«01_k».proof.Proof.GdnBranchReference
public import proofs.«01_k».proof.Proof.HgrnDx
public import proofs.«01_k».proof.Proof.HgrnDxReference
public import proofs.«01_k».proof.Proof.HgrnDw
public import proofs.«01_k».proof.Proof.HgrnDwReference
public import proofs.«01_k».proof.Proof.GdnDx
public import proofs.«01_k».proof.Proof.GdnDxReference
public import proofs.«01_k».proof.Proof.GdnDw
public import proofs.«01_k».proof.Proof.GdnDwReference
public import proofs.«01_k».proof.Proof.MixOut
public import proofs.«01_k».proof.Proof.MixOutReference
public import proofs.«01_k».proof.Proof.MixOutDw
public import proofs.«01_k».proof.Proof.MixOutDwReference
public import proofs.«01_k».proof.Proof.FfnDown
public import proofs.«01_k».proof.Proof.FfnDownReference
public import proofs.«01_k».proof.Proof.FfnUp
public import proofs.«01_k».proof.Proof.FfnUpReference

@[expose] public section

noncomputable section

namespace Cert.Proof

open Idealize.ShloMosaic Idealize.SL.Sem Cert.Scan

/-- Equal arguments give equal values. -/
theorem congrArg₆ {A B C D E G H : Type} (f : A → B → C → D → E → G → H) {a a' : A} {b b' : B} {c c' : C} {d d' : D} {e e' : E} {g g' : G}
    (h0 : a = a') (h1 : b = b') (h2 : c = c') (h3 : d = d') (h4 : e = e') (h5 : g = g') : f a b c d e g = f a' b' c' d' e' g' := by
  rw [h0, h1, h2, h3, h4, h5]

/-- Equal arguments give equal values. -/
theorem congrArg₈ {A B C D E G I J H : Type} (f : A → B → C → D → E → G → I → J → H) {a a' : A} {b b' : B} {c c' : C} {d d' : D} {e e' : E}
    {g g' : G} {i i' : I} {j j' : J} (h0 : a = a') (h1 : b = b') (h2 : c = c') (h3 : d = d') (h4 : e = e') (h5 : g = g') (h6 : i = i')
    (h7 : j = j') : f a b c d e g i j = f a' b' c' d' e' g' i' j' := by
  rw [h0, h1, h2, h3, h4, h5, h6, h7]

/-- The backward reference runs, keeps its arguments, and has no counter to leave. -/
theorem frame_reference : Cert.quiescent_ReferenceIdeal := by
  intro m ρ _
  refine (θ_run Cert.ReferenceIdeal.defs _ _).mono (fun r h => ⟨fun c => ?_, sem_eq_zero_of_no_sems (by decide) r.2⟩)
    (Cert.ReferenceIdeal.Value.run m ρ)
  obtain ⟨_, _, _, _, _, _, h⟩ := h c
  exact h

/-- The same, of the memories the precondition picks. -/
theorem frame_reference_finite : Cert.quiescent_ReferenceIdeal_pre_finite := fun m ρ _ => frame_reference m ρ trivial

/-- The forward reference runs, keeps its arguments, and has no counter to leave. -/
theorem frame_reference2 : Cert.quiescent_Reference2Ideal := by
  intro m ρ _
  refine (θ_run Cert.Reference2Ideal.defs _ _).mono (fun r h => ⟨fun c => ?_, sem_eq_zero_of_no_sems (by decide) r.2⟩)
    (Cert.Reference2Ideal.Value.run m ρ)
  obtain ⟨_, _, _, h⟩ := h c
  exact h

/-- The forward kernel and the forward reference end with the same outputs, new values and states. -/
theorem forward_equal : Cert.algebraic_Kernel2Ideal_Reference2Ideal := by
  intro m g m' g' _ hagree
  have hops : ∀ c, Cert.Reference2Ideal.Value.refOps m' c = Cert.Kernel2Ideal.Value.kops m c := fun c => by
    obtain ⟨h0, h1, h2, h3, h4, h5⟩ := hagree c
    exact congrArg₆ ops h0 h1 h2 h3 h4 h5
  refine ⟨fun c => outs (Cert.Kernel2Ideal.Value.kops m c), fun c => vnews (Cert.Kernel2Ideal.Value.kops m c),
    fun c => states (Cert.Kernel2Ideal.Value.kops m c), ?_, ?_⟩
  · run_from Cert.Kernel2Ideal.Gen.run_main m g
    · exact Cert.Kernel2Ideal.Value.final_outs m _
    · exact Cert.Kernel2Ideal.Value.final_vnews m _
    · exact Cert.Kernel2Ideal.Value.final_states m _
  · refine (θ_run Cert.Reference2Ideal.defs _ _).mono (fun r h c => ?_) (Cert.Reference2Ideal.Value.run m' g')
    obtain ⟨h0, h1, h2, hk⟩ := h c
    refine ⟨h0.trans ?_, h1.trans ?_, h2.trans ?_, hk⟩
    · exact (Cert.Reference2Ideal.Value.result_outs m' c).trans (congrArg outs (hops c))
    · exact (Cert.Reference2Ideal.Value.result_vnews m' c).trans (congrArg vnews (hops c))
    · exact (Cert.Reference2Ideal.Value.result_states m' c).trans (congrArg states (hops c))

set_option maxHeartbeats 4000000 in
/-- From arguments without infinities, the backward kernel and the gradient of the forward reference end with the same six gradients. -/
theorem backward_equal : Cert.algebraic_KernelIdeal_ReferenceIdeal_pre_finite := by
  intro m g m' g' hfin hagree
  have hops : ∀ c, Cert.ReferenceIdeal.Value.rback m' c = Cert.KernelIdeal.Value.kback m c := fun c => by
    obtain ⟨h0, h1, h2, h3, h4, h5, h6, h7⟩ := hagree c
    exact congrArg₈ back h0 h1 h2 h3 h4 h5 h6 h7
  have hb : ∀ c, Finite (Cert.ReferenceIdeal.Value.rback m' c) := fun c => (hops c).symm ▸ finite_of m hfin c
  refine ⟨fun c => dus (Cert.KernelIdeal.Value.kback m c), fun c => dws (Cert.KernelIdeal.Value.kback m c),
    fun c => dqgs (Cert.KernelIdeal.Value.kback m c), fun c => dkes (Cert.KernelIdeal.Value.kback m c),
    fun c => dqks (Cert.KernelIdeal.Value.kback m c), fun c => ddecs (Cert.KernelIdeal.Value.kback m c), ?_, ?_⟩
  · run_from Cert.KernelIdeal.Gen.run_main m g
    · exact Cert.KernelIdeal.Value.final_du m _
    · exact Cert.KernelIdeal.Value.final_dw m _
    · exact Cert.KernelIdeal.Value.final_dqg m _
    · exact Cert.KernelIdeal.Value.final_dke m _
    · exact Cert.KernelIdeal.Value.final_dqk m _
    · exact Cert.KernelIdeal.Value.final_ddec m _
  · refine (θ_run Cert.ReferenceIdeal.defs _ _).mono (fun r h c => ?_) (Cert.ReferenceIdeal.Value.run m' g')
    obtain ⟨h0, h1, h2, h3, h4, h5, hk⟩ := h c
    refine ⟨h0.trans ?_, h1.trans ?_, h2.trans ?_, h3.trans ?_, h4.trans ?_, h5.trans ?_, hk⟩
    · exact (Cert.ReferenceIdeal.Value.result_du m' c (hb c)).trans (congrArg dus (hops c))
    · exact (Cert.ReferenceIdeal.Value.result_dw m' c (hb c)).trans (congrArg dws (hops c))
    · exact (Cert.ReferenceIdeal.Value.result_dqg m' c (hb c)).trans (congrArg dqgs (hops c))
    · exact (Cert.ReferenceIdeal.Value.result_dke m' c (hb c)).trans (congrArg dkes (hops c))
    · exact (Cert.ReferenceIdeal.Value.result_dqk m' c (hb c)).trans (congrArg dqks (hops c))
    · exact (Cert.ReferenceIdeal.Value.result_ddec m' c (hb c)).trans (congrArg ddecs (hops c))

theorem frame_reference3 : Cert.quiescent_Reference3Ideal := by
  intro m ρ _
  refine (θ_run Cert.Reference3Ideal.defs _ _).mono (fun r h => ⟨fun c => ?_, sem_eq_zero_of_no_sems (by decide) r.2⟩)
    (Cert.Reference3Ideal.Value.run m ρ)
  obtain ⟨_, h⟩ := h c
  exact h

/-- The gradient of the projection's input: the kernel and the reference end with the same sums. -/
theorem equal3 : Cert.algebraic_Kernel3Ideal_Reference3Ideal := by
  intro m g m' g' _ hagree
  refine ⟨fun c => Products.rowsByRows (Cert.Kernel3Ideal.Value.dproj m c) (Cert.Kernel3Ideal.Value.weights m c), ?_, ?_⟩
  · run_from Cert.Kernel3Ideal.Gen.run_main m g
    exact Cert.Kernel3Ideal.Value.final m _
  · refine (θ_run Cert.Reference3Ideal.defs _ _).mono (fun r h c => ?_) (Cert.Reference3Ideal.Value.run m' g')
    obtain ⟨h0, hk⟩ := h c
    obtain ⟨e0, e1⟩ := hagree c
    exact ⟨h0.trans ((Cert.Reference3Ideal.Value.result _ _).trans (congrArg₂ Products.rowsByRows e0 e1)), hk⟩

theorem frame_reference4 : Cert.quiescent_Reference4Ideal := by
  intro m ρ _
  refine (θ_run Cert.Reference4Ideal.defs _ _).mono (fun r h => ⟨fun c => ?_, sem_eq_zero_of_no_sems (by decide) r.2⟩)
    (Cert.Reference4Ideal.Value.run m ρ)
  obtain ⟨_, h⟩ := h c
  exact h

/-- The gradient of the projection's weights: the kernel and the reference end with the same sums. -/
theorem equal4 : Cert.algebraic_Kernel4Ideal_Reference4Ideal := by
  intro m g m' g' _ hagree
  refine ⟨fun c => Products.colsByCols (Cert.Kernel4Ideal.Value.normed m c) (Cert.Kernel4Ideal.Value.dproj m c), ?_, ?_⟩
  · run_from Cert.Kernel4Ideal.Gen.run_main m g
    exact Cert.Kernel4Ideal.Value.final m _
  · refine (θ_run Cert.Reference4Ideal.defs _ _).mono (fun r h c => ?_) (Cert.Reference4Ideal.Value.run m' g')
    obtain ⟨h0, hk⟩ := h c
    obtain ⟨e0, e1⟩ := hagree c
    exact ⟨h0.trans ((Cert.Reference4Ideal.Value.result _ _).trans (congrArg₂ Products.colsByCols e0 e1)), hk⟩

theorem frame_reference5 : Cert.quiescent_Reference5Ideal := by
  intro m ρ _
  refine (θ_run Cert.Reference5Ideal.defs _ _).mono (fun r h => ⟨fun c => ?_, sem_eq_zero_of_no_sems (by decide) r.2⟩)
    (Cert.Reference5Ideal.Value.run m ρ)
  obtain ⟨_, h⟩ := h c
  exact h

/-- The gradient of the feed-forward part's first weights: the kernel and the reference end with the same sums. -/
theorem equal5 : Cert.algebraic_Kernel5Ideal_Reference5Ideal := by
  intro m g m' g' _ hagree
  refine ⟨fun c => Products.sidesWeights (Cert.Kernel5Ideal.Value.normed m c) (Cert.Kernel5Ideal.Value.dsides m c), ?_, ?_⟩
  · run_from Cert.Kernel5Ideal.Gen.run_main m g
    exact Cert.Kernel5Ideal.Value.final m _
  · refine (θ_run Cert.Reference5Ideal.defs _ _).mono (fun r h c => ?_) (Cert.Reference5Ideal.Value.run m' g')
    obtain ⟨h0, hk⟩ := h c
    obtain ⟨e0, e1⟩ := hagree c
    exact ⟨h0.trans ((Cert.Reference5Ideal.Value.result _ _).trans (congrArg₂ Products.sidesWeights e0 e1)), hk⟩

theorem frame_reference6 : Cert.quiescent_Reference6Ideal := by
  intro m ρ _
  refine (θ_run Cert.Reference6Ideal.defs _ _).mono (fun r h => ⟨fun c => ?_, sem_eq_zero_of_no_sems (by decide) r.2⟩)
    (Cert.Reference6Ideal.Value.run m ρ)
  obtain ⟨_, h⟩ := h c
  exact h

/-- The gradient of the feed-forward part's normed input: the kernel and the reference end with the same sums. -/
theorem equal6 : Cert.algebraic_Kernel6Ideal_Reference6Ideal := by
  intro m g m' g' _ hagree
  refine ⟨fun c => Products.sidesInput (Cert.Kernel6Ideal.Value.dsides m c) (Cert.Kernel6Ideal.Value.weights m c), ?_, ?_⟩
  · run_from Cert.Kernel6Ideal.Gen.run_main m g
    exact Cert.Kernel6Ideal.Value.final m _
  · refine (θ_run Cert.Reference6Ideal.defs _ _).mono (fun r h c => ?_) (Cert.Reference6Ideal.Value.run m' g')
    obtain ⟨h0, hk⟩ := h c
    obtain ⟨e0, e1⟩ := hagree c
    exact ⟨h0.trans ((Cert.Reference6Ideal.Value.result _ _).trans (congrArg₂ Products.sidesInput e0 e1)), hk⟩

theorem frame_reference7 : Cert.quiescent_Reference7Ideal := by
  intro m ρ _
  refine (θ_run Cert.Reference7Ideal.defs _ _).mono (fun r h => ⟨fun c => ?_, sem_eq_zero_of_no_sems (by decide) r.2⟩)
    (Cert.Reference7Ideal.Value.run m ρ)
  obtain ⟨_, h⟩ := h c
  exact h

/-- The gradient of the feed-forward part's second weights: the kernel and the reference end with the same sums. -/
theorem equal7 : Cert.algebraic_Kernel7Ideal_Reference7Ideal := by
  intro m g m' g' _ hagree
  refine ⟨fun c => Products.halfColsByCols (Cert.Kernel7Ideal.Value.act m c) (Cert.Kernel7Ideal.Value.dh m c), ?_, ?_⟩
  · run_from Cert.Kernel7Ideal.Gen.run_main m g
    exact Cert.Kernel7Ideal.Value.final m _
  · refine (θ_run Cert.Reference7Ideal.defs _ _).mono (fun r h c => ?_) (Cert.Reference7Ideal.Value.run m' g')
    obtain ⟨h0, hk⟩ := h c
    obtain ⟨e0, e1⟩ := hagree c
    exact ⟨h0.trans ((Cert.Reference7Ideal.Value.result _ _).trans (congrArg₂ Products.halfColsByCols e0 e1)), hk⟩

theorem frame_reference8 : Cert.quiescent_Reference8Ideal := by
  intro m ρ _
  refine (θ_run Cert.Reference8Ideal.defs _ _).mono (fun r h => ⟨fun c => ?_, sem_eq_zero_of_no_sems (by decide) r.2⟩)
    (Cert.Reference8Ideal.Value.run m ρ)
  obtain ⟨_, h⟩ := h c
  exact h

/-- The mixer's projection: the kernel and the reference end with the same sums. -/
theorem equal8 : Cert.algebraic_Kernel8Ideal_Reference8Ideal := by
  intro m g m' g' _ hagree
  refine ⟨fun c => Products.rowsByCols (Cert.Kernel8Ideal.Value.normed m c) (Cert.Kernel8Ideal.Value.weights m c), ?_, ?_⟩
  · run_from Cert.Kernel8Ideal.Gen.run_main m g
    exact Cert.Kernel8Ideal.Value.final m _
  · refine (θ_run Cert.Reference8Ideal.defs _ _).mono (fun r h c => ?_) (Cert.Reference8Ideal.Value.run m' g')
    obtain ⟨h0, hk⟩ := h c
    obtain ⟨e0, e1⟩ := hagree c
    exact ⟨h0.trans ((Cert.Reference8Ideal.Value.result _ _).trans (congrArg₂ Products.rowsByCols e0 e1)), hk⟩

theorem frame_reference9 : Cert.quiescent_Reference9Ideal := by
  intro m ρ _
  refine (θ_run Cert.Reference9Ideal.defs _ _).mono (fun r h => ⟨fun c => ?_, sem_eq_zero_of_no_sems (by decide) r.2⟩)
    (Cert.Reference9Ideal.Value.run m ρ)
  obtain ⟨_, h⟩ := h c
  exact h

/-- The first branch's product: the kernel and the reference end with the same sums. -/
theorem equal9 : Cert.algebraic_Kernel9Ideal_Reference9Ideal := by
  intro m g m' g' _ hagree
  refine ⟨fun c => Products.rowsByCols (Cert.Kernel9Ideal.Value.branch m c) (Cert.Kernel9Ideal.Value.weights m c), ?_, ?_⟩
  · run_from Cert.Kernel9Ideal.Gen.run_main m g
    exact Cert.Kernel9Ideal.Value.final m _
  · refine (θ_run Cert.Reference9Ideal.defs _ _).mono (fun r h c => ?_) (Cert.Reference9Ideal.Value.run m' g')
    obtain ⟨h0, hk⟩ := h c
    obtain ⟨e0, e1⟩ := hagree c
    exact ⟨h0.trans ((Cert.Reference9Ideal.Value.result _ _).trans (congrArg₂ Products.rowsByCols e0 e1)), hk⟩

theorem frame_reference10 : Cert.quiescent_Reference10Ideal := by
  intro m ρ _
  refine (θ_run Cert.Reference10Ideal.defs _ _).mono (fun r h => ⟨fun c => ?_, sem_eq_zero_of_no_sems (by decide) r.2⟩)
    (Cert.Reference10Ideal.Value.run m ρ)
  obtain ⟨_, h⟩ := h c
  exact h

/-- The second branch's product: the kernel and the reference end with the same sums. -/
theorem equal10 : Cert.algebraic_Kernel10Ideal_Reference10Ideal := by
  intro m g m' g' _ hagree
  refine ⟨fun c => Products.rowsByCols (Cert.Kernel10Ideal.Value.branch m c) (Cert.Kernel10Ideal.Value.weights m c), ?_, ?_⟩
  · run_from Cert.Kernel10Ideal.Gen.run_main m g
    exact Cert.Kernel10Ideal.Value.final m _
  · refine (θ_run Cert.Reference10Ideal.defs _ _).mono (fun r h c => ?_) (Cert.Reference10Ideal.Value.run m' g')
    obtain ⟨h0, hk⟩ := h c
    obtain ⟨e0, e1⟩ := hagree c
    exact ⟨h0.trans ((Cert.Reference10Ideal.Value.result _ _).trans (congrArg₂ Products.rowsByCols e0 e1)), hk⟩

theorem frame_reference11 : Cert.quiescent_Reference11Ideal := by
  intro m ρ _
  refine (θ_run Cert.Reference11Ideal.defs _ _).mono (fun r h => ⟨fun c => ?_, sem_eq_zero_of_no_sems (by decide) r.2⟩)
    (Cert.Reference11Ideal.Value.run m ρ)
  obtain ⟨_, h⟩ := h c
  exact h

/-- The gradient of the first branch's input: the kernel and the reference end with the same sums. -/
theorem equal11 : Cert.algebraic_Kernel11Ideal_Reference11Ideal := by
  intro m g m' g' _ hagree
  refine ⟨fun c => Products.rowsByRows (Cert.Kernel11Ideal.Value.dbranch m c) (Cert.Kernel11Ideal.Value.weights m c), ?_, ?_⟩
  · run_from Cert.Kernel11Ideal.Gen.run_main m g
    exact Cert.Kernel11Ideal.Value.final m _
  · refine (θ_run Cert.Reference11Ideal.defs _ _).mono (fun r h c => ?_) (Cert.Reference11Ideal.Value.run m' g')
    obtain ⟨h0, hk⟩ := h c
    obtain ⟨e0, e1⟩ := hagree c
    exact ⟨h0.trans ((Cert.Reference11Ideal.Value.result _ _).trans (congrArg₂ Products.rowsByRows e0 e1)), hk⟩

theorem frame_reference12 : Cert.quiescent_Reference12Ideal := by
  intro m ρ _
  refine (θ_run Cert.Reference12Ideal.defs _ _).mono (fun r h => ⟨fun c => ?_, sem_eq_zero_of_no_sems (by decide) r.2⟩)
    (Cert.Reference12Ideal.Value.run m ρ)
  obtain ⟨_, h⟩ := h c
  exact h

/-- The gradient of the first branch's weights: the kernel and the reference end with the same sums. -/
theorem equal12 : Cert.algebraic_Kernel12Ideal_Reference12Ideal := by
  intro m g m' g' _ hagree
  refine ⟨fun c => Products.colsByCols (Cert.Kernel12Ideal.Value.branch m c) (Cert.Kernel12Ideal.Value.dproduct m c), ?_, ?_⟩
  · run_from Cert.Kernel12Ideal.Gen.run_main m g
    exact Cert.Kernel12Ideal.Value.final m _
  · refine (θ_run Cert.Reference12Ideal.defs _ _).mono (fun r h c => ?_) (Cert.Reference12Ideal.Value.run m' g')
    obtain ⟨h0, hk⟩ := h c
    obtain ⟨e0, e1⟩ := hagree c
    exact ⟨h0.trans ((Cert.Reference12Ideal.Value.result _ _).trans (congrArg₂ Products.colsByCols e0 e1)), hk⟩

theorem frame_reference13 : Cert.quiescent_Reference13Ideal := by
  intro m ρ _
  refine (θ_run Cert.Reference13Ideal.defs _ _).mono (fun r h => ⟨fun c => ?_, sem_eq_zero_of_no_sems (by decide) r.2⟩)
    (Cert.Reference13Ideal.Value.run m ρ)
  obtain ⟨_, h⟩ := h c
  exact h

/-- The gradient of the second branch's input: the kernel and the reference end with the same sums. -/
theorem equal13 : Cert.algebraic_Kernel13Ideal_Reference13Ideal := by
  intro m g m' g' _ hagree
  refine ⟨fun c => Products.rowsByRows (Cert.Kernel13Ideal.Value.dbranch m c) (Cert.Kernel13Ideal.Value.weights m c), ?_, ?_⟩
  · run_from Cert.Kernel13Ideal.Gen.run_main m g
    exact Cert.Kernel13Ideal.Value.final m _
  · refine (θ_run Cert.Reference13Ideal.defs _ _).mono (fun r h c => ?_) (Cert.Reference13Ideal.Value.run m' g')
    obtain ⟨h0, hk⟩ := h c
    obtain ⟨e0, e1⟩ := hagree c
    exact ⟨h0.trans ((Cert.Reference13Ideal.Value.result _ _).trans (congrArg₂ Products.rowsByRows e0 e1)), hk⟩

theorem frame_reference14 : Cert.quiescent_Reference14Ideal := by
  intro m ρ _
  refine (θ_run Cert.Reference14Ideal.defs _ _).mono (fun r h => ⟨fun c => ?_, sem_eq_zero_of_no_sems (by decide) r.2⟩)
    (Cert.Reference14Ideal.Value.run m ρ)
  obtain ⟨_, h⟩ := h c
  exact h

/-- The gradient of the second branch's weights: the kernel and the reference end with the same sums. -/
theorem equal14 : Cert.algebraic_Kernel14Ideal_Reference14Ideal := by
  intro m g m' g' _ hagree
  refine ⟨fun c => Products.colsByCols (Cert.Kernel14Ideal.Value.branch m c) (Cert.Kernel14Ideal.Value.dproduct m c), ?_, ?_⟩
  · run_from Cert.Kernel14Ideal.Gen.run_main m g
    exact Cert.Kernel14Ideal.Value.final m _
  · refine (θ_run Cert.Reference14Ideal.defs _ _).mono (fun r h c => ?_) (Cert.Reference14Ideal.Value.run m' g')
    obtain ⟨h0, hk⟩ := h c
    obtain ⟨e0, e1⟩ := hagree c
    exact ⟨h0.trans ((Cert.Reference14Ideal.Value.result _ _).trans (congrArg₂ Products.colsByCols e0 e1)), hk⟩

theorem frame_reference15 : Cert.quiescent_Reference15Ideal := by
  intro m ρ _
  refine (θ_run Cert.Reference15Ideal.defs _ _).mono (fun r h => ⟨fun c => ?_, sem_eq_zero_of_no_sems (by decide) r.2⟩)
    (Cert.Reference15Ideal.Value.run m ρ)
  obtain ⟨_, h⟩ := h c
  exact h

/-- The mixer's output: the kernel and the reference end with the same sums. -/
theorem equal15 : Cert.algebraic_Kernel15Ideal_Reference15Ideal := by
  intro m g m' g' _ hagree
  refine ⟨fun c => Products.plusProduct (Cert.Kernel15Ideal.Value.residual m c) (Cert.Kernel15Ideal.Value.merged m c) (Cert.Kernel15Ideal.Value.weights m c), ?_, ?_⟩
  · run_from Cert.Kernel15Ideal.Gen.run_main m g
    exact Cert.Kernel15Ideal.Value.final m _
  · refine (θ_run Cert.Reference15Ideal.defs _ _).mono (fun r h c => ?_) (Cert.Reference15Ideal.Value.run m' g')
    obtain ⟨h0, hk⟩ := h c
    obtain ⟨e0, e1, e2⟩ := hagree c
    exact ⟨h0.trans ((Cert.Reference15Ideal.Value.result _ _ _).trans (congr (congrArg₂ Products.plusProduct e2 e0) e1)), hk⟩

theorem frame_reference16 : Cert.quiescent_Reference16Ideal := by
  intro m ρ _
  refine (θ_run Cert.Reference16Ideal.defs _ _).mono (fun r h => ⟨fun c => ?_, sem_eq_zero_of_no_sems (by decide) r.2⟩)
    (Cert.Reference16Ideal.Value.run m ρ)
  obtain ⟨_, h⟩ := h c
  exact h

/-- The gradient of the output's weights: the kernel and the reference end with the same sums. -/
theorem equal16 : Cert.algebraic_Kernel16Ideal_Reference16Ideal := by
  intro m g m' g' _ hagree
  refine ⟨fun c => Products.colsByCols (Cert.Kernel16Ideal.Value.merged m c) (Cert.Kernel16Ideal.Value.dh m c), ?_, ?_⟩
  · run_from Cert.Kernel16Ideal.Gen.run_main m g
    exact Cert.Kernel16Ideal.Value.final m _
  · refine (θ_run Cert.Reference16Ideal.defs _ _).mono (fun r h c => ?_) (Cert.Reference16Ideal.Value.run m' g')
    obtain ⟨h0, hk⟩ := h c
    obtain ⟨e0, e1⟩ := hagree c
    exact ⟨h0.trans ((Cert.Reference16Ideal.Value.result _ _).trans (congrArg₂ Products.colsByCols e0 e1)), hk⟩

theorem frame_reference17 : Cert.quiescent_Reference17Ideal := by
  intro m ρ _
  refine (θ_run Cert.Reference17Ideal.defs _ _).mono (fun r h => ⟨fun c => ?_, sem_eq_zero_of_no_sems (by decide) r.2⟩)
    (Cert.Reference17Ideal.Value.run m ρ)
  obtain ⟨_, h⟩ := h c
  exact h

/-- The feed-forward part's output: the kernel and the reference end with the same sums. -/
theorem equal17 : Cert.algebraic_Kernel17Ideal_Reference17Ideal := by
  intro m g m' g' _ hagree
  refine ⟨fun c => Products.plusHalf (Cert.Kernel17Ideal.Value.residual m c) (Cert.Kernel17Ideal.Value.act m c) (Cert.Kernel17Ideal.Value.weights m c), ?_, ?_⟩
  · run_from Cert.Kernel17Ideal.Gen.run_main m g
    exact Cert.Kernel17Ideal.Value.final m _
  · refine (θ_run Cert.Reference17Ideal.defs _ _).mono (fun r h c => ?_) (Cert.Reference17Ideal.Value.run m' g')
    obtain ⟨h0, hk⟩ := h c
    obtain ⟨e0, e1, e2⟩ := hagree c
    exact ⟨h0.trans ((Cert.Reference17Ideal.Value.result _ _ _).trans (congr (congrArg₂ Products.plusHalf e2 e0) e1)), hk⟩

theorem frame_reference18 : Cert.quiescent_Reference18Ideal := by
  intro m ρ _
  refine (θ_run Cert.Reference18Ideal.defs _ _).mono (fun r h => ⟨fun c => ?_, sem_eq_zero_of_no_sems (by decide) r.2⟩)
    (Cert.Reference18Ideal.Value.run m ρ)
  obtain ⟨_, _, _, h⟩ := h c
  exact h

/-- The feed-forward part's two sides, its activations and those transposed: the kernel and the reference end with the same values. -/
theorem equal18 : Cert.algebraic_Kernel18Ideal_Reference18Ideal := by
  intro m g m' g' _ hagree
  refine ⟨fun c => Products.bothSides (Cert.Kernel18Ideal.Value.rows m c) (Cert.Kernel18Ideal.Value.weights m c),
    fun c => Products.activated (Cert.Kernel18Ideal.Value.rows m c) (Cert.Kernel18Ideal.Value.weights m c),
    fun c => Products.activatedT (Cert.Kernel18Ideal.Value.rows m c) (Cert.Kernel18Ideal.Value.weights m c), ?_, ?_⟩
  · run_from Cert.Kernel18Ideal.Gen.run_main m g
    · exact Cert.Kernel18Ideal.Value.final_sides m _
    · exact Cert.Kernel18Ideal.Value.final_act m _
    · exact Cert.Kernel18Ideal.Value.final_actT m _
  · refine (θ_run Cert.Reference18Ideal.defs _ _).mono (fun r h c => ?_) (Cert.Reference18Ideal.Value.run m' g')
    obtain ⟨h0, h1, h2, hk⟩ := h c
    obtain ⟨e0, e1⟩ := hagree c
    exact ⟨h0.trans ((Cert.Reference18Ideal.Value.sides _ _).trans (congrArg₂ Products.bothSides e0 e1)),
      h1.trans ((Cert.Reference18Ideal.Value.act _ _).trans (congrArg₂ Products.activated e0 e1)),
      h2.trans ((Cert.Reference18Ideal.Value.actT _ _).trans (congrArg₂ Products.activatedT e0 e1)), hk⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts,
  finite_facts, fun m ρ _ => Cert.Kernel.Gen.frame m ρ, fun m ρ _ => Cert.KernelIdeal.Gen.frame m ρ, fun m ρ _ => Cert.KernelIdeal.Gen.frame m ρ,
  frame_reference, frame_reference_finite,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  trivial, backward_equal, trivial, forward_equal, trivial, equal3, trivial, equal4, trivial, equal5, trivial, equal6, trivial, equal7, trivial, equal8, trivial, equal9, trivial, equal10, trivial, equal11, trivial, equal12, trivial, equal13, trivial, equal14, trivial, equal15, trivial, equal16, trivial, equal17, trivial, equal18⟩

end Cert.Proof

end
